-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Mixs (m : (ℓ : Loc Cert.Mixs.nD Cert.Mixs.τ Cert.Mixs.sig) → Buf (Elt Bits) ℓ) : Prop :=
  True

def Pre_MixsIdeal (m : (ℓ : Loc Cert.MixsIdeal.nD Cert.MixsIdeal.τ Cert.MixsIdeal.sig) → Buf (Elt Ideal) ℓ) : Prop :=
  True

def Pre_MixsReferenceIdeal (m : (ℓ : Loc Cert.MixsReferenceIdeal.nD Cert.MixsReferenceIdeal.τ Cert.MixsReferenceIdeal.sig) → Buf (Elt Ideal) ℓ) : Prop :=
  True

def Pre_Moes (m : (ℓ : Loc Cert.Moes.nD Cert.Moes.τ Cert.Moes.sig) → Buf (Elt Bits) ℓ) : Prop :=
  True

def Pre_MoesIdeal (m : (ℓ : Loc Cert.MoesIdeal.nD Cert.MoesIdeal.τ Cert.MoesIdeal.sig) → Buf (Elt Ideal) ℓ) : Prop :=
  True

def Pre_MoesReferenceIdeal (m : (ℓ : Loc Cert.MoesReferenceIdeal.nD Cert.MoesReferenceIdeal.τ Cert.MoesReferenceIdeal.sig) → Buf (Elt Ideal) ℓ) : Prop :=
  True

def Pre_Mixp (m : (ℓ : Loc Cert.Mixp.nD Cert.Mixp.τ Cert.Mixp.sig) → Buf (Elt Bits) ℓ) : Prop :=
  True

def Pre_MixpIdeal (m : (ℓ : Loc Cert.MixpIdeal.nD Cert.MixpIdeal.τ Cert.MixpIdeal.sig) → Buf (Elt Ideal) ℓ) : Prop :=
  True

def Pre_MixpReferenceIdeal (m : (ℓ : Loc Cert.MixpReferenceIdeal.nD Cert.MixpReferenceIdeal.τ Cert.MixpReferenceIdeal.sig) → Buf (Elt Ideal) ℓ) : Prop :=
  True

def Pre_Inprojs (m : (ℓ : Loc Cert.Inprojs.nD Cert.Inprojs.τ Cert.Inprojs.sig) → Buf (Elt Bits) ℓ) : Prop :=
  True

def Pre_InprojsIdeal (m : (ℓ : Loc Cert.InprojsIdeal.nD Cert.InprojsIdeal.τ Cert.InprojsIdeal.sig) → Buf (Elt Ideal) ℓ) : Prop :=
  True

def Pre_InprojsReferenceIdeal (m : (ℓ : Loc Cert.InprojsReferenceIdeal.nD Cert.InprojsReferenceIdeal.τ Cert.InprojsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9)
      ∧ r.2.mem ((c.tc : Thread Cert.OutprojReferenceIdeal.nD Cert.OutprojReferenceIdeal.τ).loc Cert.OutprojReferenceIdeal.main_arg10) = m ((c.tc : Thread Cert.OutprojReferenceIdeal.nD Cert.OutprojReferenceIdeal.τ).loc Cert.OutprojReferenceIdeal.main_arg10))
      ∧ r.2.sem = fun _ => 0)

def quiescent_Mixs [hMixs : Cert.Mixs.Facts] : Prop :=
  ∀ (m : (ℓ : Loc Cert.Mixs.nD Cert.Mixs.τ Cert.Mixs.sig) → Buf (Elt Bits) ℓ) (g : Dev Cert.Mixs.nD → PrngReg), Pre_Mixs m →
    θ_run (Cert.Mixs.defs (F := Bits)) (onTc (τ := Cert.Mixs.τ) (Cert.Mixs.main (F := Bits))) ⟨m, fun _ => 0, g⟩ (fun r => (∀ c : Dev Cert.Mixs.nD,
      r.2.mem ((c.tc : Thread Cert.Mixs.nD Cert.Mixs.τ).loc Cert.Mixs.main_arg0) = m ((c.tc : Thread Cert.Mixs.nD Cert.Mixs.τ).loc Cert.Mixs.main_arg0)
      ∧ r.2.mem ((c.tc : Thread Cert.Mixs.nD Cert.Mixs.τ).loc Cert.Mixs.main_arg1) = m ((c.tc : Thread Cert.Mixs.nD Cert.Mixs.τ).loc Cert.Mixs.main_arg1)
      ∧ r.2.mem ((c.tc : Thread Cert.Mixs.nD Cert.Mixs.τ).loc Cert.Mixs.main_arg2) = m ((c.tc : Thread Cert.Mixs.nD Cert.Mixs.τ).loc Cert.Mixs.main_arg2)
      ∧ r.2.mem ((c.tc : Thread Cert.Mixs.nD Cert.Mixs.τ).loc Cert.Mixs.main_arg3) = m ((c.tc : Thread Cert.Mixs.nD Cert.Mixs.τ).loc Cert.Mixs.main_arg3)
      ∧ r.2.mem ((c.tc : Thread Cert.Mixs.nD Cert.Mixs.τ).loc Cert.Mixs.main_arg4) = m ((c.tc : Thread Cert.Mixs.nD Cert.Mixs.τ).loc Cert.Mixs.main_arg4)
      ∧ r.2.mem ((c.tc : Thread Cert.Mixs.nD Cert.Mixs.τ).loc Cert.Mixs.main_arg5) = m ((c.tc : Thread Cert.Mixs.nD Cert.Mixs.τ).loc Cert.Mixs.main_arg5)
      ∧ r.2.mem ((c.tc : Thread Cert.Mixs.nD Cert.Mixs.τ).loc Cert.Mixs.main_arg6) = m ((c.tc : Thread Cert.Mixs.nD Cert.Mixs.τ).loc Cert.Mixs.main_arg6)
      ∧ r.2.mem ((c.tc : Thread Cert.Mixs.nD Cert.Mixs.τ).loc Cert.Mixs.main_arg7) = m ((c.tc : Thread Cert.Mixs.nD Cert.Mixs.τ).loc Cert.Mixs.main_arg7)
      ∧ r.2.mem ((c.tc : Thread Cert.Mixs.nD Cert.Mixs.τ).loc Cert.Mixs.main_arg8) = m ((c.tc : Thread Cert.Mixs.nD Cert.Mixs.τ).loc Cert.Mixs.main_arg8))
      ∧ r.2.sem = fun _ => 0)

def quiescent_MixsIdeal [hMixsIdeal : Cert.MixsIdeal.Facts] : Prop :=
  ∀ (m : (ℓ : Loc Cert.MixsIdeal.nD Cert.MixsIdeal.τ Cert.MixsIdeal.sig) → Buf (Elt Ideal) ℓ) (g : Dev Cert.MixsIdeal.nD → PrngReg), Pre_MixsIdeal m →
    θ_run (Cert.MixsIdeal.defs (F := Ideal)) (onTc (τ := Cert.MixsIdeal.τ) (Cert.MixsIdeal.main (F := Ideal))) ⟨m, fun _ => 0, g⟩ (fun r => (∀ c : Dev Cert.MixsIdeal.nD,
      r.2.mem ((c.tc : Thread Cert.MixsIdeal.nD Cert.MixsIdeal.τ).loc Cert.MixsIdeal.main_arg0) = m ((c.tc : Thread Cert.MixsIdeal.nD Cert.MixsIdeal.τ).loc Cert.MixsIdeal.main_arg0)
      ∧ r.2.mem ((c.tc : Thread Cert.MixsIdeal.nD Cert.MixsIdeal.τ).loc Cert.MixsIdeal.main_arg1) = m ((c.tc : Thread Cert.MixsIdeal.nD Cert.MixsIdeal.τ).loc Cert.MixsIdeal.main_arg1)
      ∧ r.2.mem ((c.tc : Thread Cert.MixsIdeal.nD Cert.MixsIdeal.τ).loc Cert.MixsIdeal.main_arg2) = m ((c.tc : Thread Cert.MixsIdeal.nD Cert.MixsIdeal.τ).loc Cert.MixsIdeal.main_arg2)
      ∧ r.2.mem ((c.tc : Thread Cert.MixsIdeal.nD Cert.MixsIdeal.τ).loc Cert.MixsIdeal.main_arg3) = m ((c.tc : Thread Cert.MixsIdeal.nD Cert.MixsIdeal.τ).loc Cert.MixsIdeal.main_arg3)
      ∧ r.2.mem ((c.tc : Thread Cert.MixsIdeal.nD Cert.MixsIdeal.τ).loc Cert.MixsIdeal.main_arg4) = m ((c.tc : Thread Cert.MixsIdeal.nD Cert.MixsIdeal.τ).loc Cert.MixsIdeal.main_arg4)
      ∧ r.2.mem ((c.tc : Thread Cert.MixsIdeal.nD Cert.MixsIdeal.τ).loc Cert.MixsIdeal.main_arg5) = m ((c.tc : Thread Cert.MixsIdeal.nD Cert.MixsIdeal.τ).loc Cert.MixsIdeal.main_arg5)
      ∧ r.2.mem ((c.tc : Thread Cert.MixsIdeal.nD Cert.MixsIdeal.τ).loc Cert.MixsIdeal.main_arg6) = m ((c.tc : Thread Cert.MixsIdeal.nD Cert.MixsIdeal.τ).loc Cert.MixsIdeal.main_arg6)
      ∧ r.2.mem ((c.tc : Thread Cert.MixsIdeal.nD Cert.MixsIdeal.τ).loc Cert.MixsIdeal.main_arg7) = m ((c.tc : Thread Cert.MixsIdeal.nD Cert.MixsIdeal.τ).loc Cert.MixsIdeal.main_arg7)
      ∧ r.2.mem ((c.tc : Thread Cert.MixsIdeal.nD Cert.MixsIdeal.τ).loc Cert.MixsIdeal.main_arg8) = m ((c.tc : Thread Cert.MixsIdeal.nD Cert.MixsIdeal.τ).loc Cert.MixsIdeal.main_arg8))
      ∧ r.2.sem = fun _ => 0)

def quiescent_MixsReferenceIdeal [hMixsReferenceIdeal : Cert.MixsReferenceIdeal.Facts] : Prop :=
  ∀ (m : (ℓ : Loc Cert.MixsReferenceIdeal.nD Cert.MixsReferenceIdeal.τ Cert.MixsReferenceIdeal.sig) → Buf (Elt Ideal) ℓ) (g : Dev Cert.MixsReferenceIdeal.nD → PrngReg), Pre_MixsReferenceIdeal m →
    θ_run (Cert.MixsReferenceIdeal.defs (F := Ideal)) (onTc (τ := Cert.MixsReferenceIdeal.τ) (Cert.MixsReferenceIdeal.main (F := Ideal))) ⟨m, fun _ => 0, g⟩ (fun r => (∀ c : Dev Cert.MixsReferenceIdeal.nD,
      r.2.mem ((c.tc : Thread Cert.MixsReferenceIdeal.nD Cert.MixsReferenceIdeal.τ).loc Cert.MixsReferenceIdeal.main_arg0) = m ((c.tc : Thread Cert.MixsReferenceIdeal.nD Cert.MixsReferenceIdeal.τ).loc Cert.MixsReferenceIdeal.main_arg0)
      ∧ r.2.mem ((c.tc : Thread Cert.MixsReferenceIdeal.nD Cert.MixsReferenceIdeal.τ).loc Cert.MixsReferenceIdeal.main_arg1) = m ((c.tc : Thread Cert.MixsReferenceIdeal.nD Cert.MixsReferenceIdeal.τ).loc Cert.MixsReferenceIdeal.main_arg1)
      ∧ r.2.mem ((c.tc : Thread Cert.MixsReferenceIdeal.nD Cert.MixsReferenceIdeal.τ).loc Cert.MixsReferenceIdeal.main_arg2) = m ((c.tc : Thread Cert.MixsReferenceIdeal.nD Cert.MixsReferenceIdeal.τ).loc Cert.MixsReferenceIdeal.main_arg2)
      ∧ r.2.mem ((c.tc : Thread Cert.MixsReferenceIdeal.nD Cert.MixsReferenceIdeal.τ).loc Cert.MixsReferenceIdeal.main_arg3) = m ((c.tc : Thread Cert.MixsReferenceIdeal.nD Cert.MixsReferenceIdeal.τ).loc Cert.MixsReferenceIdeal.main_arg3)
      ∧ r.2.mem ((c.tc : Thread Cert.MixsReferenceIdeal.nD Cert.MixsReferenceIdeal.τ).loc Cert.MixsReferenceIdeal.main_arg4) = m ((c.tc : Thread Cert.MixsReferenceIdeal.nD Cert.MixsReferenceIdeal.τ).loc Cert.MixsReferenceIdeal.main_arg4)
      ∧ r.2.mem ((c.tc : Thread Cert.MixsReferenceIdeal.nD Cert.MixsReferenceIdeal.τ).loc Cert.MixsReferenceIdeal.main_arg5) = m ((c.tc : Thread Cert.MixsReferenceIdeal.nD Cert.MixsReferenceIdeal.τ).loc Cert.MixsReferenceIdeal.main_arg5)
      ∧ r.2.mem ((c.tc : Thread Cert.MixsReferenceIdeal.nD Cert.MixsReferenceIdeal.τ).loc Cert.MixsReferenceIdeal.main_arg6) = m ((c.tc : Thread Cert.MixsReferenceIdeal.nD Cert.MixsReferenceIdeal.τ).loc Cert.MixsReferenceIdeal.main_arg6)
      ∧ r.2.mem ((c.tc : Thread Cert.MixsReferenceIdeal.nD Cert.MixsReferenceIdeal.τ).loc Cert.MixsReferenceIdeal.main_arg7) = m ((c.tc : Thread Cert.MixsReferenceIdeal.nD Cert.MixsReferenceIdeal.τ).loc Cert.MixsReferenceIdeal.main_arg7)
      ∧ r.2.mem ((c.tc : Thread Cert.MixsReferenceIdeal.nD Cert.MixsReferenceIdeal.τ).loc Cert.MixsReferenceIdeal.main_arg8) = m ((c.tc : Thread Cert.MixsReferenceIdeal.nD Cert.MixsReferenceIdeal.τ).loc Cert.MixsReferenceIdeal.main_arg8))
      ∧ r.2.sem = fun _ => 0)

def quiescent_Moes [hMoes : Cert.Moes.Facts] : Prop :=
  ∀ (m : (ℓ : Loc Cert.Moes.nD Cert.Moes.τ Cert.Moes.sig) → Buf (Elt Bits) ℓ) (g : Dev Cert.Moes.nD → PrngReg), Pre_Moes m →
    θ_run (Cert.Moes.defs (F := Bits)) (onTc (τ := Cert.Moes.τ) (Cert.Moes.main (F := Bits))) ⟨m, fun _ => 0, g⟩ (fun r => (∀ c : Dev Cert.Moes.nD,
      r.2.mem ((c.tc : Thread Cert.Moes.nD Cert.Moes.τ).loc Cert.Moes.main_arg0) = m ((c.tc : Thread Cert.Moes.nD Cert.Moes.τ).loc Cert.Moes.main_arg0)
      ∧ r.2.mem ((c.tc : Thread Cert.Moes.nD Cert.Moes.τ).loc Cert.Moes.main_arg1) = m ((c.tc : Thread Cert.Moes.nD Cert.Moes.τ).loc Cert.Moes.main_arg1)
      ∧ r.2.mem ((c.tc : Thread Cert.Moes.nD Cert.Moes.τ).loc Cert.Moes.main_arg2) = m ((c.tc : Thread Cert.Moes.nD Cert.Moes.τ).loc Cert.Moes.main_arg2)
      ∧ r.2.mem ((c.tc : Thread Cert.Moes.nD Cert.Moes.τ).loc Cert.Moes.main_arg3) = m ((c.tc : Thread Cert.Moes.nD Cert.Moes.τ).loc Cert.Moes.main_arg3)
      ∧ r.2.mem ((c.tc : Thread Cert.Moes.nD Cert.Moes.τ).loc Cert.Moes.main_arg4) = m ((c.tc : Thread Cert.Moes.nD Cert.Moes.τ).loc Cert.Moes.main_arg4)
      ∧ r.2.mem ((c.tc : Thread Cert.Moes.nD Cert.Moes.τ).loc Cert.Moes.main_arg5) = m ((c.tc : Thread Cert.Moes.nD Cert.Moes.τ).loc Cert.Moes.main_arg5)
      ∧ r.2.mem ((c.tc : Thread Cert.Moes.nD Cert.Moes.τ).loc Cert.Moes.main_arg6) = m ((c.tc : Thread Cert.Moes.nD Cert.Moes.τ).loc Cert.Moes.main_arg6)
      ∧ r.2.mem ((c.tc : Thread Cert.Moes.nD Cert.Moes.τ).loc Cert.Moes.main_arg7) = m ((c.tc : Thread Cert.Moes.nD Cert.Moes.τ).loc Cert.Moes.main_arg7))
      ∧ r.2.sem = fun _ => 0)

def quiescent_MoesIdeal [hMoesIdeal : Cert.MoesIdeal.Facts] : Prop :=
  ∀ (m : (ℓ : Loc Cert.MoesIdeal.nD Cert.MoesIdeal.τ Cert.MoesIdeal.sig) → Buf (Elt Ideal) ℓ) (g : Dev Cert.MoesIdeal.nD → PrngReg), Pre_MoesIdeal m →
    θ_run (Cert.MoesIdeal.defs (F := Ideal)) (onTc (τ := Cert.MoesIdeal.τ) (Cert.MoesIdeal.main (F := Ideal))) ⟨m, fun _ => 0, g⟩ (fun r => (∀ c : Dev Cert.MoesIdeal.nD,
      r.2.mem ((c.tc : Thread Cert.MoesIdeal.nD Cert.MoesIdeal.τ).loc Cert.MoesIdeal.main_arg0) = m ((c.tc : Thread Cert.MoesIdeal.nD Cert.MoesIdeal.τ).loc Cert.MoesIdeal.main_arg0)
      ∧ r.2.mem ((c.tc : Thread Cert.MoesIdeal.nD Cert.MoesIdeal.τ).loc Cert.MoesIdeal.main_arg1) = m ((c.tc : Thread Cert.MoesIdeal.nD Cert.MoesIdeal.τ).loc Cert.MoesIdeal.main_arg1)
      ∧ r.2.mem ((c.tc : Thread Cert.MoesIdeal.nD Cert.MoesIdeal.τ).loc Cert.MoesIdeal.main_arg2) = m ((c.tc : Thread Cert.MoesIdeal.nD Cert.MoesIdeal.τ).loc Cert.MoesIdeal.main_arg2)
      ∧ r.2.mem ((c.tc : Thread Cert.MoesIdeal.nD Cert.MoesIdeal.τ).loc Cert.MoesIdeal.main_arg3) = m ((c.tc : Thread Cert.MoesIdeal.nD Cert.MoesIdeal.τ).loc Cert.MoesIdeal.main_arg3)
      ∧ r.2.mem ((c.tc : Thread Cert.MoesIdeal.nD Cert.MoesIdeal.τ).loc Cert.MoesIdeal.main_arg4) = m ((c.tc : Thread Cert.MoesIdeal.nD Cert.MoesIdeal.τ).loc Cert.MoesIdeal.main_arg4)
      ∧ r.2.mem ((c.tc : Thread Cert.MoesIdeal.nD Cert.MoesIdeal.τ).loc Cert.MoesIdeal.main_arg5) = m ((c.tc : Thread Cert.MoesIdeal.nD Cert.MoesIdeal.τ).loc Cert.MoesIdeal.main_arg5)
      ∧ r.2.mem ((c.tc : Thread Cert.MoesIdeal.nD Cert.MoesIdeal.τ).loc Cert.MoesIdeal.main_arg6) = m ((c.tc : Thread Cert.MoesIdeal.nD Cert.MoesIdeal.τ).loc Cert.MoesIdeal.main_arg6)
      ∧ r.2.mem ((c.tc : Thread Cert.MoesIdeal.nD Cert.MoesIdeal.τ).loc Cert.MoesIdeal.main_arg7) = m ((c.tc : Thread Cert.MoesIdeal.nD Cert.MoesIdeal.τ).loc Cert.MoesIdeal.main_arg7))
      ∧ r.2.sem = fun _ => 0)

def quiescent_MoesReferenceIdeal [hMoesReferenceIdeal : Cert.MoesReferenceIdeal.Facts] : Prop :=
  ∀ (m : (ℓ : Loc Cert.MoesReferenceIdeal.nD Cert.MoesReferenceIdeal.τ Cert.MoesReferenceIdeal.sig) → Buf (Elt Ideal) ℓ) (g : Dev Cert.MoesReferenceIdeal.nD → PrngReg), Pre_MoesReferenceIdeal m →
    θ_run (Cert.MoesReferenceIdeal.defs (F := Ideal)) (onTc (τ := Cert.MoesReferenceIdeal.τ) (Cert.MoesReferenceIdeal.main (F := Ideal))) ⟨m, fun _ => 0, g⟩ (fun r => (∀ c : Dev Cert.MoesReferenceIdeal.nD,
      r.2.mem ((c.tc : Thread Cert.MoesReferenceIdeal.nD Cert.MoesReferenceIdeal.τ).loc Cert.MoesReferenceIdeal.main_arg0) = m ((c.tc : Thread Cert.MoesReferenceIdeal.nD Cert.MoesReferenceIdeal.τ).loc Cert.MoesReferenceIdeal.main_arg0)
      ∧ r.2.mem ((c.tc : Thread Cert.MoesReferenceIdeal.nD Cert.MoesReferenceIdeal.τ).loc Cert.MoesReferenceIdeal.main_arg1) = m ((c.tc : Thread Cert.MoesReferenceIdeal.nD Cert.MoesReferenceIdeal.τ).loc Cert.MoesReferenceIdeal.main_arg1)
      ∧ r.2.mem ((c.tc : Thread Cert.MoesReferenceIdeal.nD Cert.MoesReferenceIdeal.τ).loc Cert.MoesReferenceIdeal.main_arg2) = m ((c.tc : Thread Cert.MoesReferenceIdeal.nD Cert.MoesReferenceIdeal.τ).loc Cert.MoesReferenceIdeal.main_arg2)
      ∧ r.2.mem ((c.tc : Thread Cert.MoesReferenceIdeal.nD Cert.MoesReferenceIdeal.τ).loc Cert.MoesReferenceIdeal.main_arg3) = m ((c.tc : Thread Cert.MoesReferenceIdeal.nD Cert.MoesReferenceIdeal.τ).loc Cert.MoesReferenceIdeal.main_arg3)
      ∧ r.2.mem ((c.tc : Thread Cert.MoesReferenceIdeal.nD Cert.MoesReferenceIdeal.τ).loc Cert.MoesReferenceIdeal.main_arg4) = m ((c.tc : Thread Cert.MoesReferenceIdeal.nD Cert.MoesReferenceIdeal.τ).loc Cert.MoesReferenceIdeal.main_arg4)
      ∧ r.2.mem ((c.tc : Thread Cert.MoesReferenceIdeal.nD Cert.MoesReferenceIdeal.τ).loc Cert.MoesReferenceIdeal.main_arg5) = m ((c.tc : Thread Cert.MoesReferenceIdeal.nD Cert.MoesReferenceIdeal.τ).loc Cert.MoesReferenceIdeal.main_arg5)
      ∧ r.2.mem ((c.tc : Thread Cert.MoesReferenceIdeal.nD Cert.MoesReferenceIdeal.τ).loc Cert.MoesReferenceIdeal.main_arg6) = m ((c.tc : Thread Cert.MoesReferenceIdeal.nD Cert.MoesReferenceIdeal.τ).loc Cert.MoesReferenceIdeal.main_arg6)
      ∧ r.2.mem ((c.tc : Thread Cert.MoesReferenceIdeal.nD Cert.MoesReferenceIdeal.τ).loc Cert.MoesReferenceIdeal.main_arg7) = m ((c.tc : Thread Cert.MoesReferenceIdeal.nD Cert.MoesReferenceIdeal.τ).loc Cert.MoesReferenceIdeal.main_arg7))
      ∧ r.2.sem = fun _ => 0)

def quiescent_Mixp [hMixp : Cert.Mixp.Facts] : Prop :=
  ∀ (m : (ℓ : Loc Cert.Mixp.nD Cert.Mixp.τ Cert.Mixp.sig) → Buf (Elt Bits) ℓ) (g : Dev Cert.Mixp.nD → PrngReg), Pre_Mixp m →
    θ_run (Cert.Mixp.defs (F := Bits)) (onTc (τ := Cert.Mixp.τ) (Cert.Mixp.main (F := Bits))) ⟨m, fun _ => 0, g⟩ (fun r => (∀ c : Dev Cert.Mixp.nD,
      r.2.mem ((c.tc : Thread Cert.Mixp.nD Cert.Mixp.τ).loc Cert.Mixp.main_arg0) = m ((c.tc : Thread Cert.Mixp.nD Cert.Mixp.τ).loc Cert.Mixp.main_arg0)
      ∧ r.2.mem ((c.tc : Thread Cert.Mixp.nD Cert.Mixp.τ).loc Cert.Mixp.main_arg1) = m ((c.tc : Thread Cert.Mixp.nD Cert.Mixp.τ).loc Cert.Mixp.main_arg1)
      ∧ r.2.mem ((c.tc : Thread Cert.Mixp.nD Cert.Mixp.τ).loc Cert.Mixp.main_arg2) = m ((c.tc : Thread Cert.Mixp.nD Cert.Mixp.τ).loc Cert.Mixp.main_arg2)
      ∧ r.2.mem ((c.tc : Thread Cert.Mixp.nD Cert.Mixp.τ).loc Cert.Mixp.main_arg3) = m ((c.tc : Thread Cert.Mixp.nD Cert.Mixp.τ).loc Cert.Mixp.main_arg3)
      ∧ r.2.mem ((c.tc : Thread Cert.Mixp.nD Cert.Mixp.τ).loc Cert.Mixp.main_arg4) = m ((c.tc : Thread Cert.Mixp.nD Cert.Mixp.τ).loc Cert.Mixp.main_arg4)
      ∧ r.2.mem ((c.tc : Thread Cert.Mixp.nD Cert.Mixp.τ).loc Cert.Mixp.main_arg5) = m ((c.tc : Thread Cert.Mixp.nD Cert.Mixp.τ).loc Cert.Mixp.main_arg5)
      ∧ r.2.mem ((c.tc : Thread Cert.Mixp.nD Cert.Mixp.τ).loc Cert.Mixp.main_arg6) = m ((c.tc : Thread Cert.Mixp.nD Cert.Mixp.τ).loc Cert.Mixp.main_arg6))
      ∧ r.2.sem = fun _ => 0)

def quiescent_MixpIdeal [hMixpIdeal : Cert.MixpIdeal.Facts] : Prop :=
  ∀ (m : (ℓ : Loc Cert.MixpIdeal.nD Cert.MixpIdeal.τ Cert.MixpIdeal.sig) → Buf (Elt Ideal) ℓ) (g : Dev Cert.MixpIdeal.nD → PrngReg), Pre_MixpIdeal m →
    θ_run (Cert.MixpIdeal.defs (F := Ideal)) (onTc (τ := Cert.MixpIdeal.τ) (Cert.MixpIdeal.main (F := Ideal))) ⟨m, fun _ => 0, g⟩ (fun r => (∀ c : Dev Cert.MixpIdeal.nD,
      r.2.mem ((c.tc : Thread Cert.MixpIdeal.nD Cert.MixpIdeal.τ).loc Cert.MixpIdeal.main_arg0) = m ((c.tc : Thread Cert.MixpIdeal.nD Cert.MixpIdeal.τ).loc Cert.MixpIdeal.main_arg0)
      ∧ r.2.mem ((c.tc : Thread Cert.MixpIdeal.nD Cert.MixpIdeal.τ).loc Cert.MixpIdeal.main_arg1) = m ((c.tc : Thread Cert.MixpIdeal.nD Cert.MixpIdeal.τ).loc Cert.MixpIdeal.main_arg1)
      ∧ r.2.mem ((c.tc : Thread Cert.MixpIdeal.nD Cert.MixpIdeal.τ).loc Cert.MixpIdeal.main_arg2) = m ((c.tc : Thread Cert.MixpIdeal.nD Cert.MixpIdeal.τ).loc Cert.MixpIdeal.main_arg2)
      ∧ r.2.mem ((c.tc : Thread Cert.MixpIdeal.nD Cert.MixpIdeal.τ).loc Cert.MixpIdeal.main_arg3) = m ((c.tc : Thread Cert.MixpIdeal.nD Cert.MixpIdeal.τ).loc Cert.MixpIdeal.main_arg3)
      ∧ r.2.mem ((c.tc : Thread Cert.MixpIdeal.nD Cert.MixpIdeal.τ).loc Cert.MixpIdeal.main_arg4) = m ((c.tc : Thread Cert.MixpIdeal.nD Cert.MixpIdeal.τ).loc Cert.MixpIdeal.main_arg4)
      ∧ r.2.mem ((c.tc : Thread Cert.MixpIdeal.nD Cert.MixpIdeal.τ).loc Cert.MixpIdeal.main_arg5) = m ((c.tc : Thread Cert.MixpIdeal.nD Cert.MixpIdeal.τ).loc Cert.MixpIdeal.main_arg5)
      ∧ r.2.mem ((c.tc : Thread Cert.MixpIdeal.nD Cert.MixpIdeal.τ).loc Cert.MixpIdeal.main_arg6) = m ((c.tc : Thread Cert.MixpIdeal.nD Cert.MixpIdeal.τ).loc Cert.MixpIdeal.main_arg6))
      ∧ r.2.sem = fun _ => 0)

def quiescent_MixpReferenceIdeal [hMixpReferenceIdeal : Cert.MixpReferenceIdeal.Facts] : Prop :=
  ∀ (m : (ℓ : Loc Cert.MixpReferenceIdeal.nD Cert.MixpReferenceIdeal.τ Cert.MixpReferenceIdeal.sig) → Buf (Elt Ideal) ℓ) (g : Dev Cert.MixpReferenceIdeal.nD → PrngReg), Pre_MixpReferenceIdeal m →
    θ_run (Cert.MixpReferenceIdeal.defs (F := Ideal)) (onTc (τ := Cert.MixpReferenceIdeal.τ) (Cert.MixpReferenceIdeal.main (F := Ideal))) ⟨m, fun _ => 0, g⟩ (fun r => (∀ c : Dev Cert.MixpReferenceIdeal.nD,
      r.2.mem ((c.tc : Thread Cert.MixpReferenceIdeal.nD Cert.MixpReferenceIdeal.τ).loc Cert.MixpReferenceIdeal.main_arg0) = m ((c.tc : Thread Cert.MixpReferenceIdeal.nD Cert.MixpReferenceIdeal.τ).loc Cert.MixpReferenceIdeal.main_arg0)
      ∧ r.2.mem ((c.tc : Thread Cert.MixpReferenceIdeal.nD Cert.MixpReferenceIdeal.τ).loc Cert.MixpReferenceIdeal.main_arg1) = m ((c.tc : Thread Cert.MixpReferenceIdeal.nD Cert.MixpReferenceIdeal.τ).loc Cert.MixpReferenceIdeal.main_arg1)
      ∧ r.2.mem ((c.tc : Thread Cert.MixpReferenceIdeal.nD Cert.MixpReferenceIdeal.τ).loc Cert.MixpReferenceIdeal.main_arg2) = m ((c.tc : Thread Cert.MixpReferenceIdeal.nD Cert.MixpReferenceIdeal.τ).loc Cert.MixpReferenceIdeal.main_arg2)
      ∧ r.2.mem ((c.tc : Thread Cert.MixpReferenceIdeal.nD Cert.MixpReferenceIdeal.τ).loc Cert.MixpReferenceIdeal.main_arg3) = m ((c.tc : Thread Cert.MixpReferenceIdeal.nD Cert.MixpReferenceIdeal.τ).loc Cert.MixpReferenceIdeal.main_arg3)
      ∧ r.2.mem ((c.tc : Thread Cert.MixpReferenceIdeal.nD Cert.MixpReferenceIdeal.τ).loc Cert.MixpReferenceIdeal.main_arg4) = m ((c.tc : Thread Cert.MixpReferenceIdeal.nD Cert.MixpReferenceIdeal.τ).loc Cert.MixpReferenceIdeal.main_arg4)
      ∧ r.2.mem ((c.tc : Thread Cert.MixpReferenceIdeal.nD Cert.MixpReferenceIdeal.τ).loc Cert.MixpReferenceIdeal.main_arg5) = m ((c.tc : Thread Cert.MixpReferenceIdeal.nD Cert.MixpReferenceIdeal.τ).loc Cert.MixpReferenceIdeal.main_arg5)
      ∧ r.2.mem ((c.tc : Thread Cert.MixpReferenceIdeal.nD Cert.MixpReferenceIdeal.τ).loc Cert.MixpReferenceIdeal.main_arg6) = m ((c.tc : Thread Cert.MixpReferenceIdeal.nD Cert.MixpReferenceIdeal.τ).loc Cert.MixpReferenceIdeal.main_arg6))
      ∧ r.2.sem = fun _ => 0)

def quiescent_Inprojs [hInprojs : Cert.Inprojs.Facts] : Prop :=
  ∀ (m : (ℓ : Loc Cert.Inprojs.nD Cert.Inprojs.τ Cert.Inprojs.sig) → Buf (Elt Bits) ℓ) (g : Dev Cert.Inprojs.nD → PrngReg), Pre_Inprojs m →
    θ_run (Cert.Inprojs.defs (F := Bits)) (onTc (τ := Cert.Inprojs.τ) (Cert.Inprojs.main (F := Bits))) ⟨m, fun _ => 0, g⟩ (fun r => (∀ c : Dev Cert.Inprojs.nD,
      r.2.mem ((c.tc : Thread Cert.Inprojs.nD Cert.Inprojs.τ).loc Cert.Inprojs.main_arg0) = m ((c.tc : Thread Cert.Inprojs.nD Cert.Inprojs.τ).loc Cert.Inprojs.main_arg0)
      ∧ r.2.mem ((c.tc : Thread Cert.Inprojs.nD Cert.Inprojs.τ).loc Cert.Inprojs.main_arg1) = m ((c.tc : Thread Cert.Inprojs.nD Cert.Inprojs.τ).loc Cert.Inprojs.main_arg1))
      ∧ r.2.sem = fun _ => 0)

def quiescent_InprojsIdeal [hInprojsIdeal : Cert.InprojsIdeal.Facts] : Prop :=
  ∀ (m : (ℓ : Loc Cert.InprojsIdeal.nD Cert.InprojsIdeal.τ Cert.InprojsIdeal.sig) → Buf (Elt Ideal) ℓ) (g : Dev Cert.InprojsIdeal.nD → PrngReg), Pre_InprojsIdeal m →
    θ_run (Cert.InprojsIdeal.defs (F := Ideal)) (onTc (τ := Cert.InprojsIdeal.τ) (Cert.InprojsIdeal.main (F := Ideal))) ⟨m, fun _ => 0, g⟩ (fun r => (∀ c : Dev Cert.InprojsIdeal.nD,
      r.2.mem ((c.tc : Thread Cert.InprojsIdeal.nD Cert.InprojsIdeal.τ).loc Cert.InprojsIdeal.main_arg0) = m ((c.tc : Thread Cert.InprojsIdeal.nD Cert.InprojsIdeal.τ).loc Cert.InprojsIdeal.main_arg0)
      ∧ r.2.mem ((c.tc : Thread Cert.InprojsIdeal.nD Cert.InprojsIdeal.τ).loc Cert.InprojsIdeal.main_arg1) = m ((c.tc : Thread Cert.InprojsIdeal.nD Cert.InprojsIdeal.τ).loc Cert.InprojsIdeal.main_arg1))
      ∧ r.2.sem = fun _ => 0)

def quiescent_InprojsReferenceIdeal [hInprojsReferenceIdeal : Cert.InprojsReferenceIdeal.Facts] : Prop :=
  ∀ (m : (ℓ : Loc Cert.InprojsReferenceIdeal.nD Cert.InprojsReferenceIdeal.τ Cert.InprojsReferenceIdeal.sig) → Buf (Elt Ideal) ℓ) (g : Dev Cert.InprojsReferenceIdeal.nD → PrngReg), Pre_InprojsReferenceIdeal m →
    θ_run (Cert.InprojsReferenceIdeal.defs (F := Ideal)) (onTc (τ := Cert.InprojsReferenceIdeal.τ) (Cert.InprojsReferenceIdeal.main (F := Ideal))) ⟨m, fun _ => 0, g⟩ (fun r => (∀ c : Dev Cert.InprojsReferenceIdeal.nD,
      r.2.mem ((c.tc : Thread Cert.InprojsReferenceIdeal.nD Cert.InprojsReferenceIdeal.τ).loc Cert.InprojsReferenceIdeal.main_arg0) = m ((c.tc : Thread Cert.InprojsReferenceIdeal.nD Cert.InprojsReferenceIdeal.τ).loc Cert.InprojsReferenceIdeal.main_arg0)
      ∧ r.2.mem ((c.tc : Thread Cert.InprojsReferenceIdeal.nD Cert.InprojsReferenceIdeal.τ).loc Cert.InprojsReferenceIdeal.main_arg1) = m ((c.tc : Thread Cert.InprojsReferenceIdeal.nD Cert.InprojsReferenceIdeal.τ).loc Cert.InprojsReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Moe_MoeIdeal : Prop :=
  True

def algebraic_MoeIdeal_MoeReferenceIdeal [hMoeIdeal : Cert.MoeIdeal.Facts] [hMoeReferenceIdeal : Cert.MoeReferenceIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v46) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)) (v2 : (c : Dev Cert.InprojIdeal.nD) → Buf (Elt Ideal) ((c.tc : Thread Cert.InprojIdeal.nD Cert.InprojIdeal.τ).loc Cert.InprojIdeal.main_v1_2)) (v3 : (c : Dev Cert.InprojIdeal.nD) → Buf (Elt Ideal) ((c.tc : Thread Cert.InprojIdeal.nD Cert.InprojIdeal.τ).loc Cert.InprojIdeal.main_v1_3)) (v4 : (c : Dev Cert.InprojIdeal.nD) → Buf (Elt Ideal) ((c.tc : Thread Cert.InprojIdeal.nD Cert.InprojIdeal.τ).loc Cert.InprojIdeal.main_v1_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_v1_2) = v2 c
          ∧ r.2.mem ((c.tc : Thread Cert.InprojIdeal.nD Cert.InprojIdeal.τ).loc Cert.InprojIdeal.main_v1_3) = v3 c
          ∧ r.2.mem ((c.tc : Thread Cert.InprojIdeal.nD Cert.InprojIdeal.τ).loc Cert.InprojIdeal.main_v1_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v12) = v0 c
          ∧ r.2.mem ((c.tc : Thread Cert.InprojReferenceIdeal.nD Cert.InprojReferenceIdeal.τ).loc Cert.InprojReferenceIdeal.main_v16) = v1 c
          ∧ r.2.mem ((c.tc : Thread Cert.InprojReferenceIdeal.nD Cert.InprojReferenceIdeal.τ).loc Cert.InprojReferenceIdeal.main_v17) = v2 c
          ∧ r.2.mem ((c.tc : Thread Cert.InprojReferenceIdeal.nD Cert.InprojReferenceIdeal.τ).loc Cert.InprojReferenceIdeal.main_v18) = v3 c
          ∧ r.2.mem ((c.tc : Thread Cert.InprojReferenceIdeal.nD Cert.InprojReferenceIdeal.τ).loc Cert.InprojReferenceIdeal.main_v20) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)
      ∧ m' ((c.tc : Thread Cert.OutprojReferenceIdeal.nD Cert.OutprojReferenceIdeal.τ).loc Cert.OutprojReferenceIdeal.main_arg7) = m ((c.tc : Thread Cert.OutprojIdeal.nD Cert.OutprojIdeal.τ).loc Cert.OutprojIdeal.main_arg7)
      ∧ m' ((c.tc : Thread Cert.OutprojReferenceIdeal.nD Cert.OutprojReferenceIdeal.τ).loc Cert.OutprojReferenceIdeal.main_arg8) = m ((c.tc : Thread Cert.OutprojIdeal.nD Cert.OutprojIdeal.τ).loc Cert.OutprojIdeal.main_arg8)
      ∧ m' ((c.tc : Thread Cert.OutprojReferenceIdeal.nD Cert.OutprojReferenceIdeal.τ).loc Cert.OutprojReferenceIdeal.main_arg9) = m ((c.tc : Thread Cert.OutprojIdeal.nD Cert.OutprojIdeal.τ).loc Cert.OutprojIdeal.main_arg9)
      ∧ m' ((c.tc : Thread Cert.OutprojReferenceIdeal.nD Cert.OutprojReferenceIdeal.τ).loc Cert.OutprojReferenceIdeal.main_arg10) = m ((c.tc : Thread Cert.OutprojIdeal.nD Cert.OutprojIdeal.τ).loc Cert.OutprojIdeal.main_arg10)) →
    ∃ (v0 : (c : Dev Cert.OutprojIdeal.nD) → Buf (Elt Ideal) ((c.tc : Thread Cert.OutprojIdeal.nD Cert.OutprojIdeal.τ).loc Cert.OutprojIdeal.main_v15_0)) (v1 : (c : Dev Cert.OutprojIdeal.nD) → Buf (Elt Ideal) ((c.tc : Thread Cert.OutprojIdeal.nD Cert.OutprojIdeal.τ).loc Cert.OutprojIdeal.main_v15_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v15_0) = v0 c
          ∧ r.2.mem ((c.tc : Thread Cert.OutprojIdeal.nD Cert.OutprojIdeal.τ).loc Cert.OutprojIdeal.main_v15_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v35) = v0 c
          ∧ r.2.mem ((c.tc : Thread Cert.OutprojReferenceIdeal.nD Cert.OutprojReferenceIdeal.τ).loc Cert.OutprojReferenceIdeal.main_v36) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7)
          ∧ r.2.mem ((c.tc : Thread Cert.OutprojReferenceIdeal.nD Cert.OutprojReferenceIdeal.τ).loc Cert.OutprojReferenceIdeal.main_arg8) = m' ((c.tc : Thread Cert.OutprojReferenceIdeal.nD Cert.OutprojReferenceIdeal.τ).loc Cert.OutprojReferenceIdeal.main_arg8)
          ∧ r.2.mem ((c.tc : Thread Cert.OutprojReferenceIdeal.nD Cert.OutprojReferenceIdeal.τ).loc Cert.OutprojReferenceIdeal.main_arg9) = m' ((c.tc : Thread Cert.OutprojReferenceIdeal.nD Cert.OutprojReferenceIdeal.τ).loc Cert.OutprojReferenceIdeal.main_arg9)
          ∧ r.2.mem ((c.tc : Thread Cert.OutprojReferenceIdeal.nD Cert.OutprojReferenceIdeal.τ).loc Cert.OutprojReferenceIdeal.main_arg10) = m' ((c.tc : Thread Cert.OutprojReferenceIdeal.nD Cert.OutprojReferenceIdeal.τ).loc Cert.OutprojReferenceIdeal.main_arg10))

def preserves_Mixs_MixsIdeal : Prop :=
  True

def algebraic_MixsIdeal_MixsReferenceIdeal [hMixsIdeal : Cert.MixsIdeal.Facts] [hMixsReferenceIdeal : Cert.MixsReferenceIdeal.Facts] : Prop :=
  ∀ (m : (ℓ : Loc Cert.MixsIdeal.nD Cert.MixsIdeal.τ Cert.MixsIdeal.sig) → Buf (Elt Ideal) ℓ) (g : Dev Cert.MixsIdeal.nD → PrngReg)
    (m' : (ℓ : Loc Cert.MixsReferenceIdeal.nD Cert.MixsReferenceIdeal.τ Cert.MixsReferenceIdeal.sig) → Buf (Elt Ideal) ℓ) (g' : Dev Cert.MixsReferenceIdeal.nD → PrngReg), Pre_MixsIdeal m →
    (∀ c : Dev Cert.MixsIdeal.nD,
      m' ((c.tc : Thread Cert.MixsReferenceIdeal.nD Cert.MixsReferenceIdeal.τ).loc Cert.MixsReferenceIdeal.main_arg0) = m ((c.tc : Thread Cert.MixsIdeal.nD Cert.MixsIdeal.τ).loc Cert.MixsIdeal.main_arg0)
      ∧ m' ((c.tc : Thread Cert.MixsReferenceIdeal.nD Cert.MixsReferenceIdeal.τ).loc Cert.MixsReferenceIdeal.main_arg1) = m ((c.tc : Thread Cert.MixsIdeal.nD Cert.MixsIdeal.τ).loc Cert.MixsIdeal.main_arg1)
      ∧ m' ((c.tc : Thread Cert.MixsReferenceIdeal.nD Cert.MixsReferenceIdeal.τ).loc Cert.MixsReferenceIdeal.main_arg2) = m ((c.tc : Thread Cert.MixsIdeal.nD Cert.MixsIdeal.τ).loc Cert.MixsIdeal.main_arg2)
      ∧ m' ((c.tc : Thread Cert.MixsReferenceIdeal.nD Cert.MixsReferenceIdeal.τ).loc Cert.MixsReferenceIdeal.main_arg3) = m ((c.tc : Thread Cert.MixsIdeal.nD Cert.MixsIdeal.τ).loc Cert.MixsIdeal.main_arg3)
      ∧ m' ((c.tc : Thread Cert.MixsReferenceIdeal.nD Cert.MixsReferenceIdeal.τ).loc Cert.MixsReferenceIdeal.main_arg4) = m ((c.tc : Thread Cert.MixsIdeal.nD Cert.MixsIdeal.τ).loc Cert.MixsIdeal.main_arg4)
      ∧ m' ((c.tc : Thread Cert.MixsReferenceIdeal.nD Cert.MixsReferenceIdeal.τ).loc Cert.MixsReferenceIdeal.main_arg5) = m ((c.tc : Thread Cert.MixsIdeal.nD Cert.MixsIdeal.τ).loc Cert.MixsIdeal.main_arg5)
      ∧ m' ((c.tc : Thread Cert.MixsReferenceIdeal.nD Cert.MixsReferenceIdeal.τ).loc Cert.MixsReferenceIdeal.main_arg6) = m ((c.tc : Thread Cert.MixsIdeal.nD Cert.MixsIdeal.τ).loc Cert.MixsIdeal.main_arg6)
      ∧ m' ((c.tc : Thread Cert.MixsReferenceIdeal.nD Cert.MixsReferenceIdeal.τ).loc Cert.MixsReferenceIdeal.main_arg7) = m ((c.tc : Thread Cert.MixsIdeal.nD Cert.MixsIdeal.τ).loc Cert.MixsIdeal.main_arg7)
      ∧ m' ((c.tc : Thread Cert.MixsReferenceIdeal.nD Cert.MixsReferenceIdeal.τ).loc Cert.MixsReferenceIdeal.main_arg8) = m ((c.tc : Thread Cert.MixsIdeal.nD Cert.MixsIdeal.τ).loc Cert.MixsIdeal.main_arg8)) →
    ∃ (v0 : (c : Dev Cert.MixsIdeal.nD) → Buf (Elt Ideal) ((c.tc : Thread Cert.MixsIdeal.nD Cert.MixsIdeal.τ).loc Cert.MixsIdeal.main_v5_0)) (v1 : (c : Dev Cert.MixsIdeal.nD) → Buf (Elt Ideal) ((c.tc : Thread Cert.MixsIdeal.nD Cert.MixsIdeal.τ).loc Cert.MixsIdeal.main_v5_1)) (v2 : (c : Dev Cert.MixsIdeal.nD) → Buf (Elt Ideal) ((c.tc : Thread Cert.MixsIdeal.nD Cert.MixsIdeal.τ).loc Cert.MixsIdeal.main_v5_2)) (v3 : (c : Dev Cert.MixsIdeal.nD) → Buf (Elt Ideal) ((c.tc : Thread Cert.MixsIdeal.nD Cert.MixsIdeal.τ).loc Cert.MixsIdeal.main_v5_3)),
      θ_run (Cert.MixsIdeal.defs (F := Ideal)) (onTc (τ := Cert.MixsIdeal.τ) (Cert.MixsIdeal.main (F := Ideal))) ⟨m, fun _ => 0, g⟩ (fun r => ∀ c : Dev Cert.MixsIdeal.nD,
          r.2.mem ((c.tc : Thread Cert.MixsIdeal.nD Cert.MixsIdeal.τ).loc Cert.MixsIdeal.main_v5_0) = v0 c
          ∧ r.2.mem ((c.tc : Thread Cert.MixsIdeal.nD Cert.MixsIdeal.τ).loc Cert.MixsIdeal.main_v5_1) = v1 c
          ∧ r.2.mem ((c.tc : Thread Cert.MixsIdeal.nD Cert.MixsIdeal.τ).loc Cert.MixsIdeal.main_v5_2) = v2 c
          ∧ r.2.mem ((c.tc : Thread Cert.MixsIdeal.nD Cert.MixsIdeal.τ).loc Cert.MixsIdeal.main_v5_3) = v3 c
          ∧ r.2.mem ((c.tc : Thread Cert.MixsIdeal.nD Cert.MixsIdeal.τ).loc Cert.MixsIdeal.main_arg0) = m ((c.tc : Thread Cert.MixsIdeal.nD Cert.MixsIdeal.τ).loc Cert.MixsIdeal.main_arg0)
          ∧ r.2.mem ((c.tc : Thread Cert.MixsIdeal.nD Cert.MixsIdeal.τ).loc Cert.MixsIdeal.main_arg1) = m ((c.tc : Thread Cert.MixsIdeal.nD Cert.MixsIdeal.τ).loc Cert.MixsIdeal.main_arg1)
          ∧ r.2.mem ((c.tc : Thread Cert.MixsIdeal.nD Cert.MixsIdeal.τ).loc Cert.MixsIdeal.main_arg2) = m ((c.tc : Thread Cert.MixsIdeal.nD Cert.MixsIdeal.τ).loc Cert.MixsIdeal.main_arg2)
          ∧ r.2.mem ((c.tc : Thread Cert.MixsIdeal.nD Cert.MixsIdeal.τ).loc Cert.MixsIdeal.main_arg3) = m ((c.tc : Thread Cert.MixsIdeal.nD Cert.MixsIdeal.τ).loc Cert.MixsIdeal.main_arg3)
          ∧ r.2.mem ((c.tc : Thread Cert.MixsIdeal.nD Cert.MixsIdeal.τ).loc Cert.MixsIdeal.main_arg4) = m ((c.tc : Thread Cert.MixsIdeal.nD Cert.MixsIdeal.τ).loc Cert.MixsIdeal.main_arg4)
          ∧ r.2.mem ((c.tc : Thread Cert.MixsIdeal.nD Cert.MixsIdeal.τ).loc Cert.MixsIdeal.main_arg5) = m ((c.tc : Thread Cert.MixsIdeal.nD Cert.MixsIdeal.τ).loc Cert.MixsIdeal.main_arg5)
          ∧ r.2.mem ((c.tc : Thread Cert.MixsIdeal.nD Cert.MixsIdeal.τ).loc Cert.MixsIdeal.main_arg6) = m ((c.tc : Thread Cert.MixsIdeal.nD Cert.MixsIdeal.τ).loc Cert.MixsIdeal.main_arg6)
          ∧ r.2.mem ((c.tc : Thread Cert.MixsIdeal.nD Cert.MixsIdeal.τ).loc Cert.MixsIdeal.main_arg7) = m ((c.tc : Thread Cert.MixsIdeal.nD Cert.MixsIdeal.τ).loc Cert.MixsIdeal.main_arg7)
          ∧ r.2.mem ((c.tc : Thread Cert.MixsIdeal.nD Cert.MixsIdeal.τ).loc Cert.MixsIdeal.main_arg8) = m ((c.tc : Thread Cert.MixsIdeal.nD Cert.MixsIdeal.τ).loc Cert.MixsIdeal.main_arg8))
      ∧ θ_run (Cert.MixsReferenceIdeal.defs (F := Ideal)) (onTc (τ := Cert.MixsReferenceIdeal.τ) (Cert.MixsReferenceIdeal.main (F := Ideal))) ⟨m', fun _ => 0, g'⟩ (fun r => ∀ c : Dev Cert.MixsReferenceIdeal.nD,
          r.2.mem ((c.tc : Thread Cert.MixsReferenceIdeal.nD Cert.MixsReferenceIdeal.τ).loc Cert.MixsReferenceIdeal.main_v301) = v0 c
          ∧ r.2.mem ((c.tc : Thread Cert.MixsReferenceIdeal.nD Cert.MixsReferenceIdeal.τ).loc Cert.MixsReferenceIdeal.main_v303) = v1 c
          ∧ r.2.mem ((c.tc : Thread Cert.MixsReferenceIdeal.nD Cert.MixsReferenceIdeal.τ).loc Cert.MixsReferenceIdeal.main_v305) = v2 c
          ∧ r.2.mem ((c.tc : Thread Cert.MixsReferenceIdeal.nD Cert.MixsReferenceIdeal.τ).loc Cert.MixsReferenceIdeal.main_v307) = v3 c
          ∧ r.2.mem ((c.tc : Thread Cert.MixsReferenceIdeal.nD Cert.MixsReferenceIdeal.τ).loc Cert.MixsReferenceIdeal.main_arg0) = m' ((c.tc : Thread Cert.MixsReferenceIdeal.nD Cert.MixsReferenceIdeal.τ).loc Cert.MixsReferenceIdeal.main_arg0)
          ∧ r.2.mem ((c.tc : Thread Cert.MixsReferenceIdeal.nD Cert.MixsReferenceIdeal.τ).loc Cert.MixsReferenceIdeal.main_arg1) = m' ((c.tc : Thread Cert.MixsReferenceIdeal.nD Cert.MixsReferenceIdeal.τ).loc Cert.MixsReferenceIdeal.main_arg1)
          ∧ r.2.mem ((c.tc : Thread Cert.MixsReferenceIdeal.nD Cert.MixsReferenceIdeal.τ).loc Cert.MixsReferenceIdeal.main_arg2) = m' ((c.tc : Thread Cert.MixsReferenceIdeal.nD Cert.MixsReferenceIdeal.τ).loc Cert.MixsReferenceIdeal.main_arg2)
          ∧ r.2.mem ((c.tc : Thread Cert.MixsReferenceIdeal.nD Cert.MixsReferenceIdeal.τ).loc Cert.MixsReferenceIdeal.main_arg3) = m' ((c.tc : Thread Cert.MixsReferenceIdeal.nD Cert.MixsReferenceIdeal.τ).loc Cert.MixsReferenceIdeal.main_arg3)
          ∧ r.2.mem ((c.tc : Thread Cert.MixsReferenceIdeal.nD Cert.MixsReferenceIdeal.τ).loc Cert.MixsReferenceIdeal.main_arg4) = m' ((c.tc : Thread Cert.MixsReferenceIdeal.nD Cert.MixsReferenceIdeal.τ).loc Cert.MixsReferenceIdeal.main_arg4)
          ∧ r.2.mem ((c.tc : Thread Cert.MixsReferenceIdeal.nD Cert.MixsReferenceIdeal.τ).loc Cert.MixsReferenceIdeal.main_arg5) = m' ((c.tc : Thread Cert.MixsReferenceIdeal.nD Cert.MixsReferenceIdeal.τ).loc Cert.MixsReferenceIdeal.main_arg5)
          ∧ r.2.mem ((c.tc : Thread Cert.MixsReferenceIdeal.nD Cert.MixsReferenceIdeal.τ).loc Cert.MixsReferenceIdeal.main_arg6) = m' ((c.tc : Thread Cert.MixsReferenceIdeal.nD Cert.MixsReferenceIdeal.τ).loc Cert.MixsReferenceIdeal.main_arg6)
          ∧ r.2.mem ((c.tc : Thread Cert.MixsReferenceIdeal.nD Cert.MixsReferenceIdeal.τ).loc Cert.MixsReferenceIdeal.main_arg7) = m' ((c.tc : Thread Cert.MixsReferenceIdeal.nD Cert.MixsReferenceIdeal.τ).loc Cert.MixsReferenceIdeal.main_arg7)
          ∧ r.2.mem ((c.tc : Thread Cert.MixsReferenceIdeal.nD Cert.MixsReferenceIdeal.τ).loc Cert.MixsReferenceIdeal.main_arg8) = m' ((c.tc : Thread Cert.MixsReferenceIdeal.nD Cert.MixsReferenceIdeal.τ).loc Cert.MixsReferenceIdeal.main_arg8))

def preserves_Moes_MoesIdeal : Prop :=
  True

def algebraic_MoesIdeal_MoesReferenceIdeal [hMoesIdeal : Cert.MoesIdeal.Facts] [hMoesReferenceIdeal : Cert.MoesReferenceIdeal.Facts] : Prop :=
  ∀ (m : (ℓ : Loc Cert.MoesIdeal.nD Cert.MoesIdeal.τ Cert.MoesIdeal.sig) → Buf (Elt Ideal) ℓ) (g : Dev Cert.MoesIdeal.nD → PrngReg)
    (m' : (ℓ : Loc Cert.MoesReferenceIdeal.nD Cert.MoesReferenceIdeal.τ Cert.MoesReferenceIdeal.sig) → Buf (Elt Ideal) ℓ) (g' : Dev Cert.MoesReferenceIdeal.nD → PrngReg), Pre_MoesIdeal m →
    (∀ c : Dev Cert.MoesIdeal.nD,
      m' ((c.tc : Thread Cert.MoesReferenceIdeal.nD Cert.MoesReferenceIdeal.τ).loc Cert.MoesReferenceIdeal.main_arg0) = m ((c.tc : Thread Cert.MoesIdeal.nD Cert.MoesIdeal.τ).loc Cert.MoesIdeal.main_arg0)
      ∧ m' ((c.tc : Thread Cert.MoesReferenceIdeal.nD Cert.MoesReferenceIdeal.τ).loc Cert.MoesReferenceIdeal.main_arg1) = m ((c.tc : Thread Cert.MoesIdeal.nD Cert.MoesIdeal.τ).loc Cert.MoesIdeal.main_arg1)
      ∧ m' ((c.tc : Thread Cert.MoesReferenceIdeal.nD Cert.MoesReferenceIdeal.τ).loc Cert.MoesReferenceIdeal.main_arg2) = m ((c.tc : Thread Cert.MoesIdeal.nD Cert.MoesIdeal.τ).loc Cert.MoesIdeal.main_arg2)
      ∧ m' ((c.tc : Thread Cert.MoesReferenceIdeal.nD Cert.MoesReferenceIdeal.τ).loc Cert.MoesReferenceIdeal.main_arg3) = m ((c.tc : Thread Cert.MoesIdeal.nD Cert.MoesIdeal.τ).loc Cert.MoesIdeal.main_arg3)
      ∧ m' ((c.tc : Thread Cert.MoesReferenceIdeal.nD Cert.MoesReferenceIdeal.τ).loc Cert.MoesReferenceIdeal.main_arg4) = m ((c.tc : Thread Cert.MoesIdeal.nD Cert.MoesIdeal.τ).loc Cert.MoesIdeal.main_arg4)
      ∧ m' ((c.tc : Thread Cert.MoesReferenceIdeal.nD Cert.MoesReferenceIdeal.τ).loc Cert.MoesReferenceIdeal.main_arg5) = m ((c.tc : Thread Cert.MoesIdeal.nD Cert.MoesIdeal.τ).loc Cert.MoesIdeal.main_arg5)
      ∧ m' ((c.tc : Thread Cert.MoesReferenceIdeal.nD Cert.MoesReferenceIdeal.τ).loc Cert.MoesReferenceIdeal.main_arg6) = m ((c.tc : Thread Cert.MoesIdeal.nD Cert.MoesIdeal.τ).loc Cert.MoesIdeal.main_arg6)
      ∧ m' ((c.tc : Thread Cert.MoesReferenceIdeal.nD Cert.MoesReferenceIdeal.τ).loc Cert.MoesReferenceIdeal.main_arg7) = m ((c.tc : Thread Cert.MoesIdeal.nD Cert.MoesIdeal.τ).loc Cert.MoesIdeal.main_arg7)) →
    ∃ (v0 : (c : Dev Cert.MoesIdeal.nD) → Buf (Elt Ideal) ((c.tc : Thread Cert.MoesIdeal.nD Cert.MoesIdeal.τ).loc Cert.MoesIdeal.main_v5)),
      θ_run (Cert.MoesIdeal.defs (F := Ideal)) (onTc (τ := Cert.MoesIdeal.τ) (Cert.MoesIdeal.main (F := Ideal))) ⟨m, fun _ => 0, g⟩ (fun r => ∀ c : Dev Cert.MoesIdeal.nD,
          r.2.mem ((c.tc : Thread Cert.MoesIdeal.nD Cert.MoesIdeal.τ).loc Cert.MoesIdeal.main_v5) = v0 c
          ∧ r.2.mem ((c.tc : Thread Cert.MoesIdeal.nD Cert.MoesIdeal.τ).loc Cert.MoesIdeal.main_arg0) = m ((c.tc : Thread Cert.MoesIdeal.nD Cert.MoesIdeal.τ).loc Cert.MoesIdeal.main_arg0)
          ∧ r.2.mem ((c.tc : Thread Cert.MoesIdeal.nD Cert.MoesIdeal.τ).loc Cert.MoesIdeal.main_arg1) = m ((c.tc : Thread Cert.MoesIdeal.nD Cert.MoesIdeal.τ).loc Cert.MoesIdeal.main_arg1)
          ∧ r.2.mem ((c.tc : Thread Cert.MoesIdeal.nD Cert.MoesIdeal.τ).loc Cert.MoesIdeal.main_arg2) = m ((c.tc : Thread Cert.MoesIdeal.nD Cert.MoesIdeal.τ).loc Cert.MoesIdeal.main_arg2)
          ∧ r.2.mem ((c.tc : Thread Cert.MoesIdeal.nD Cert.MoesIdeal.τ).loc Cert.MoesIdeal.main_arg3) = m ((c.tc : Thread Cert.MoesIdeal.nD Cert.MoesIdeal.τ).loc Cert.MoesIdeal.main_arg3)
          ∧ r.2.mem ((c.tc : Thread Cert.MoesIdeal.nD Cert.MoesIdeal.τ).loc Cert.MoesIdeal.main_arg4) = m ((c.tc : Thread Cert.MoesIdeal.nD Cert.MoesIdeal.τ).loc Cert.MoesIdeal.main_arg4)
          ∧ r.2.mem ((c.tc : Thread Cert.MoesIdeal.nD Cert.MoesIdeal.τ).loc Cert.MoesIdeal.main_arg5) = m ((c.tc : Thread Cert.MoesIdeal.nD Cert.MoesIdeal.τ).loc Cert.MoesIdeal.main_arg5)
          ∧ r.2.mem ((c.tc : Thread Cert.MoesIdeal.nD Cert.MoesIdeal.τ).loc Cert.MoesIdeal.main_arg6) = m ((c.tc : Thread Cert.MoesIdeal.nD Cert.MoesIdeal.τ).loc Cert.MoesIdeal.main_arg6)
          ∧ r.2.mem ((c.tc : Thread Cert.MoesIdeal.nD Cert.MoesIdeal.τ).loc Cert.MoesIdeal.main_arg7) = m ((c.tc : Thread Cert.MoesIdeal.nD Cert.MoesIdeal.τ).loc Cert.MoesIdeal.main_arg7))
      ∧ θ_run (Cert.MoesReferenceIdeal.defs (F := Ideal)) (onTc (τ := Cert.MoesReferenceIdeal.τ) (Cert.MoesReferenceIdeal.main (F := Ideal))) ⟨m', fun _ => 0, g'⟩ (fun r => ∀ c : Dev Cert.MoesReferenceIdeal.nD,
          r.2.mem ((c.tc : Thread Cert.MoesReferenceIdeal.nD Cert.MoesReferenceIdeal.τ).loc Cert.MoesReferenceIdeal.main_v46) = v0 c
          ∧ r.2.mem ((c.tc : Thread Cert.MoesReferenceIdeal.nD Cert.MoesReferenceIdeal.τ).loc Cert.MoesReferenceIdeal.main_arg0) = m' ((c.tc : Thread Cert.MoesReferenceIdeal.nD Cert.MoesReferenceIdeal.τ).loc Cert.MoesReferenceIdeal.main_arg0)
          ∧ r.2.mem ((c.tc : Thread Cert.MoesReferenceIdeal.nD Cert.MoesReferenceIdeal.τ).loc Cert.MoesReferenceIdeal.main_arg1) = m' ((c.tc : Thread Cert.MoesReferenceIdeal.nD Cert.MoesReferenceIdeal.τ).loc Cert.MoesReferenceIdeal.main_arg1)
          ∧ r.2.mem ((c.tc : Thread Cert.MoesReferenceIdeal.nD Cert.MoesReferenceIdeal.τ).loc Cert.MoesReferenceIdeal.main_arg2) = m' ((c.tc : Thread Cert.MoesReferenceIdeal.nD Cert.MoesReferenceIdeal.τ).loc Cert.MoesReferenceIdeal.main_arg2)
          ∧ r.2.mem ((c.tc : Thread Cert.MoesReferenceIdeal.nD Cert.MoesReferenceIdeal.τ).loc Cert.MoesReferenceIdeal.main_arg3) = m' ((c.tc : Thread Cert.MoesReferenceIdeal.nD Cert.MoesReferenceIdeal.τ).loc Cert.MoesReferenceIdeal.main_arg3)
          ∧ r.2.mem ((c.tc : Thread Cert.MoesReferenceIdeal.nD Cert.MoesReferenceIdeal.τ).loc Cert.MoesReferenceIdeal.main_arg4) = m' ((c.tc : Thread Cert.MoesReferenceIdeal.nD Cert.MoesReferenceIdeal.τ).loc Cert.MoesReferenceIdeal.main_arg4)
          ∧ r.2.mem ((c.tc : Thread Cert.MoesReferenceIdeal.nD Cert.MoesReferenceIdeal.τ).loc Cert.MoesReferenceIdeal.main_arg5) = m' ((c.tc : Thread Cert.MoesReferenceIdeal.nD Cert.MoesReferenceIdeal.τ).loc Cert.MoesReferenceIdeal.main_arg5)
          ∧ r.2.mem ((c.tc : Thread Cert.MoesReferenceIdeal.nD Cert.MoesReferenceIdeal.τ).loc Cert.MoesReferenceIdeal.main_arg6) = m' ((c.tc : Thread Cert.MoesReferenceIdeal.nD Cert.MoesReferenceIdeal.τ).loc Cert.MoesReferenceIdeal.main_arg6)
          ∧ r.2.mem ((c.tc : Thread Cert.MoesReferenceIdeal.nD Cert.MoesReferenceIdeal.τ).loc Cert.MoesReferenceIdeal.main_arg7) = m' ((c.tc : Thread Cert.MoesReferenceIdeal.nD Cert.MoesReferenceIdeal.τ).loc Cert.MoesReferenceIdeal.main_arg7))

def preserves_Mixp_MixpIdeal : Prop :=
  True

def algebraic_MixpIdeal_MixpReferenceIdeal [hMixpIdeal : Cert.MixpIdeal.Facts] [hMixpReferenceIdeal : Cert.MixpReferenceIdeal.Facts] : Prop :=
  ∀ (m : (ℓ : Loc Cert.MixpIdeal.nD Cert.MixpIdeal.τ Cert.MixpIdeal.sig) → Buf (Elt Ideal) ℓ) (g : Dev Cert.MixpIdeal.nD → PrngReg)
    (m' : (ℓ : Loc Cert.MixpReferenceIdeal.nD Cert.MixpReferenceIdeal.τ Cert.MixpReferenceIdeal.sig) → Buf (Elt Ideal) ℓ) (g' : Dev Cert.MixpReferenceIdeal.nD → PrngReg), Pre_MixpIdeal m →
    (∀ c : Dev Cert.MixpIdeal.nD,
      m' ((c.tc : Thread Cert.MixpReferenceIdeal.nD Cert.MixpReferenceIdeal.τ).loc Cert.MixpReferenceIdeal.main_arg0) = m ((c.tc : Thread Cert.MixpIdeal.nD Cert.MixpIdeal.τ).loc Cert.MixpIdeal.main_arg0)
      ∧ m' ((c.tc : Thread Cert.MixpReferenceIdeal.nD Cert.MixpReferenceIdeal.τ).loc Cert.MixpReferenceIdeal.main_arg1) = m ((c.tc : Thread Cert.MixpIdeal.nD Cert.MixpIdeal.τ).loc Cert.MixpIdeal.main_arg1)
      ∧ m' ((c.tc : Thread Cert.MixpReferenceIdeal.nD Cert.MixpReferenceIdeal.τ).loc Cert.MixpReferenceIdeal.main_arg2) = m ((c.tc : Thread Cert.MixpIdeal.nD Cert.MixpIdeal.τ).loc Cert.MixpIdeal.main_arg2)
      ∧ m' ((c.tc : Thread Cert.MixpReferenceIdeal.nD Cert.MixpReferenceIdeal.τ).loc Cert.MixpReferenceIdeal.main_arg3) = m ((c.tc : Thread Cert.MixpIdeal.nD Cert.MixpIdeal.τ).loc Cert.MixpIdeal.main_arg3)
      ∧ m' ((c.tc : Thread Cert.MixpReferenceIdeal.nD Cert.MixpReferenceIdeal.τ).loc Cert.MixpReferenceIdeal.main_arg4) = m ((c.tc : Thread Cert.MixpIdeal.nD Cert.MixpIdeal.τ).loc Cert.MixpIdeal.main_arg4)
      ∧ m' ((c.tc : Thread Cert.MixpReferenceIdeal.nD Cert.MixpReferenceIdeal.τ).loc Cert.MixpReferenceIdeal.main_arg5) = m ((c.tc : Thread Cert.MixpIdeal.nD Cert.MixpIdeal.τ).loc Cert.MixpIdeal.main_arg5)
      ∧ m' ((c.tc : Thread Cert.MixpReferenceIdeal.nD Cert.MixpReferenceIdeal.τ).loc Cert.MixpReferenceIdeal.main_arg6) = m ((c.tc : Thread Cert.MixpIdeal.nD Cert.MixpIdeal.τ).loc Cert.MixpIdeal.main_arg6)) →
    ∃ (v0 : (c : Dev Cert.MixpIdeal.nD) → Buf (Elt Ideal) ((c.tc : Thread Cert.MixpIdeal.nD Cert.MixpIdeal.τ).loc Cert.MixpIdeal.main_v3_0)) (v1 : (c : Dev Cert.MixpIdeal.nD) → Buf (Elt Ideal) ((c.tc : Thread Cert.MixpIdeal.nD Cert.MixpIdeal.τ).loc Cert.MixpIdeal.main_v3_1)) (v2 : (c : Dev Cert.MixpIdeal.nD) → Buf (Elt Ideal) ((c.tc : Thread Cert.MixpIdeal.nD Cert.MixpIdeal.τ).loc Cert.MixpIdeal.main_v3_2)) (v3 : (c : Dev Cert.MixpIdeal.nD) → Buf (Elt Ideal) ((c.tc : Thread Cert.MixpIdeal.nD Cert.MixpIdeal.τ).loc Cert.MixpIdeal.main_v3_3)),
      θ_run (Cert.MixpIdeal.defs (F := Ideal)) (onTc (τ := Cert.MixpIdeal.τ) (Cert.MixpIdeal.main (F := Ideal))) ⟨m, fun _ => 0, g⟩ (fun r => ∀ c : Dev Cert.MixpIdeal.nD,
          r.2.mem ((c.tc : Thread Cert.MixpIdeal.nD Cert.MixpIdeal.τ).loc Cert.MixpIdeal.main_v3_0) = v0 c
          ∧ r.2.mem ((c.tc : Thread Cert.MixpIdeal.nD Cert.MixpIdeal.τ).loc Cert.MixpIdeal.main_v3_1) = v1 c
          ∧ r.2.mem ((c.tc : Thread Cert.MixpIdeal.nD Cert.MixpIdeal.τ).loc Cert.MixpIdeal.main_v3_2) = v2 c
          ∧ r.2.mem ((c.tc : Thread Cert.MixpIdeal.nD Cert.MixpIdeal.τ).loc Cert.MixpIdeal.main_v3_3) = v3 c
          ∧ r.2.mem ((c.tc : Thread Cert.MixpIdeal.nD Cert.MixpIdeal.τ).loc Cert.MixpIdeal.main_arg0) = m ((c.tc : Thread Cert.MixpIdeal.nD Cert.MixpIdeal.τ).loc Cert.MixpIdeal.main_arg0)
          ∧ r.2.mem ((c.tc : Thread Cert.MixpIdeal.nD Cert.MixpIdeal.τ).loc Cert.MixpIdeal.main_arg1) = m ((c.tc : Thread Cert.MixpIdeal.nD Cert.MixpIdeal.τ).loc Cert.MixpIdeal.main_arg1)
          ∧ r.2.mem ((c.tc : Thread Cert.MixpIdeal.nD Cert.MixpIdeal.τ).loc Cert.MixpIdeal.main_arg2) = m ((c.tc : Thread Cert.MixpIdeal.nD Cert.MixpIdeal.τ).loc Cert.MixpIdeal.main_arg2)
          ∧ r.2.mem ((c.tc : Thread Cert.MixpIdeal.nD Cert.MixpIdeal.τ).loc Cert.MixpIdeal.main_arg3) = m ((c.tc : Thread Cert.MixpIdeal.nD Cert.MixpIdeal.τ).loc Cert.MixpIdeal.main_arg3)
          ∧ r.2.mem ((c.tc : Thread Cert.MixpIdeal.nD Cert.MixpIdeal.τ).loc Cert.MixpIdeal.main_arg4) = m ((c.tc : Thread Cert.MixpIdeal.nD Cert.MixpIdeal.τ).loc Cert.MixpIdeal.main_arg4)
          ∧ r.2.mem ((c.tc : Thread Cert.MixpIdeal.nD Cert.MixpIdeal.τ).loc Cert.MixpIdeal.main_arg5) = m ((c.tc : Thread Cert.MixpIdeal.nD Cert.MixpIdeal.τ).loc Cert.MixpIdeal.main_arg5)
          ∧ r.2.mem ((c.tc : Thread Cert.MixpIdeal.nD Cert.MixpIdeal.τ).loc Cert.MixpIdeal.main_arg6) = m ((c.tc : Thread Cert.MixpIdeal.nD Cert.MixpIdeal.τ).loc Cert.MixpIdeal.main_arg6))
      ∧ θ_run (Cert.MixpReferenceIdeal.defs (F := Ideal)) (onTc (τ := Cert.MixpReferenceIdeal.τ) (Cert.MixpReferenceIdeal.main (F := Ideal))) ⟨m', fun _ => 0, g'⟩ (fun r => ∀ c : Dev Cert.MixpReferenceIdeal.nD,
          r.2.mem ((c.tc : Thread Cert.MixpReferenceIdeal.nD Cert.MixpReferenceIdeal.τ).loc Cert.MixpReferenceIdeal.main_v299) = v0 c
          ∧ r.2.mem ((c.tc : Thread Cert.MixpReferenceIdeal.nD Cert.MixpReferenceIdeal.τ).loc Cert.MixpReferenceIdeal.main_v301) = v1 c
          ∧ r.2.mem ((c.tc : Thread Cert.MixpReferenceIdeal.nD Cert.MixpReferenceIdeal.τ).loc Cert.MixpReferenceIdeal.main_v302) = v2 c
          ∧ r.2.mem ((c.tc : Thread Cert.MixpReferenceIdeal.nD Cert.MixpReferenceIdeal.τ).loc Cert.MixpReferenceIdeal.main_v303) = v3 c
          ∧ r.2.mem ((c.tc : Thread Cert.MixpReferenceIdeal.nD Cert.MixpReferenceIdeal.τ).loc Cert.MixpReferenceIdeal.main_arg0) = m' ((c.tc : Thread Cert.MixpReferenceIdeal.nD Cert.MixpReferenceIdeal.τ).loc Cert.MixpReferenceIdeal.main_arg0)
          ∧ r.2.mem ((c.tc : Thread Cert.MixpReferenceIdeal.nD Cert.MixpReferenceIdeal.τ).loc Cert.MixpReferenceIdeal.main_arg1) = m' ((c.tc : Thread Cert.MixpReferenceIdeal.nD Cert.MixpReferenceIdeal.τ).loc Cert.MixpReferenceIdeal.main_arg1)
          ∧ r.2.mem ((c.tc : Thread Cert.MixpReferenceIdeal.nD Cert.MixpReferenceIdeal.τ).loc Cert.MixpReferenceIdeal.main_arg2) = m' ((c.tc : Thread Cert.MixpReferenceIdeal.nD Cert.MixpReferenceIdeal.τ).loc Cert.MixpReferenceIdeal.main_arg2)
          ∧ r.2.mem ((c.tc : Thread Cert.MixpReferenceIdeal.nD Cert.MixpReferenceIdeal.τ).loc Cert.MixpReferenceIdeal.main_arg3) = m' ((c.tc : Thread Cert.MixpReferenceIdeal.nD Cert.MixpReferenceIdeal.τ).loc Cert.MixpReferenceIdeal.main_arg3)
          ∧ r.2.mem ((c.tc : Thread Cert.MixpReferenceIdeal.nD Cert.MixpReferenceIdeal.τ).loc Cert.MixpReferenceIdeal.main_arg4) = m' ((c.tc : Thread Cert.MixpReferenceIdeal.nD Cert.MixpReferenceIdeal.τ).loc Cert.MixpReferenceIdeal.main_arg4)
          ∧ r.2.mem ((c.tc : Thread Cert.MixpReferenceIdeal.nD Cert.MixpReferenceIdeal.τ).loc Cert.MixpReferenceIdeal.main_arg5) = m' ((c.tc : Thread Cert.MixpReferenceIdeal.nD Cert.MixpReferenceIdeal.τ).loc Cert.MixpReferenceIdeal.main_arg5)
          ∧ r.2.mem ((c.tc : Thread Cert.MixpReferenceIdeal.nD Cert.MixpReferenceIdeal.τ).loc Cert.MixpReferenceIdeal.main_arg6) = m' ((c.tc : Thread Cert.MixpReferenceIdeal.nD Cert.MixpReferenceIdeal.τ).loc Cert.MixpReferenceIdeal.main_arg6))

def preserves_Inprojs_InprojsIdeal : Prop :=
  True

def algebraic_InprojsIdeal_InprojsReferenceIdeal [hInprojsIdeal : Cert.InprojsIdeal.Facts] [hInprojsReferenceIdeal : Cert.InprojsReferenceIdeal.Facts] : Prop :=
  ∀ (m : (ℓ : Loc Cert.InprojsIdeal.nD Cert.InprojsIdeal.τ Cert.InprojsIdeal.sig) → Buf (Elt Ideal) ℓ) (g : Dev Cert.InprojsIdeal.nD → PrngReg)
    (m' : (ℓ : Loc Cert.InprojsReferenceIdeal.nD Cert.InprojsReferenceIdeal.τ Cert.InprojsReferenceIdeal.sig) → Buf (Elt Ideal) ℓ) (g' : Dev Cert.InprojsReferenceIdeal.nD → PrngReg), Pre_InprojsIdeal m →
    (∀ c : Dev Cert.InprojsIdeal.nD,
      m' ((c.tc : Thread Cert.InprojsReferenceIdeal.nD Cert.InprojsReferenceIdeal.τ).loc Cert.InprojsReferenceIdeal.main_arg0) = m ((c.tc : Thread Cert.InprojsIdeal.nD Cert.InprojsIdeal.τ).loc Cert.InprojsIdeal.main_arg0)
      ∧ m' ((c.tc : Thread Cert.InprojsReferenceIdeal.nD Cert.InprojsReferenceIdeal.τ).loc Cert.InprojsReferenceIdeal.main_arg1) = m ((c.tc : Thread Cert.InprojsIdeal.nD Cert.InprojsIdeal.τ).loc Cert.InprojsIdeal.main_arg1)) →
    ∃ (v0 : (c : Dev Cert.InprojsIdeal.nD) → Buf (Elt Ideal) ((c.tc : Thread Cert.InprojsIdeal.nD Cert.InprojsIdeal.τ).loc Cert.InprojsIdeal.main_v1_0)) (v1 : (c : Dev Cert.InprojsIdeal.nD) → Buf (Elt Ideal) ((c.tc : Thread Cert.InprojsIdeal.nD Cert.InprojsIdeal.τ).loc Cert.InprojsIdeal.main_v1_1)) (v2 : (c : Dev Cert.InprojsIdeal.nD) → Buf (Elt Ideal) ((c.tc : Thread Cert.InprojsIdeal.nD Cert.InprojsIdeal.τ).loc Cert.InprojsIdeal.main_v1_2)) (v3 : (c : Dev Cert.InprojsIdeal.nD) → Buf (Elt Ideal) ((c.tc : Thread Cert.InprojsIdeal.nD Cert.InprojsIdeal.τ).loc Cert.InprojsIdeal.main_v1_3)) (v4 : (c : Dev Cert.InprojsIdeal.nD) → Buf (Elt Ideal) ((c.tc : Thread Cert.InprojsIdeal.nD Cert.InprojsIdeal.τ).loc Cert.InprojsIdeal.main_v1_4)),
      θ_run (Cert.InprojsIdeal.defs (F := Ideal)) (onTc (τ := Cert.InprojsIdeal.τ) (Cert.InprojsIdeal.main (F := Ideal))) ⟨m, fun _ => 0, g⟩ (fun r => ∀ c : Dev Cert.InprojsIdeal.nD,
          r.2.mem ((c.tc : Thread Cert.InprojsIdeal.nD Cert.InprojsIdeal.τ).loc Cert.InprojsIdeal.main_v1_0) = v0 c
          ∧ r.2.mem ((c.tc : Thread Cert.InprojsIdeal.nD Cert.InprojsIdeal.τ).loc Cert.InprojsIdeal.main_v1_1) = v1 c
          ∧ r.2.mem ((c.tc : Thread Cert.InprojsIdeal.nD Cert.InprojsIdeal.τ).loc Cert.InprojsIdeal.main_v1_2) = v2 c
          ∧ r.2.mem ((c.tc : Thread Cert.InprojsIdeal.nD Cert.InprojsIdeal.τ).loc Cert.InprojsIdeal.main_v1_3) = v3 c
          ∧ r.2.mem ((c.tc : Thread Cert.InprojsIdeal.nD Cert.InprojsIdeal.τ).loc Cert.InprojsIdeal.main_v1_4) = v4 c
          ∧ r.2.mem ((c.tc : Thread Cert.InprojsIdeal.nD Cert.InprojsIdeal.τ).loc Cert.InprojsIdeal.main_arg0) = m ((c.tc : Thread Cert.InprojsIdeal.nD Cert.InprojsIdeal.τ).loc Cert.InprojsIdeal.main_arg0)
          ∧ r.2.mem ((c.tc : Thread Cert.InprojsIdeal.nD Cert.InprojsIdeal.τ).loc Cert.InprojsIdeal.main_arg1) = m ((c.tc : Thread Cert.InprojsIdeal.nD Cert.InprojsIdeal.τ).loc Cert.InprojsIdeal.main_arg1))
      ∧ θ_run (Cert.InprojsReferenceIdeal.defs (F := Ideal)) (onTc (τ := Cert.InprojsReferenceIdeal.τ) (Cert.InprojsReferenceIdeal.main (F := Ideal))) ⟨m', fun _ => 0, g'⟩ (fun r => ∀ c : Dev Cert.InprojsReferenceIdeal.nD,
          r.2.mem ((c.tc : Thread Cert.InprojsReferenceIdeal.nD Cert.InprojsReferenceIdeal.τ).loc Cert.InprojsReferenceIdeal.main_v12) = v0 c
          ∧ r.2.mem ((c.tc : Thread Cert.InprojsReferenceIdeal.nD Cert.InprojsReferenceIdeal.τ).loc Cert.InprojsReferenceIdeal.main_v16) = v1 c
          ∧ r.2.mem ((c.tc : Thread Cert.InprojsReferenceIdeal.nD Cert.InprojsReferenceIdeal.τ).loc Cert.InprojsReferenceIdeal.main_v17) = v2 c
          ∧ r.2.mem ((c.tc : Thread Cert.InprojsReferenceIdeal.nD Cert.InprojsReferenceIdeal.τ).loc Cert.InprojsReferenceIdeal.main_v18) = v3 c
          ∧ r.2.mem ((c.tc : Thread Cert.InprojsReferenceIdeal.nD Cert.InprojsReferenceIdeal.τ).loc Cert.InprojsReferenceIdeal.main_v20) = v4 c
          ∧ r.2.mem ((c.tc : Thread Cert.InprojsReferenceIdeal.nD Cert.InprojsReferenceIdeal.τ).loc Cert.InprojsReferenceIdeal.main_arg0) = m' ((c.tc : Thread Cert.InprojsReferenceIdeal.nD Cert.InprojsReferenceIdeal.τ).loc Cert.InprojsReferenceIdeal.main_arg0)
          ∧ r.2.mem ((c.tc : Thread Cert.InprojsReferenceIdeal.nD Cert.InprojsReferenceIdeal.τ).loc Cert.InprojsReferenceIdeal.main_arg1) = m' ((c.tc : Thread Cert.InprojsReferenceIdeal.nD Cert.InprojsReferenceIdeal.τ).loc Cert.InprojsReferenceIdeal.main_arg1))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hMixs : Cert.Mixs.Facts) (hMixsIdeal : Cert.MixsIdeal.Facts) (hMixsReferenceIdeal : Cert.MixsReferenceIdeal.Facts) (hMoes : Cert.Moes.Facts) (hMoesIdeal : Cert.MoesIdeal.Facts) (hMoesReferenceIdeal : Cert.MoesReferenceIdeal.Facts) (hMixp : Cert.Mixp.Facts) (hMixpIdeal : Cert.MixpIdeal.Facts) (hMixpReferenceIdeal : Cert.MixpReferenceIdeal.Facts) (hInprojs : Cert.Inprojs.Facts) (hInprojsIdeal : Cert.InprojsIdeal.Facts) (hInprojsReferenceIdeal : Cert.InprojsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe)
    ∧ quiescent_MoeIdeal (hMoeIdeal := hMoeIdeal)
    ∧ quiescent_MoeReferenceIdeal (hMoeReferenceIdeal := hMoeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Mixs (hMixs := hMixs)
    ∧ quiescent_MixsIdeal (hMixsIdeal := hMixsIdeal)
    ∧ quiescent_MixsReferenceIdeal (hMixsReferenceIdeal := hMixsReferenceIdeal)
    ∧ quiescent_Moes (hMoes := hMoes)
    ∧ quiescent_MoesIdeal (hMoesIdeal := hMoesIdeal)
    ∧ quiescent_MoesReferenceIdeal (hMoesReferenceIdeal := hMoesReferenceIdeal)
    ∧ quiescent_Mixp (hMixp := hMixp)
    ∧ quiescent_MixpIdeal (hMixpIdeal := hMixpIdeal)
    ∧ quiescent_MixpReferenceIdeal (hMixpReferenceIdeal := hMixpReferenceIdeal)
    ∧ quiescent_Inprojs (hInprojs := hInprojs)
    ∧ quiescent_InprojsIdeal (hInprojsIdeal := hInprojsIdeal)
    ∧ quiescent_InprojsReferenceIdeal (hInprojsReferenceIdeal := hInprojsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeReferenceIdeal (hMoeIdeal := hMoeIdeal) (hMoeReferenceIdeal := hMoeReferenceIdeal)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Mixs_MixsIdeal
    ∧ algebraic_MixsIdeal_MixsReferenceIdeal (hMixsIdeal := hMixsIdeal) (hMixsReferenceIdeal := hMixsReferenceIdeal)
    ∧ preserves_Moes_MoesIdeal
    ∧ algebraic_MoesIdeal_MoesReferenceIdeal (hMoesIdeal := hMoesIdeal) (hMoesReferenceIdeal := hMoesReferenceIdeal)
    ∧ preserves_Mixp_MixpIdeal
    ∧ algebraic_MixpIdeal_MixpReferenceIdeal (hMixpIdeal := hMixpIdeal) (hMixpReferenceIdeal := hMixpReferenceIdeal)
    ∧ preserves_Inprojs_InprojsIdeal
    ∧ algebraic_InprojsIdeal_InprojsReferenceIdeal (hInprojsIdeal := hInprojsIdeal) (hInprojsReferenceIdeal := hInprojsReferenceIdeal)
-- ==== Pre_finite.lean ====
abbrev S8192x1024 : Shape := ⟨2, ![8192, 1024]⟩
abbrev S8 : Shape := ⟨1, ![8]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8 : S_.BroadcastsInDim S8 (![] : Fin 0 → Fin S8.rank)

variable [Facts]

def fn {F : FTy → Type} [FloatOps F] (main_arg0 : FVec F S8192x1024 .bf16) (main_arg1 : FVec F S8192x1024 .f32) (main_arg2 : FVec F S8192x1024 .f32) (main_arg3 : FVec F S8 .f32) : IVec S8192x1024 1 × IVec S8192x1024 1 × IVec S8 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8 .f32 := Host.absf main_arg3
  let main_cst_1 : FVec F S_ .f32 := constant S_ .f32 0x7F800000#32
  let main_v8 : FVec F S8 .f32 := broadcastInDim S8 ![] bcast_S_S8 main_cst_1
  let main_v9 : IVec S8 1 := cmpf .olt main_v7 main_v8
  (main_v3, main_v6, main_v9)
-- ==== Kernel.lean ====
abbrev S8192x1024 : Shape := ⟨2, ![8192, 1024]⟩
abbrev S8 : Shape := ⟨1, ![8]⟩
abbrev S256x256 : Shape := ⟨2, ![256, 256]⟩
abbrev S512x128 : Shape := ⟨2, ![512, 128]⟩
abbrev S4096x128 : Shape := ⟨2, ![4096, 128]⟩
abbrev S1 : Shape := ⟨1, ![1]⟩
abbrev S512x1 : Shape := ⟨2, ![512, 1]⟩
abbrev S256x128 : Shape := ⟨2, ![256, 128]⟩
abbrev S512x256 : Shape := ⟨2, ![512, 256]⟩
abbrev S512 : Shape := ⟨1, ![512]⟩

abbrev nBuf : Space → Nat
  | .hbm => 9
  | .vmem => 11
  | .smem => 1
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x256, .bf16⟩
  | .local _ .vmem, ⟨7, _⟩ => ⟨S512x128, .bf16⟩
  | .local _ .vmem, ⟨8, _⟩ => ⟨S512x128, .bf16⟩
  | .local _ .vmem, ⟨9, _⟩ => ⟨S4096x128, .bf16⟩
  | .local _ .vmem, ⟨10, _⟩ => ⟨S4096x128, .bf16⟩
  | .local _ .smem, ⟨0, _⟩ => ⟨S8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 1 → Nat :=
  let arg1 : BitVec 32 := BitVec.ofNat 32 (i 1).val
  let v3 : Index := Scalar.indexCast arg1
  ![v3.toNat]
def k0_mult1 (i : grid0.Coords) : BitVec 32 :=
  let arg2 : BitVec 32 := BitVec.ofNat 32 (i 2).val
  let c1_i32 : BitVec 32 := 1#32
  let v10 : BitVec 32 := Scalar.addi arg2 c1_i32
  let c2_i32 : BitVec 32 := 2#32
  let v11 : BitVec 32 := Scalar.muli v10 c2_i32
  let c1_i32_5 : BitVec 32 := 1#32
  let v12 : BitVec 32 := Scalar.subi v11 c1_i32_5
  let c0_i32_6 : BitVec 32 := 0#32
  let v13 : BitVec 32 := Scalar.subi v12 c0_i32_6
  let c256_i32 : BitVec 32 := 256#32
  let v14 : BitVec 32 := Scalar.muli v13 c256_i32
  v14
def k0_off2 (i : grid0.Coords) (c0_i32_6 : BitVec 32) : Fin 2 → Nat :=
  let arg2 : BitVec 32 := BitVec.ofNat 32 (i 2).val
  let c1_i32 : BitVec 32 := 1#32
  let v10 : BitVec 32 := Scalar.addi arg2 c1_i32
  let c2_i32 : BitVec 32 := 2#32
  let v11 : BitVec 32 := Scalar.muli v10 c2_i32
  let c1_i32_5 : BitVec 32 := 1#32
  let v12 : BitVec 32 := Scalar.subi v11 c1_i32_5
  let v13 : BitVec 32 := Scalar.subi v12 c0_i32_6
  let c256_i32 : BitVec 32 := 256#32
  let v14 : BitVec 32 := Scalar.muli v13 c256_i32
  let v15 : BitVec 32 := v14
  let v16 : Index := Scalar.indexCast v15
  let c0_7 : Index := 0#32
  ![v16.toNat, 0]
def k0_mult2 (i : grid0.Coords) : BitVec 32 :=
  let arg2 : BitVec 32 := BitVec.ofNat 32 (i 2).val
  let c1_i32_20 : BitVec 32 := 1#32
  let v63 : BitVec 32 := Scalar.addi arg2 c1_i32_20
  let c2_i32_21 : BitVec 32 := 2#32
  let v64 : BitVec 32 := Scalar.muli v63 c2_i32_21
  let c1_i32_22 : BitVec 32 := 1#32
  let v65 : BitVec 32 := Scalar.subi v64 c1_i32_22
  let c1_i32_23 : BitVec 32 := 1#32
  let v66 : BitVec 32 := Scalar.subi v65 c1_i32_23
  let c256_i32_24 : BitVec 32 := 256#32
  let v67 : BitVec 32 := Scalar.muli v66 c256_i32_24
  v67
@[reducible] def k0_t1_loop (i : grid0.Coords) : Scf.Loop 32 :=
  let c0_i32_40 : BitVec 32 := 0#32
  let arg2 : BitVec 32 := BitVec.ofNat 32 (i 2).val
  let c2_i32_39 : BitVec 32 := 2#32
  let v116 : BitVec 32 := Scalar.muli arg2 c2_i32_39
  let v117 : BitVec 32 := Scalar.subi v116 c0_i32_40
  let c1_i32_41 : BitVec 32 := 1#32
  let v119 : BitVec 32 := Scalar.divsi v117 c1_i32_41
  let v120 : BitVec 32 := Scalar.muli v119 c1_i32_41
  let v121 : BitVec 32 := Scalar.addi c0_i32_40 v120
  let c1_i32_42 : BitVec 32 := 1#32
  ⟨c0_i32_40, v121, c1_i32_42⟩
def k0_mult3 (i : grid0.Coords) (k0_t1 : Fin (k0_t1_loop i).trips) : BitVec 32 :=
  let arg2 : BitVec 32 := BitVec.ofNat 32 (i 2).val
  let c2_i32_46 : BitVec 32 := 2#32
  let v126 : BitVec 32 := Scalar.muli arg2 c2_i32_46
  let c1_i32_47 : BitVec 32 := 1#32
  let v127 : BitVec 32 := Scalar.subi v126 c1_i32_47
  let c0_i32_40 : BitVec 32 := 0#32
  let c1_i32_42 : BitVec 32 := 1#32
  let arg11 : BitVec 32 := Scf.iv c0_i32_40 c1_i32_42 k0_t1
  let v128 : BitVec 32 := Scalar.subi v127 arg11
  let c256_i32_48 : BitVec 32 := 256#32
  let v129 : BitVec 32 := Scalar.muli v128 c256_i32_48
  v129
def k0_off3 (i : grid0.Coords) (k0_t1 : Fin (k0_t1_loop i).trips) : Fin 2 → Nat :=
  let arg2 : BitVec 32 := BitVec.ofNat 32 (i 2).val
  let c2_i32_46 : BitVec 32 := 2#32
  let v126 : BitVec 32 := Scalar.muli arg2 c2_i32_46
  let c1_i32_47 : BitVec 32 := 1#32
  let v127 : BitVec 32 := Scalar.subi v126 c1_i32_47
  let c0_i32_40 : BitVec 32 := 0#32
  let c1_i32_42 : BitVec 32 := 1#32
  let arg11 : BitVec 32 := Scf.iv c0_i32_40 c1_i32_42 k0_t1
  let v128 : BitVec 32 := Scalar.subi v127 arg11
  let c256_i32_48 : BitVec 32 := 256#32
  let v129 : BitVec 32 := Scalar.muli v128 c256_i32_48
  let v130 : BitVec 32 := v129
  let v131 : Index := Scalar.indexCast v130
  let c0_49 : Index := 0#32
  ![v131.toNat, 0]
@[reducible] def k0_t2_loop (i : grid0.Coords) : Scf.Loop 32 :=
  let c0_i32_40 : BitVec 32 := 0#32
  let arg2 : BitVec 32 := BitVec.ofNat 32 (i 2).val
  let c2_i32_39 : BitVec 32 := 2#32
  let v116 : BitVec 32 := Scalar.muli arg2 c2_i32_39
  let v117 : BitVec 32 := Scalar.subi v116 c0_i32_40
  let c1_i32_41 : BitVec 32 := 1#32
  let v119 : BitVec 32 := Scalar.divsi v117 c1_i32_41
  let v120 : BitVec 32 := Scalar.muli v119 c1_i32_41
  let v121 : BitVec 32 := Scalar.addi c0_i32_40 v120
  let v118 : BitVec 32 := Scalar.addi c0_i32_40 v117
  let c1_i32_43 : BitVec 32 := 1#32
  ⟨v121, v118, c1_i32_43⟩
def k0_mult4 (i : grid0.Coords) (k0_t2 : Fin (k0_t2_loop i).trips) : BitVec 32 :=
  let arg2 : BitVec 32 := BitVec.ofNat 32 (i 2).val
  let c2_i32_46 : BitVec 32 := 2#32
  let v126 : BitVec 32 := Scalar.muli arg2 c2_i32_46
  let c1_i32_47 : BitVec 32 := 1#32
  let v127 : BitVec 32 := Scalar.subi v126 c1_i32_47
  let c0_i32_40 : BitVec 32 := 0#32
  let c2_i32_39 : BitVec 32 := 2#32
  let v116 : BitVec 32 := Scalar.muli arg2 c2_i32_39
  let v117 : BitVec 32 := Scalar.subi v116 c0_i32_40
  let c1_i32_41 : BitVec 32 := 1#32
  let v119 : BitVec 32 := Scalar.divsi v117 c1_i32_41
  let v120 : BitVec 32 := Scalar.muli v119 c1_i32_41
  let v121 : BitVec 32 := Scalar.addi c0_i32_40 v120
  let c1_i32_43 : BitVec 32 := 1#32
  let arg11 : BitVec 32 := Scf.iv v121 c1_i32_43 k0_t2
  let v128 : BitVec 32 := Scalar.subi v127 arg11
  let c256_i32_48 : BitVec 32 := 256#32
  let v129 : BitVec 32 := Scalar.muli v128 c256_i32_48
  v129
def k0_off4 (i : grid0.Coords) (k0_t2 : Fin (k0_t2_loop i).trips) : Fin 2 → Nat :=
  let arg2 : BitVec 32 := BitVec.ofNat 32 (i 2).val
  let c2_i32_46 : BitVec 32 := 2#32
  let v126 : BitVec 32 := Scalar.muli arg2 c2_i32_46
  let c1_i32_47 : BitVec 32 := 1#32
  let v127 : BitVec 32 := Scalar.subi v126 c1_i32_47
  let c0_i32_40 : BitVec 32 := 0#32
  let c2_i32_39 : BitVec 32 := 2#32
  let v116 : BitVec 32 := Scalar.muli arg2 c2_i32_39
  let v117 : BitVec 32 := Scalar.subi v116 c0_i32_40
  let c1_i32_41 : BitVec 32 := 1#32
  let v119 : BitVec 32 := Scalar.divsi v117 c1_i32_41
  let v120 : BitVec 32 := Scalar.muli v119 c1_i32_41
  let v121 : BitVec 32 := Scalar.addi c0_i32_40 v120
  let c1_i32_43 : BitVec 32 := 1#32
  let arg11 : BitVec 32 := Scf.iv v121 c1_i32_43 k0_t2
  let v128 : BitVec 32 := Scalar.subi v127 arg11
  let c256_i32_48 : BitVec 32 := 256#32
  let v129 : BitVec 32 := Scalar.muli v128 c256_i32_48
  let v130 : BitVec 32 := v129
  let v131 : Index := Scalar.indexCast v130
  let c0_49 : Index := 0#32
  ![v131.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8192x1024 : Shape := ⟨2, ![8192, 1024]⟩
abbrev S8 : Shape := ⟨1, ![8]⟩
abbrev S4096 : Shape := ⟨1, ![4096]⟩
abbrev S2x4096x8x128 : Shape := ⟨4, ![2, 4096, 8, 128]⟩
abbrev S2x8x4096x4096 : Shape := ⟨4, ![2, 8, 4096, 4096]⟩
abbrev S1x8x1x1 : Shape := ⟨4, ![1, 8, 1, 1]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x128x4096 : Shape := ⟨4, ![2, 8, 128, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8, .f32⟩
  | .hbm, ⟨4, _⟩ => ⟨S4096, .i32⟩
  | .hbm, ⟨5, _⟩ => ⟨S8192x1024, .f32⟩
  | .hbm, ⟨6, _⟩ => ⟨S2x4096x8x128, .f32⟩
  | .hbm, ⟨7, _⟩ => ⟨S2x4096x8x128, .f32⟩
  | .hbm, ⟨8, _⟩ => ⟨S2x4096x8x128, .f32⟩
  | .hbm, ⟨9, _⟩ => ⟨S2x8x4096x4096, .f32⟩
  | .hbm, ⟨10, _⟩ => ⟨S1x8x1x1, .f32⟩
  | .hbm, ⟨11, _⟩ => ⟨S2x8x4096x4096, .f32⟩
  | .hbm, ⟨12, _⟩ => ⟨S2x8x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S2x8x4096x4096, .f32⟩
  | .hbm, ⟨20, _⟩ => ⟨S2x8x4096x4096, .f32⟩
  | .hbm, ⟨21, _⟩ => ⟨S2x8x4096x4096, .f32⟩
  | .hbm, ⟨22, _⟩ => ⟨S2x8x4096x4096, .f32⟩
  | .hbm, ⟨23, _⟩ => ⟨S2x8x4096x4096, .i1⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S_, .f32⟩
  | .hbm, ⟨34, _⟩ => ⟨S2x8x4096x4096, .i1⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S_, .f32⟩
  | .hbm, ⟨39, _⟩ => ⟨S2x8x4096x4096, .f32⟩
  | .hbm, ⟨40, _⟩ => ⟨S2x8x4096x4096, .f32⟩
  | .hbm, ⟨41, _⟩ => ⟨S2x8x4096x4096, .f32⟩
  | .hbm, ⟨42, _⟩ => ⟨S_, .f32⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S2x8x4096x4096, .f32⟩
  | .hbm, ⟨47, _⟩ => ⟨S2x8x4096x4096, .i1⟩
  | .hbm, ⟨48, _⟩ => ⟨S2x8x4096x4096, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .f32⟩
  | .hbm, ⟨52, _⟩ => ⟨S2x8x4096x4096, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S2x8x4096x4096, .f32⟩
  | .hbm, ⟨58, _⟩ => ⟨S2x8x4096x4096, .f32⟩
  | .hbm, ⟨59, _⟩ => ⟨S_, .f32⟩
  | .hbm, ⟨60, _⟩ => ⟨S_, .f32⟩
  | .hbm, ⟨61, _⟩ => ⟨S2x8x4096x4096, .i1⟩
  | .hbm, ⟨62, _⟩ => ⟨S2x8x4096x4096, .f32⟩
  | .hbm, ⟨63, _⟩ => ⟨S2x8x4096x4096, .f32⟩
  | .hbm, ⟨64, _⟩ => ⟨S2x8x128x4096, .f32⟩
  | .hbm, ⟨65, _⟩ => ⟨S2x4096x8x128, .f32⟩
  | .hbm, ⟨66, _⟩ => ⟨S8192x1024, .f32⟩
  | .hbm, ⟨67, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v14 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_v16 : Ref sig .tc := ⟨.hbm, 39, rfl⟩
abbrev main_v17 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_0 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩

abbrev nD : Nat := 1
abbrev τ : Topo := Topo.v7x

variable {F : FTy → Type} [FloatOps F]
-- ==== Moe.lean ====
abbrev S8192x2048 : Shape := ⟨2, ![8192, 2048]⟩
abbrev S8192x128 : Shape := ⟨2, ![8192, 128]⟩
abbrev S2x16x2048x512 : Shape := ⟨4, ![2, 16, 2048, 512]⟩
abbrev S2x16x512x2048 : Shape := ⟨4, ![2, 16, 512, 2048]⟩
abbrev S2x2048 : Shape := ⟨2, ![2, 2048]⟩
abbrev S2x1x2048 : Shape := ⟨3, ![2, 1, 2048]⟩
abbrev S512x2048 : Shape := ⟨2, ![512, 2048]⟩
abbrev S512x128 : Shape := ⟨2, ![512, 128]⟩
abbrev S1x1x2048x512 : Shape := ⟨4, ![1, 1, 2048, 512]⟩
abbrev S1x1x512x2048 : Shape := ⟨4, ![1, 1, 512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S1x2048 : Shape := ⟨2, ![1, 2048]⟩

abbrev nBuf : Space → Nat
  | .hbm => 14
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x128, .f32⟩
  | .hbm, ⟨3, _⟩ => ⟨S2x16x2048x512, .f32⟩
  | .hbm, ⟨4, _⟩ => ⟨S2x16x2048x512, .f32⟩
  | .hbm, ⟨5, _⟩ => ⟨S2x16x512x2048, .f32⟩
  | .hbm, ⟨6, _⟩ => ⟨S2x2048, .f32⟩
  | .hbm, ⟨7, _⟩ => ⟨S2x2048, .f32⟩
  | .hbm, ⟨8, _⟩ => ⟨S2x16x2048x512, .bf16⟩
  | .hbm, ⟨9, _⟩ => ⟨S2x16x2048x512, .bf16⟩
  | .hbm, ⟨10, _⟩ => ⟨S2x16x512x2048, .bf16⟩
  | .hbm, ⟨11, _⟩ => ⟨S2x1x2048, .f32⟩
  | .hbm, ⟨12, _⟩ => ⟨S2x1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x128, .f32⟩
  | .local _ .vmem, ⟨5, _⟩ => ⟨S512x128, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x512x2048, .bf16⟩
  | .local _ .vmem, ⟨11, _⟩ => ⟨S1x1x512x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_24 : BitVec 32 := 0#32
  let v34 : BitVec 1 := Scalar.cmpi .ne v33 c0_i32_24
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeIdeal.lean ====
abbrev S8192x2048 : Shape := ⟨2, ![8192, 2048]⟩
abbrev S8192x128 : Shape := ⟨2, ![8192, 128]⟩
abbrev S2x16x2048x512 : Shape := ⟨4, ![2, 16, 2048, 512]⟩
abbrev S2x16x512x2048 : Shape := ⟨4, ![2, 16, 512, 2048]⟩
abbrev S2x2048 : Shape := ⟨2, ![2, 2048]⟩
abbrev S2x1x2048 : Shape := ⟨3, ![2, 1, 2048]⟩
abbrev S512x2048 : Shape := ⟨2, ![512, 2048]⟩
abbrev S512x128 : Shape := ⟨2, ![512, 128]⟩
abbrev S1x1x2048x512 : Shape := ⟨4, ![1, 1, 2048, 512]⟩
abbrev S1x1x512x2048 : Shape := ⟨4, ![1, 1, 512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S1x2048 : Shape := ⟨2, ![1, 2048]⟩

abbrev nBuf : Space → Nat
  | .hbm => 14
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x128, .f32⟩
  | .hbm, ⟨3, _⟩ => ⟨S2x16x2048x512, .f32⟩
  | .hbm, ⟨4, _⟩ => ⟨S2x16x2048x512, .f32⟩
  | .hbm, ⟨5, _⟩ => ⟨S2x16x512x2048, .f32⟩
  | .hbm, ⟨6, _⟩ => ⟨S2x2048, .f32⟩
  | .hbm, ⟨7, _⟩ => ⟨S2x2048, .f32⟩
  | .hbm, ⟨8, _⟩ => ⟨S2x16x2048x512, .bf16⟩
  | .hbm, ⟨9, _⟩ => ⟨S2x16x2048x512, .bf16⟩
  | .hbm, ⟨10, _⟩ => ⟨S2x16x512x2048, .bf16⟩
  | .hbm, ⟨11, _⟩ => ⟨S2x1x2048, .f32⟩
  | .hbm, ⟨12, _⟩ => ⟨S2x1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x128, .f32⟩
  | .local _ .vmem, ⟨5, _⟩ => ⟨S512x128, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x512x2048, .bf16⟩
  | .local _ .vmem, ⟨11, _⟩ => ⟨S1x1x512x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_24 : BitVec 32 := 0#32
  let v34 : BitVec 1 := Scalar.cmpi .ne v33 c0_i32_24
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeReferenceIdeal.lean ====
abbrev S8192x2048 : Shape := ⟨2, ![8192, 2048]⟩
abbrev S8192x128 : Shape := ⟨2, ![8192, 128]⟩
abbrev S2x16x2048x512 : Shape := ⟨4, ![2, 16, 2048, 512]⟩
abbrev S2x16x512x2048 : Shape := ⟨4, ![2, 16, 512, 2048]⟩
abbrev S2x2048 : Shape := ⟨2, ![2, 2048]⟩
abbrev S8192x16 : Shape := ⟨2, ![8192, 16]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S8192x16x512 : Shape := ⟨3, ![8192, 16, 512]⟩
abbrev S_ : Shape := ⟨0, ![]⟩
abbrev S8192x16x1 : Shape := ⟨3, ![8192, 16, 1]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x128, .f32⟩
  | .hbm, ⟨3, _⟩ => ⟨S2x16x2048x512, .f32⟩
  | .hbm, ⟨4, _⟩ => ⟨S2x16x2048x512, .f32⟩
  | .hbm, ⟨5, _⟩ => ⟨S2x16x512x2048, .f32⟩
  | .hbm, ⟨6, _⟩ => ⟨S2x2048, .f32⟩
  | .hbm, ⟨7, _⟩ => ⟨S2x2048, .f32⟩
  | .hbm, ⟨8, _⟩ => ⟨S8192x2048, .f32⟩
  | .hbm, ⟨9, _⟩ => ⟨S8192x16, .f32⟩
  | .hbm, ⟨10, _⟩ => ⟨S1x16x2048x512, .f32⟩
  | .hbm, ⟨11, _⟩ => ⟨S16x2048x512, .f32⟩
  | .hbm, ⟨12, _⟩ => ⟨S1x16x2048x512, .f32⟩
  | .hbm, ⟨13, _⟩ => ⟨S16x2048x512, .f32⟩
  | .hbm, ⟨14, _⟩ => ⟨S1x16x512x2048, .f32⟩
  | .hbm, ⟨15, _⟩ => ⟨S16x512x2048, .f32⟩
  | .hbm, ⟨16, _⟩ => ⟨S8192x16x512, .f32⟩
  | .hbm, ⟨17, _⟩ => ⟨S8192x16x512, .f32⟩
  | .hbm, ⟨18, _⟩ => ⟨S8192x16x512, .f32⟩
  | .hbm, ⟨19, _⟩ => ⟨S_, .f32⟩
  | .hbm, ⟨20, _⟩ => ⟨S8192x16x512, .f32⟩
  | .hbm, ⟨21, _⟩ => ⟨S8192x16x512, .f32⟩
  | .hbm, ⟨22, _⟩ => ⟨S_, .f32⟩
  | .hbm, ⟨23, _⟩ => ⟨S8192x16x512, .f32⟩
  | .hbm, ⟨24, _⟩ => ⟨S8192x16x512, .f32⟩
  | .hbm, ⟨25, _⟩ => ⟨S8192x16x512, .f32⟩
  | .hbm, ⟨26, _⟩ => ⟨S8192x16x512, .f32⟩
  | .hbm, ⟨27, _⟩ => ⟨S8192x16x512, .f32⟩
  | .hbm, ⟨28, _⟩ => ⟨S8192x16x1, .f32⟩
  | .hbm, ⟨29, _⟩ => ⟨S8192x16x512, .f32⟩
  | .hbm, ⟨30, _⟩ => ⟨S8192x16x512, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Inproj.lean ====
abbrev S2x4096x2048 : Shape := ⟨3, ![2, 4096, 2048]⟩
abbrev S2x2048x5632 : Shape := ⟨3, ![2, 2048, 5632]⟩
abbrev S8192x2048 : Shape := ⟨2, ![8192, 2048]⟩
abbrev S8192x1024 : Shape := ⟨2, ![8192, 1024]⟩
abbrev S8192x1536 : Shape := ⟨2, ![8192, 1536]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 8
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x2048x5632, .f32⟩
  | .hbm, ⟨2, _⟩ => ⟨S8192x2048, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1536, .f32⟩
  | .local _ .vmem, ⟨0, _⟩ => ⟨S512x2048, .f32⟩
  | .local _ .vmem, ⟨1, _⟩ => ⟨S512x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c2_i32 : BitVec 32 := 2#32
  let v8 : BitVec 1 := Scalar.cmpi .slt arg1 c2_i32
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c2_i32_6 : BitVec 32 := 2#32
  let v11 : BitVec 1 := Scalar.cmpi .sge arg1 c2_i32_6
  let c4_i32 : BitVec 32 := 4#32
  let v12 : BitVec 1 := Scalar.cmpi .slt arg1 c4_i32
  let v13 : BitVec 1 := Scalar.andi v11 v12
  let v14 : BitVec 32 := Scalar.extui v13
  let c0_i32_7 : BitVec 32 := 0#32
  let v15 : BitVec 1 := Scalar.cmpi .ne v14 c0_i32_7
  v15

def k0_cond4 (i : grid0.Coords) : BitVec 1 :=
  let arg1 : BitVec 32 := BitVec.ofNat 32 (i 1).val
  let c4_i32_8 : BitVec 32 := 4#32
  let v16 : BitVec 1 := Scalar.cmpi .sge arg1 c4_i32_8
  let c6_i32 : BitVec 32 := 6#32
  let v17 : BitVec 1 := Scalar.cmpi .slt arg1 c6_i32
  let v18 : BitVec 1 := Scalar.andi v16 v17
  let v19 : BitVec 32 := Scalar.extui v18
  let c0_i32_9 : BitVec 32 := 0#32
  let v20 : BitVec 1 := Scalar.cmpi .ne v19 c0_i32_9
  v20

def k0_cond5 (i : grid0.Coords) : BitVec 1 :=
  let arg1 : BitVec 32 := BitVec.ofNat 32 (i 1).val
  let c6_i32_10 : BitVec 32 := 6#32
  let v21 : BitVec 1 := Scalar.cmpi .sge arg1 c6_i32_10
  let c8_i32 : BitVec 32 := 8#32
  let v22 : BitVec 1 := Scalar.cmpi .slt arg1 c8_i32
  let v23 : BitVec 1 := Scalar.andi v21 v22
  let v24 : BitVec 32 := Scalar.extui v23
  let c0_i32_11 : BitVec 32 := 0#32
  let v25 : BitVec 1 := Scalar.cmpi .ne v24 c0_i32_11
  v25

def k0_cond6 (i : grid0.Coords) : BitVec 1 :=
  let arg1 : BitVec 32 := BitVec.ofNat 32 (i 1).val
  let c8_i32_12 : BitVec 32 := 8#32
  let v26 : BitVec 1 := Scalar.cmpi .sge arg1 c8_i32_12
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InprojReferenceIdeal.lean ====
abbrev S2x4096x2048 : Shape := ⟨3, ![2, 4096, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2x4096x5632 : Shape := ⟨3, ![2, 4096, 5632]⟩
abbrev S2x4096x512 : Shape := ⟨3, ![2, 4096, 512]⟩
abbrev S2x4096x1024 : Shape := ⟨3, ![2, 4096, 1024]⟩
abbrev S8192x1024 : Shape := ⟨2, ![8192, 1024]⟩
abbrev S_ : Shape := ⟨0, ![]⟩
abbrev S2x4096x1536 : Shape := ⟨3, ![2, 4096, 1536]⟩
abbrev S8192x1536 : Shape := ⟨2, ![8192, 1536]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048x5632, .f32⟩
  | .hbm, ⟨2, _⟩ => ⟨S1x2048x5632, .f32⟩
  | .hbm, ⟨3, _⟩ => ⟨S2048x5632, .f32⟩
  | .hbm, ⟨4, _⟩ => ⟨S2x4096x5632, .f32⟩
  | .hbm, ⟨5, _⟩ => ⟨S2x4096x512, .f32⟩
  | .hbm, ⟨6, _⟩ => ⟨S2x4096x512, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x512, .f32⟩
  | .hbm, ⟨11, _⟩ => ⟨S2x4096x512, .f32⟩
  | .hbm, ⟨12, _⟩ => ⟨S2x4096x512, .f32⟩
  | .hbm, ⟨13, _⟩ => ⟨S2x4096x1024, .f32⟩
  | .hbm, ⟨14, _⟩ => ⟨S8192x1024, .f32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .f32⟩
  | .hbm, ⟨22, _⟩ => ⟨S2x4096x1536, .f32⟩
  | .hbm, ⟨23, _⟩ => ⟨S8192x1536, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Outproj.lean ====
abbrev S8192x512 : Shape := ⟨2, ![8192, 512]⟩
abbrev S8192x1024 : Shape := ⟨2, ![8192, 1024]⟩
abbrev S8192x2048 : Shape := ⟨2, ![8192, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x4x2048x4 : Shape := ⟨4, ![2, 4, 2048, 4]⟩
abbrev S2x4x4 : Shape := ⟨3, ![2, 4, 4]⟩
abbrev S2x2048x4x4 : Shape := ⟨4, ![2, 2048, 4, 4]⟩
abbrev S2x2048x16 : Shape := ⟨3, ![2, 2048, 16]⟩
abbrev S2x2048x20 : Shape := ⟨3, ![2, 2048, 20]⟩
abbrev S_ : Shape := ⟨0, ![]⟩
abbrev S2x2048x128 : Shape := ⟨3, ![2, 2048, 128]⟩
abbrev S2x16 : Shape := ⟨2, ![2, 16]⟩
abbrev S2x20 : Shape := ⟨2, ![2, 20]⟩
abbrev S2x128 : Shape := ⟨2, ![2, 128]⟩
abbrev S2x1x128 : Shape := ⟨3, ![2, 1, 128]⟩
abbrev S2x1x2048 : Shape := ⟨3, ![2, 1, 2048]⟩
abbrev S8192x128 : Shape := ⟨2, ![8192, 128]⟩
abbrev S256x512 : Shape := ⟨2, ![256, 512]⟩
abbrev S256x1024 : Shape := ⟨2, ![256, 1024]⟩
abbrev S256x2048 : Shape := ⟨2, ![256, 2048]⟩
abbrev S1x2048x2048 : Shape := ⟨3, ![1, 2048, 2048]⟩
abbrev S1x1x2048 : Shape := ⟨3, ![1, 1, 2048]⟩
abbrev S1x2048x128 : Shape := ⟨3, ![1, 2048, 128]⟩
abbrev S1x1x128 : Shape := ⟨3, ![1, 1, 128]⟩
abbrev S256x128 : Shape := ⟨2, ![256, 128]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩
abbrev S2048x128 : Shape := ⟨2, ![2048, 128]⟩
abbrev S1x128 : Shape := ⟨2, ![1, 128]⟩

abbrev nBuf : Space → Nat
  | .hbm => 33
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S8192x2048, .f32⟩
  | .hbm, ⟨4, _⟩ => ⟨S2x2048x2048, .f32⟩
  | .hbm, ⟨5, _⟩ => ⟨S2x2048, .f32⟩
  | .hbm, ⟨6, _⟩ => ⟨S2x2048, .f32⟩
  | .hbm, ⟨7, _⟩ => ⟨S2x2048x4, .f32⟩
  | .hbm, ⟨8, _⟩ => ⟨S2x4, .f32⟩
  | .hbm, ⟨9, _⟩ => ⟨S2x4x2048x4, .f32⟩
  | .hbm, ⟨10, _⟩ => ⟨S2x4x4, .f32⟩
  | .hbm, ⟨11, _⟩ => ⟨S2x2048x4x4, .f32⟩
  | .hbm, ⟨12, _⟩ => ⟨S2x2048x16, .f32⟩
  | .hbm, ⟨13, _⟩ => ⟨S2x2048x20, .f32⟩
  | .hbm, ⟨14, _⟩ => ⟨S_, .i32⟩
  | .hbm, ⟨15, _⟩ => ⟨S_, .f32⟩
  | .hbm, ⟨16, _⟩ => ⟨S2x2048x128, .f32⟩
  | .hbm, ⟨17, _⟩ => ⟨S2x2048x128, .bf16⟩
  | .hbm, ⟨18, _⟩ => ⟨S2x2048x128, .f32⟩
  | .hbm, ⟨19, _⟩ => ⟨S2x2048x128, .f32⟩
  | .hbm, ⟨20, _⟩ => ⟨S2x2048x128, .bf16⟩
  | .hbm, ⟨21, _⟩ => ⟨S2x16, .f32⟩
  | .hbm, ⟨22, _⟩ => ⟨S2x20, .f32⟩
  | .hbm, ⟨23, _⟩ => ⟨S_, .i32⟩
  | .hbm, ⟨24, _⟩ => ⟨S_, .f32⟩
  | .hbm, ⟨25, _⟩ => ⟨S2x128, .f32⟩
  | .hbm, ⟨26, _⟩ => ⟨S2x1x128, .f32⟩
  | .hbm, ⟨27, _⟩ => ⟨S2x2048x2048, .bf16⟩
  | .hbm, ⟨28, _⟩ => ⟨S2x1x2048, .f32⟩
  | .hbm, ⟨29, _⟩ => ⟨S2x1x2048, .f32⟩
  | .hbm, ⟨30, _⟩ => ⟨S8192x2048, .f32⟩
  | .hbm, ⟨31, _⟩ => ⟨S8192x2048, .bf16⟩
  | .hbm, ⟨32, _⟩ => ⟨S8192x128, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S1x2048x2048, .bf16⟩
  | .local _ .vmem, ⟨9, _⟩ => ⟨S1x1x2048, .f32⟩
  | .local _ .vmem, ⟨10, _⟩ => ⟨S1x1x2048, .f32⟩
  | .local _ .vmem, ⟨11, _⟩ => ⟨S1x2048x128, .bf16⟩
  | .local _ .vmem, ⟨12, _⟩ => ⟨S1x2048x128, .bf16⟩
  | .local _ .vmem, ⟨13, _⟩ => ⟨S1x1x128, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S256x128, .f32⟩
  | .local _ .vmem, ⟨19, _⟩ => ⟨S256x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojReferenceIdeal.lean ====
abbrev S8192x512 : Shape := ⟨2, ![8192, 512]⟩
abbrev S8192x1024 : Shape := ⟨2, ![8192, 1024]⟩
abbrev S8192x2048 : Shape := ⟨2, ![8192, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4 : Shape := ⟨2, ![2, 4]⟩
abbrev S2x4x2048x4 : Shape := ⟨4, ![2, 4, 2048, 4]⟩
abbrev S2x4x4 : Shape := ⟨3, ![2, 4, 4]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S8192x2048, .f32⟩
  | .hbm, ⟨4, _⟩ => ⟨S2x2048x2048, .f32⟩
  | .hbm, ⟨5, _⟩ => ⟨S2x2048, .f32⟩
  | .hbm, ⟨6, _⟩ => ⟨S2x2048, .f32⟩
  | .hbm, ⟨7, _⟩ => ⟨S2x2048x4, .f32⟩
  | .hbm, ⟨8, _⟩ => ⟨S2x4, .f32⟩
  | .hbm, ⟨9, _⟩ => ⟨S2x4x2048x4, .f32⟩
  | .hbm, ⟨10, _⟩ => ⟨S2x4x4, .f32⟩
  | .hbm, ⟨11, _⟩ => ⟨S8192x2048, .bf16⟩
  | .hbm, ⟨12, _⟩ => ⟨S8192x2048, .f32⟩
  | .hbm, ⟨13, _⟩ => ⟨S1x2048x2048, .f32⟩
  | .hbm, ⟨14, _⟩ => ⟨S2048x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Mixs.lean ====
abbrev S32x1024 : Shape := ⟨2, ![32, 1024]⟩
abbrev S32x1536 : Shape := ⟨2, ![32, 1536]⟩
abbrev S2x32x30x512 : Shape := ⟨4, ![2, 32, 30, 512]⟩
abbrev S2x32x2x512 : Shape := ⟨4, ![2, 32, 2, 512]⟩
abbrev S2x31x512 : Shape := ⟨3, ![2, 31, 512]⟩
abbrev S2x512 : Shape := ⟨2, ![2, 512]⟩
abbrev S2x3x512 : Shape := ⟨3, ![2, 3, 512]⟩
abbrev S2x30x32x512 : Shape := ⟨4, ![2, 30, 32, 512]⟩
abbrev S2x2x32x512 : Shape := ⟨4, ![2, 2, 32, 512]⟩
abbrev S2x1x512 : Shape := ⟨3, ![2, 1, 512]⟩
abbrev S32x512 : Shape := ⟨2, ![32, 512]⟩
abbrev S30x32x512 : Shape := ⟨3, ![30, 32, 512]⟩
abbrev S2x32x512 : Shape := ⟨3, ![2, 32, 512]⟩
abbrev S1x30x32x512 : Shape := ⟨4, ![1, 30, 32, 512]⟩
abbrev S1x2x32x512 : Shape := ⟨4, ![1, 2, 32, 512]⟩
abbrev S1x31x512 : Shape := ⟨3, ![1, 31, 512]⟩
abbrev S1x1x512 : Shape := ⟨3, ![1, 1, 512]⟩
abbrev S1x3x512 : Shape := ⟨3, ![1, 3, 512]⟩
abbrev S1x512 : Shape := ⟨2, ![1, 512]⟩
abbrev S1x1x32x512 : Shape := ⟨4, ![1, 1, 32, 512]⟩
abbrev S32 : Shape := ⟨1, ![32]⟩
abbrev S32x1 : Shape := ⟨2, ![32, 1]⟩
abbrev S1x32x512 : Shape := ⟨3, ![1, 32, 512]⟩

abbrev nBuf : Space → Nat
  | .hbm => 18
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x1536, .f32⟩
  | .hbm, ⟨2, _⟩ => ⟨S2x32x30x512, .f32⟩
  | .hbm, ⟨3, _⟩ => ⟨S2x32x2x512, .f32⟩
  | .hbm, ⟨4, _⟩ => ⟨S2x31x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x3x512, .f32⟩
  | .hbm, ⟨9, _⟩ => ⟨S2x30x32x512, .f32⟩
  | .hbm, ⟨10, _⟩ => ⟨S2x2x32x512, .f32⟩
  | .hbm, ⟨11, _⟩ => ⟨S2x1x512, .f32⟩
  | .hbm, ⟨12, _⟩ => ⟨S2x1x512, .f32⟩
  | .hbm, ⟨13, _⟩ => ⟨S2x1x512, .f32⟩
  | .hbm, ⟨14, _⟩ => ⟨S32x512, .bf16⟩
  | .hbm, ⟨15, _⟩ => ⟨S32x512, .bf16⟩
  | .hbm, ⟨16, _⟩ => ⟨S30x32x512, .f32⟩
  | .hbm, ⟨17, _⟩ => ⟨S2x32x512, .f32⟩
  | .local _ .vmem, ⟨0, _⟩ => ⟨S32x1024, .f32⟩
  | .local _ .vmem, ⟨1, _⟩ => ⟨S32x1536, .f32⟩
  | .local _ .vmem, ⟨2, _⟩ => ⟨S1x30x32x512, .f32⟩
  | .local _ .vmem, ⟨3, _⟩ => ⟨S1x2x32x512, .f32⟩
  | .local _ .vmem, ⟨4, _⟩ => ⟨S1x31x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x3x512, .f32⟩
  | .local _ .vmem, ⟨9, _⟩ => ⟨S32x512, .bf16⟩
  | .local _ .vmem, ⟨10, _⟩ => ⟨S32x512, .bf16⟩
  | .local _ .vmem, ⟨11, _⟩ => ⟨S30x32x512, .f32⟩
  | .local _ .vmem, ⟨12, _⟩ => ⟨S2x32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S30x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixsReferenceIdeal.lean ====
abbrev S32x1024 : Shape := ⟨2, ![32, 1024]⟩
abbrev S32x1536 : Shape := ⟨2, ![32, 1536]⟩
abbrev S2x32x30x512 : Shape := ⟨4, ![2, 32, 30, 512]⟩
abbrev S2x32x2x512 : Shape := ⟨4, ![2, 32, 2, 512]⟩
abbrev S2x31x512 : Shape := ⟨3, ![2, 31, 512]⟩
abbrev S2x512 : Shape := ⟨2, ![2, 512]⟩
abbrev S2x3x512 : Shape := ⟨3, ![2, 3, 512]⟩
abbrev S32x1x1024 : Shape := ⟨3, ![32, 1, 1024]⟩
abbrev S32x1x512 : Shape := ⟨3, ![32, 1, 512]⟩
abbrev S32x1x1536 : Shape := ⟨3, ![32, 1, 1536]⟩
abbrev S1x32x30x512 : Shape := ⟨4, ![1, 32, 30, 512]⟩
abbrev S32x30x512 : Shape := ⟨3, ![32, 30, 512]⟩
abbrev S1x32x2x512 : Shape := ⟨4, ![1, 32, 2, 512]⟩
abbrev S32x2x512 : Shape := ⟨3, ![32, 2, 512]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S1x3x512 : Shape := ⟨3, ![1, 3, 512]⟩
abbrev S3x512 : Shape := ⟨2, ![3, 512]⟩
abbrev S_ : Shape := ⟨0, ![]⟩
abbrev S32x31x512 : Shape := ⟨3, ![32, 31, 512]⟩
abbrev S1x1x512 : Shape := ⟨3, ![1, 1, 512]⟩
abbrev S32x1 : Shape := ⟨2, ![32, 1]⟩
abbrev S32x1x1 : Shape := ⟨3, ![32, 1, 1]⟩
abbrev S32x3x512 : Shape := ⟨3, ![32, 3, 512]⟩
abbrev S32x512 : Shape := ⟨2, ![32, 512]⟩
abbrev S30x32x512 : Shape := ⟨3, ![30, 32, 512]⟩
abbrev S2x32x512 : Shape := ⟨3, ![2, 32, 512]⟩

abbrev nBuf : Space → Nat
  | .hbm => 334
  | .vmem => 0
  | .smem => 0
  | _ => 0

abbrev hbmTy0_0 (i : Nat) : BufTy := match i % 128 with
  | 0 => ⟨S32x1024, .f32⟩
  | 1 => ⟨S32x1536, .f32⟩
  | 2 => ⟨S2x32x30x512, .f32⟩
  | 3 => ⟨S2x32x2x512, .f32⟩
  | 4 => ⟨S2x31x512, .f32⟩
  | 5 => ⟨S2x512, .f32⟩
  | 6 => ⟨S2x512, .f32⟩
  | 7 => ⟨S2x512, .f32⟩
  | 8 => ⟨S2x3x512, .f32⟩
  | 9 => ⟨S32x1x1024, .f32⟩
  | 10 => ⟨S32x1x512, .f32⟩
  | 11 => ⟨S32x1x512, .f32⟩
  | 12 => ⟨S32x1x1536, .f32⟩
  | 13 => ⟨S32x1x512, .f32⟩
  | 14 => ⟨S32x1x512, .f32⟩
  | 15 => ⟨S32x1x512, .f32⟩
  | 16 => ⟨S1x32x30x512, .f32⟩
  | 17 => ⟨S32x30x512, .f32⟩
  | 18 => ⟨S1x32x2x512, .f32⟩
  | 19 => ⟨S32x2x512, .f32⟩
  | 20 => ⟨S1x31x512, .f32⟩
  | 21 => ⟨S31x512, .f32⟩
  | 22 => ⟨S1x512, .f32⟩
  | 23 => ⟨S512, .f32⟩
  | 24 => ⟨S1x512, .f32⟩
  | 25 => ⟨S512, .f32⟩
  | 26 => ⟨S1x512, .f32⟩
  | 27 => ⟨S512, .f32⟩
  | 28 => ⟨S1x3x512, .f32⟩
  | 29 => ⟨S3x512, .f32⟩
  | 30 => ⟨S32x1x512, .f32⟩
  | 31 => ⟨S32x1x512, .f32⟩
  | 32 => ⟨S_, .f32⟩
  | 33 => ⟨S32x1x512, .f32⟩
  | 34 => ⟨S32x1x512, .f32⟩
  | 35 => ⟨S_, .f32⟩
  | 36 => ⟨S32x1x512, .f32⟩
  | 37 => ⟨S32x1x512, .f32⟩
  | 38 => ⟨S32x1x512, .f32⟩
  | 39 => ⟨S32x31x512, .f32⟩
  | 40 => ⟨S32x1x512, .f32⟩
  | 41 => ⟨S1x512, .f32⟩
  | 42 => ⟨S512, .f32⟩
  | 43 => ⟨S1x1x512, .f32⟩
  | 44 => ⟨S32x1x512, .f32⟩
  | 45 => ⟨S32x1x512, .f32⟩
  | 46 => ⟨S_, .f32⟩
  | 47 => ⟨S32x1x512, .f32⟩
  | 48 => ⟨S32x1x512, .f32⟩
  | 49 => ⟨S32x1x512, .f32⟩
  | 50 => ⟨S1x512, .f32⟩
  | 51 => ⟨S512, .f32⟩
  | 52 => ⟨S1x1x512, .f32⟩
  | 53 => ⟨S32x1x512, .f32⟩
  | 54 => ⟨S32x1x512, .f32⟩
  | 55 => ⟨S32x1x512, .f32⟩
  | 56 => ⟨S32x1x512, .f32⟩
  | 57 => ⟨S1x512, .f32⟩
  | 58 => ⟨S512, .f32⟩
  | 59 => ⟨S1x1x512, .f32⟩
  | 60 => ⟨S32x1x512, .f32⟩
  | 61 => ⟨S32x1x512, .f32⟩
  | 62 => ⟨S32x1x512, .f32⟩
  | 63 => ⟨S32x1x512, .f32⟩
  | 64 => ⟨S1x512, .f32⟩
  | 65 => ⟨S512, .f32⟩
  | 66 => ⟨S1x1x512, .f32⟩
  | 67 => ⟨S32x1x512, .f32⟩
  | 68 => ⟨S32x1x512, .f32⟩
  | 69 => ⟨S32x1x512, .f32⟩
  | 70 => ⟨S32x1x512, .f32⟩
  | 71 => ⟨S1x512, .f32⟩
  | 72 => ⟨S512, .f32⟩
  | 73 => ⟨S1x1x512, .f32⟩
  | 74 => ⟨S32x1x512, .f32⟩
  | 75 => ⟨S32x1x512, .f32⟩
  | 76 => ⟨S32x1x512, .f32⟩
  | 77 => ⟨S32x1x512, .f32⟩
  | 78 => ⟨S1x512, .f32⟩
  | 79 => ⟨S512, .f32⟩
  | 80 => ⟨S1x1x512, .f32⟩
  | 81 => ⟨S32x1x512, .f32⟩
  | 82 => ⟨S32x1x512, .f32⟩
  | 83 => ⟨S32x1x512, .f32⟩
  | 84 => ⟨S32x1x512, .f32⟩
  | 85 => ⟨S1x512, .f32⟩
  | 86 => ⟨S512, .f32⟩
  | 87 => ⟨S1x1x512, .f32⟩
  | 88 => ⟨S32x1x512, .f32⟩
  | 89 => ⟨S32x1x512, .f32⟩
  | 90 => ⟨S32x1x512, .f32⟩
  | 91 => ⟨S32x1x512, .f32⟩
  | 92 => ⟨S1x512, .f32⟩
  | 93 => ⟨S512, .f32⟩
  | 94 => ⟨S1x1x512, .f32⟩
  | 95 => ⟨S32x1x512, .f32⟩
  | 96 => ⟨S32x1x512, .f32⟩
  | 97 => ⟨S32x1x512, .f32⟩
  | 98 => ⟨S32x1x512, .f32⟩
  | 99 => ⟨S1x512, .f32⟩
  | 100 => ⟨S512, .f32⟩
  | 101 => ⟨S1x1x512, .f32⟩
  | 102 => ⟨S32x1x512, .f32⟩
  | 103 => ⟨S32x1x512, .f32⟩
  | 104 => ⟨S32x1x512, .f32⟩
  | 105 => ⟨S32x1x512, .f32⟩
  | 106 => ⟨S1x512, .f32⟩
  | 107 => ⟨S512, .f32⟩
  | 108 => ⟨S1x1x512, .f32⟩
  | 109 => ⟨S32x1x512, .f32⟩
  | 110 => ⟨S32x1x512, .f32⟩
  | 111 => ⟨S32x1x512, .f32⟩
  | 112 => ⟨S32x1x512, .f32⟩
  | 113 => ⟨S1x512, .f32⟩
  | 114 => ⟨S512, .f32⟩
  | 115 => ⟨S1x1x512, .f32⟩
  | 116 => ⟨S32x1x512, .f32⟩
  | 117 => ⟨S32x1x512, .f32⟩
  | 118 => ⟨S32x1x512, .f32⟩
  | 119 => ⟨S32x1x512, .f32⟩
  | 120 => ⟨S1x512, .f32⟩
  | 121 => ⟨S512, .f32⟩
  | 122 => ⟨S1x1x512, .f32⟩
  | 123 => ⟨S32x1x512, .f32⟩
  | 124 => ⟨S32x1x512, .f32⟩
  | 125 => ⟨S32x1x512, .f32⟩
  | 126 => ⟨S32x1x512, .f32⟩
  | 127 => ⟨S1x512, .f32⟩
  | _ => ⟨S32x1024, .f32⟩

abbrev hbmTy0_1 (i : Nat) : BufTy := match i % 128 with
  | 0 => ⟨S512, .f32⟩
  | 1 => ⟨S1x1x512, .f32⟩
  | 2 => ⟨S32x1x512, .f32⟩
  | 3 => ⟨S32x1x512, .f32⟩
  | 4 => ⟨S32x1x512, .f32⟩
  | 5 => ⟨S32x1x512, .f32⟩
  | 6 => ⟨S1x512, .f32⟩
  | 7 => ⟨S512, .f32⟩
  | 8 => ⟨S1x1x512, .f32⟩
  | 9 => ⟨S32x1x512, .f32⟩
  | 10 => ⟨S32x1x512, .f32⟩
  | 11 => ⟨S32x1x512, .f32⟩
  | 12 => ⟨S32x1x512, .f32⟩
  | 13 => ⟨S1x512, .f32⟩
  | 14 => ⟨S512, .f32⟩
  | 15 => ⟨S1x1x512, .f32⟩
  | 16 => ⟨S32x1x512, .f32⟩
  | 17 => ⟨S32x1x512, .f32⟩
  | 18 => ⟨S32x1x512, .f32⟩
  | 19 => ⟨S32x1x512, .f32⟩
  | 20 => ⟨S1x512, .f32⟩
  | 21 => ⟨S512, .f32⟩
  | 22 => ⟨S1x1x512, .f32⟩
  | 23 => ⟨S32x1x512, .f32⟩
  | 24 => ⟨S32x1x512, .f32⟩
  | 25 => ⟨S32x1x512, .f32⟩
  | 26 => ⟨S32x1x512, .f32⟩
  | 27 => ⟨S1x512, .f32⟩
  | 28 => ⟨S512, .f32⟩
  | 29 => ⟨S1x1x512, .f32⟩
  | 30 => ⟨S32x1x512, .f32⟩
  | 31 => ⟨S32x1x512, .f32⟩
  | 32 => ⟨S32x1x512, .f32⟩
  | 33 => ⟨S32x1x512, .f32⟩
  | 34 => ⟨S1x512, .f32⟩
  | 35 => ⟨S512, .f32⟩
  | 36 => ⟨S1x1x512, .f32⟩
  | 37 => ⟨S32x1x512, .f32⟩
  | 38 => ⟨S32x1x512, .f32⟩
  | 39 => ⟨S32x1x512, .f32⟩
  | 40 => ⟨S32x1x512, .f32⟩
  | 41 => ⟨S1x512, .f32⟩
  | 42 => ⟨S512, .f32⟩
  | 43 => ⟨S1x1x512, .f32⟩
  | 44 => ⟨S32x1x512, .f32⟩
  | 45 => ⟨S32x1x512, .f32⟩
  | 46 => ⟨S32x1x512, .f32⟩
  | 47 => ⟨S32x1x512, .f32⟩
  | 48 => ⟨S1x512, .f32⟩
  | 49 => ⟨S512, .f32⟩
  | 50 => ⟨S1x1x512, .f32⟩
  | 51 => ⟨S32x1x512, .f32⟩
  | 52 => ⟨S32x1x512, .f32⟩
  | 53 => ⟨S32x1x512, .f32⟩
  | 54 => ⟨S32x1x512, .f32⟩
  | 55 => ⟨S1x512, .f32⟩
  | 56 => ⟨S512, .f32⟩
  | 57 => ⟨S1x1x512, .f32⟩
  | 58 => ⟨S32x1x512, .f32⟩
  | 59 => ⟨S32x1x512, .f32⟩
  | 60 => ⟨S32x1x512, .f32⟩
  | 61 => ⟨S32x1x512, .f32⟩
  | 62 => ⟨S1x512, .f32⟩
  | 63 => ⟨S512, .f32⟩
  | 64 => ⟨S1x1x512, .f32⟩
  | 65 => ⟨S32x1x512, .f32⟩
  | 66 => ⟨S32x1x512, .f32⟩
  | 67 => ⟨S32x1x512, .f32⟩
  | 68 => ⟨S32x1x512, .f32⟩
  | 69 => ⟨S1x512, .f32⟩
  | 70 => ⟨S512, .f32⟩
  | 71 => ⟨S1x1x512, .f32⟩
  | 72 => ⟨S32x1x512, .f32⟩
  | 73 => ⟨S32x1x512, .f32⟩
  | 74 => ⟨S32x1x512, .f32⟩
  | 75 => ⟨S32x1x512, .f32⟩
  | 76 => ⟨S1x512, .f32⟩
  | 77 => ⟨S512, .f32⟩
  | 78 => ⟨S1x1x512, .f32⟩
  | 79 => ⟨S32x1x512, .f32⟩
  | 80 => ⟨S32x1x512, .f32⟩
  | 81 => ⟨S32x1x512, .f32⟩
  | 82 => ⟨S32x1x512, .f32⟩
  | 83 => ⟨S1x512, .f32⟩
  | 84 => ⟨S512, .f32⟩
  | 85 => ⟨S1x1x512, .f32⟩
  | 86 => ⟨S32x1x512, .f32⟩
  | 87 => ⟨S32x1x512, .f32⟩
  | 88 => ⟨S32x1x512, .f32⟩
  | 89 => ⟨S32x1x512, .f32⟩
  | 90 => ⟨S1x512, .f32⟩
  | 91 => ⟨S512, .f32⟩
  | 92 => ⟨S1x1x512, .f32⟩
  | 93 => ⟨S32x1x512, .f32⟩
  | 94 => ⟨S32x1x512, .f32⟩
  | 95 => ⟨S32x1x512, .f32⟩
  | 96 => ⟨S32x1x512, .f32⟩
  | 97 => ⟨S1x512, .f32⟩
  | 98 => ⟨S512, .f32⟩
  | 99 => ⟨S1x1x512, .f32⟩
  | 100 => ⟨S32x1x512, .f32⟩
  | 101 => ⟨S32x1x512, .f32⟩
  | 102 => ⟨S32x1x512, .f32⟩
  | 103 => ⟨S32x1x512, .f32⟩
  | 104 => ⟨S1x512, .f32⟩
  | 105 => ⟨S512, .f32⟩
  | 106 => ⟨S1x1x512, .f32⟩
  | 107 => ⟨S32x1x512, .f32⟩
  | 108 => ⟨S32x1x512, .f32⟩
  | 109 => ⟨S32x1x512, .f32⟩
  | 110 => ⟨S32x1x512, .f32⟩
  | 111 => ⟨S1x512, .f32⟩
  | 112 => ⟨S512, .f32⟩
  | 113 => ⟨S1x1x512, .f32⟩
  | 114 => ⟨S32x1x512, .f32⟩
  | 115 => ⟨S32x1x512, .f32⟩
  | 116 => ⟨S32x1x512, .f32⟩
  | 117 => ⟨S32x1x512, .f32⟩
  | 118 => ⟨S1x512, .f32⟩
  | 119 => ⟨S512, .f32⟩
  | 120 => ⟨S1x1x512, .f32⟩
  | 121 => ⟨S32x1x512, .f32⟩
  | 122 => ⟨S32x1x512, .f32⟩
  | 123 => ⟨S32x1x512, .f32⟩
  | 124 => ⟨S32x1x512, .f32⟩
  | 125 => ⟨S1x512, .f32⟩
  | 126 => ⟨S512, .f32⟩
  | 127 => ⟨S1x1x512, .f32⟩
  | _ => ⟨S32x1024, .f32⟩

abbrev hbmTy0_2 (i : Nat) : BufTy := match i % 128 with
  | 0 => ⟨S32x1x512, .f32⟩
  | 1 => ⟨S32x1x512, .f32⟩
  | 2 => ⟨S32x1x512, .f32⟩
  | 3 => ⟨S1x1x512, .f32⟩
  | 4 => ⟨S32x1x512, .f32⟩
  | 5 => ⟨S32x1x512, .f32⟩
  | 6 => ⟨S_, .f32⟩
  | 7 => ⟨S32x1, .f32⟩
  | 8 => ⟨S32x1x1, .f32⟩
  | 9 => ⟨S_, .f32⟩
  | 10 => ⟨S32x1x1, .f32⟩
  | 11 => ⟨S32x1x1, .f32⟩
  | 12 => ⟨S32x1x512, .f32⟩
  | 13 => ⟨S32x1x512, .f32⟩
  | 14 => ⟨S32x1x512, .f32⟩
  | 15 => ⟨S_, .f32⟩
  | 16 => ⟨S32x1, .f32⟩
  | 17 => ⟨S32x1x1, .f32⟩
  | 18 => ⟨S_, .f32⟩
  | 19 => ⟨S32x1x1, .f32⟩
  | 20 => ⟨S32x1x1, .f32⟩
  | 21 => ⟨S32x1x512, .f32⟩
  | 22 => ⟨S32x1x512, .f32⟩
  | 23 => ⟨S_, .f32⟩
  | 24 => ⟨S32x1x1, .f32⟩
  | 25 => ⟨S32x1x1, .f32⟩
  | 26 => ⟨S32x1x1, .f32⟩
  | 27 => ⟨S32x1x512, .f32⟩
  | 28 => ⟨S32x1x512, .f32⟩
  | 29 => ⟨S1x1x512, .f32⟩
  | 30 => ⟨S32x1x512, .f32⟩
  | 31 => ⟨S32x1x512, .f32⟩
  | 32 => ⟨S1x1x512, .f32⟩
  | 33 => ⟨S32x1x512, .f32⟩
  | 34 => ⟨S32x1x512, .f32⟩
  | 35 => ⟨S32x1x512, .f32⟩
  | 36 => ⟨S32x1x512, .f32⟩
  | 37 => ⟨S_, .f32⟩
  | 38 => ⟨S32x1x512, .f32⟩
  | 39 => ⟨S32x1x512, .f32⟩
  | 40 => ⟨S_, .f32⟩
  | 41 => ⟨S32x1x512, .f32⟩
  | 42 => ⟨S32x1x512, .f32⟩
  | 43 => ⟨S32x1x512, .f32⟩
  | 44 => ⟨S32x1x512, .f32⟩
  | 45 => ⟨S32x3x512, .f32⟩
  | 46 => ⟨S32x1x512, .f32⟩
  | 47 => ⟨S1x512, .f32⟩
  | 48 => ⟨S512, .f32⟩
  | 49 => ⟨S1x1x512, .f32⟩
  | 50 => ⟨S32x1x512, .f32⟩
  | 51 => ⟨S32x1x512, .f32⟩
  | 52 => ⟨S_, .f32⟩
  | 53 => ⟨S32x1x512, .f32⟩
  | 54 => ⟨S32x1x512, .f32⟩
  | 55 => ⟨S32x1x512, .f32⟩
  | 56 => ⟨S1x512, .f32⟩
  | 57 => ⟨S512, .f32⟩
  | 58 => ⟨S1x1x512, .f32⟩
  | 59 => ⟨S32x1x512, .f32⟩
  | 60 => ⟨S32x1x512, .f32⟩
  | 61 => ⟨S32x1x512, .f32⟩
  | 62 => ⟨S32x1x512, .f32⟩
  | 63 => ⟨S1x512, .f32⟩
  | 64 => ⟨S512, .f32⟩
  | 65 => ⟨S1x1x512, .f32⟩
  | 66 => ⟨S32x1x512, .f32⟩
  | 67 => ⟨S32x1x512, .f32⟩
  | 68 => ⟨S32x1x512, .f32⟩
  | 69 => ⟨S32x1x512, .f32⟩
  | 70 => ⟨S32x512, .f32⟩
  | 71 => ⟨S32x512, .bf16⟩
  | 72 => ⟨S32x512, .f32⟩
  | 73 => ⟨S32x512, .bf16⟩
  | 74 => ⟨S32x30x512, .f32⟩
  | 75 => ⟨S30x32x512, .f32⟩
  | 76 => ⟨S32x2x512, .f32⟩
  | 77 => ⟨S2x32x512, .f32⟩
  | _ => ⟨S32x1024, .f32⟩

abbrev hbmTy (i : Nat) : BufTy := match i / 128 with
  | 0 => hbmTy0_0 i
  | 1 => hbmTy0_1 i
  | 2 => hbmTy0_2 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_cst_2 : Ref sig .tc := ⟨.hbm, 262, rfl⟩
abbrev main_v250 : Ref sig .tc := ⟨.hbm, 263, rfl⟩
abbrev main_v251 : Ref sig .tc := ⟨.hbm, 264, rfl⟩
abbrev main_cst_3 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_cst_4 : Ref sig .tc := ⟨.hbm, 271, rfl⟩
abbrev main_v257 : Ref sig .tc := ⟨.hbm, 272, rfl⟩
abbrev main_v258 : Ref sig .tc := ⟨.hbm, 273, rfl⟩
abbrev main_cst_5 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_cst_6 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_call0_v0 : Ref sig .tc := ⟨.hbm, 291, rfl⟩
abbrev main_call0_v1 : Ref sig .tc := ⟨.hbm, 292, rfl⟩
abbrev main_call0_cst : Ref sig .tc := ⟨.hbm, 293, rfl⟩
abbrev main_call0_v2 : Ref sig .tc := ⟨.hbm, 294, rfl⟩
abbrev main_call0_v3 : Ref sig .tc := ⟨.hbm, 295, rfl⟩
abbrev main_call0_cst_0 : Ref sig .tc := ⟨.hbm, 296, rfl⟩
abbrev main_call0_v4 : Ref sig .tc := ⟨.hbm, 297, rfl⟩
abbrev main_call0_v5 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_cst_7 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_v307 : Ref sig .tc := ⟨.hbm, 333, rfl⟩

abbrev nD : Nat := 1
abbrev τ : Topo := Topo.v7x

variable {F : FTy → Type} [FloatOps F]
-- ==== Moes.lean ====
abbrev S32x2048 : Shape := ⟨2, ![32, 2048]⟩
abbrev S32x128 : Shape := ⟨2, ![32, 128]⟩
abbrev S2x16x2048x512 : Shape := ⟨4, ![2, 16, 2048, 512]⟩
abbrev S2x16x512x2048 : Shape := ⟨4, ![2, 16, 512, 2048]⟩
abbrev S2x2048 : Shape := ⟨2, ![2, 2048]⟩
abbrev S2x1x2048 : Shape := ⟨3, ![2, 1, 2048]⟩
abbrev S1x1x2048x512 : Shape := ⟨4, ![1, 1, 2048, 512]⟩
abbrev S1x1x512x2048 : Shape := ⟨4, ![1, 1, 512, 2048]⟩
abbrev S1x1x2048 : Shape := ⟨3, ![1, 1, 2048]⟩
abbrev S2048x512 : Shape := ⟨2, ![2048, 512]⟩
abbrev S32x512 : Shape := ⟨2, ![32, 512]⟩
abbrev S32 : Shape := ⟨1, ![32]⟩
abbrev S32x1 : Shape := ⟨2, ![32, 1]⟩
abbrev S512x2048 : Shape := ⟨2, ![512, 2048]⟩
abbrev S1x2048 : Shape := ⟨2, ![1, 2048]⟩

abbrev nBuf : Space → Nat
  | .hbm => 14
  | .vmem => 13
  | .smem => 0
  | _ => 0

abbrev bufTy : (tb : Table) → Fin (tcTables nBuf tb) → BufTy
  | .hbm, ⟨0, _⟩ => ⟨S32x2048, .bf16⟩
  | .hbm, ⟨1, _⟩ => ⟨S32x2048, .f32⟩
  | .hbm, ⟨2, _⟩ => ⟨S32x128, .f32⟩
  | .hbm, ⟨3, _⟩ => ⟨S2x16x2048x512, .f32⟩
  | .hbm, ⟨4, _⟩ => ⟨S2x16x2048x512, .f32⟩
  | .hbm, ⟨5, _⟩ => ⟨S2x16x512x2048, .f32⟩
  | .hbm, ⟨6, _⟩ => ⟨S2x2048, .f32⟩
  | .hbm, ⟨7, _⟩ => ⟨S2x2048, .f32⟩
  | .hbm, ⟨8, _⟩ => ⟨S2x16x2048x512, .bf16⟩
  | .hbm, ⟨9, _⟩ => ⟨S2x16x2048x512, .bf16⟩
  | .hbm, ⟨10, _⟩ => ⟨S2x16x512x2048, .bf16⟩
  | .hbm, ⟨11, _⟩ => ⟨S2x1x2048, .f32⟩
  | .hbm, ⟨12, _⟩ => ⟨S2x1x2048, .f32⟩
  | .hbm, ⟨13, _⟩ => ⟨S32x2048, .f32⟩
  | .local _ .vmem, ⟨0, _⟩ => ⟨S32x2048, .bf16⟩
  | .local _ .vmem, ⟨1, _⟩ => ⟨S32x2048, .f32⟩
  | .local _ .vmem, ⟨2, _⟩ => ⟨S32x128, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1x1x2048, .f32⟩
  | .local _ .vmem, ⟨10, _⟩ => ⟨S1x1x2048, .f32⟩
  | .local _ .vmem, ⟨11, _⟩ => ⟨S32x2048, .f32⟩
  | .local _ .vmem, ⟨12, _⟩ => ⟨S32x2048, .f32⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_24 : BitVec 32 := 0#32
  let v34 : BitVec 1 := Scalar.cmpi .ne v33 c0_i32_24
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MoesReferenceIdeal.lean ====
abbrev S32x2048 : Shape := ⟨2, ![32, 2048]⟩
abbrev S32x128 : Shape := ⟨2, ![32, 128]⟩
abbrev S2x16x2048x512 : Shape := ⟨4, ![2, 16, 2048, 512]⟩
abbrev S2x16x512x2048 : Shape := ⟨4, ![2, 16, 512, 2048]⟩
abbrev S2x2048 : Shape := ⟨2, ![2, 2048]⟩
abbrev S32x16 : Shape := ⟨2, ![32, 16]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S32x16x512 : Shape := ⟨3, ![32, 16, 512]⟩
abbrev S_ : Shape := ⟨0, ![]⟩
abbrev S32x16x1 : Shape := ⟨3, ![32, 16, 1]⟩
abbrev S1x2048 : Shape := ⟨2, ![1, 2048]⟩
abbrev S2048 : Shape := ⟨1, ![2048]⟩
abbrev S32 : Shape := ⟨1, ![32]⟩
abbrev S32x1 : Shape := ⟨2, ![32, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S32x2048, .f32⟩
  | .hbm, ⟨2, _⟩ => ⟨S32x128, .f32⟩
  | .hbm, ⟨3, _⟩ => ⟨S2x16x2048x512, .f32⟩
  | .hbm, ⟨4, _⟩ => ⟨S2x16x2048x512, .f32⟩
  | .hbm, ⟨5, _⟩ => ⟨S2x16x512x2048, .f32⟩
  | .hbm, ⟨6, _⟩ => ⟨S2x2048, .f32⟩
  | .hbm, ⟨7, _⟩ => ⟨S2x2048, .f32⟩
  | .hbm, ⟨8, _⟩ => ⟨S32x2048, .f32⟩
  | .hbm, ⟨9, _⟩ => ⟨S32x16, .f32⟩
  | .hbm, ⟨10, _⟩ => ⟨S1x16x2048x512, .f32⟩
  | .hbm, ⟨11, _⟩ => ⟨S16x2048x512, .f32⟩
  | .hbm, ⟨12, _⟩ => ⟨S1x16x2048x512, .f32⟩
  | .hbm, ⟨13, _⟩ => ⟨S16x2048x512, .f32⟩
  | .hbm, ⟨14, _⟩ => ⟨S1x16x512x2048, .f32⟩
  | .hbm, ⟨15, _⟩ => ⟨S16x512x2048, .f32⟩
  | .hbm, ⟨16, _⟩ => ⟨S32x16x512, .f32⟩
  | .hbm, ⟨17, _⟩ => ⟨S32x16x512, .f32⟩
  | .hbm, ⟨18, _⟩ => ⟨S32x16x512, .f32⟩
  | .hbm, ⟨19, _⟩ => ⟨S_, .f32⟩
  | .hbm, ⟨20, _⟩ => ⟨S32x16x512, .f32⟩
  | .hbm, ⟨21, _⟩ => ⟨S32x16x512, .f32⟩
  | .hbm, ⟨22, _⟩ => ⟨S_, .f32⟩
  | .hbm, ⟨23, _⟩ => ⟨S32x16x512, .f32⟩
  | .hbm, ⟨24, _⟩ => ⟨S32x16x512, .f32⟩
  | .hbm, ⟨25, _⟩ => ⟨S32x16x512, .f32⟩
  | .hbm, ⟨26, _⟩ => ⟨S32x16x512, .f32⟩
  | .hbm, ⟨27, _⟩ => ⟨S32x16x512, .f32⟩
  | .hbm, ⟨28, _⟩ => ⟨S32x16x1, .f32⟩
  | .hbm, ⟨29, _⟩ => ⟨S32x16x512, .f32⟩
  | .hbm, ⟨30, _⟩ => ⟨S32x16x512, .f32⟩
  | .hbm, ⟨31, _⟩ => ⟨S32x2048, .f32⟩
  | .hbm, ⟨32, _⟩ => ⟨S_, .f32⟩
  | .hbm, ⟨33, _⟩ => ⟨S32x2048, .f32⟩
  | .hbm, ⟨34, _⟩ => ⟨S32x2048, .f32⟩
  | .hbm, ⟨35, _⟩ => ⟨S32x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S2048, .f32⟩
  | .hbm, ⟨40, _⟩ => ⟨S_, .f32⟩
  | .hbm, ⟨41, _⟩ => ⟨S32, .f32⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S32x2048, .f32⟩
  | .hbm, ⟨47, _⟩ => ⟨S32x2048, .f32⟩
  | .hbm, ⟨48, _⟩ => ⟨S32x2048, .f32⟩
  | .hbm, ⟨49, _⟩ => ⟨S_, .f32⟩
  | .hbm, ⟨50, _⟩ => ⟨S32, .f32⟩
  | .hbm, ⟨51, _⟩ => ⟨S32x1, .f32⟩
  | .hbm, ⟨52, _⟩ => ⟨S_, .f32⟩
  | .hbm, ⟨53, _⟩ => ⟨S32x1, .f32⟩
  | .hbm, ⟨54, _⟩ => ⟨S32x1, .f32⟩
  | .hbm, ⟨55, _⟩ => ⟨S32x2048, .f32⟩
  | .hbm, ⟨56, _⟩ => ⟨S32x2048, .f32⟩
  | .hbm, ⟨57, _⟩ => ⟨S_, .f32⟩
  | .hbm, ⟨58, _⟩ => ⟨S32x1, .f32⟩
  | .hbm, ⟨59, _⟩ => ⟨S32x1, .f32⟩
  | .hbm, ⟨60, _⟩ => ⟨S32x1, .f32⟩
  | .hbm, ⟨61, _⟩ => ⟨S32x2048, .f32⟩
  | .hbm, ⟨62, _⟩ => ⟨S32x2048, .f32⟩
  | .hbm, ⟨63, _⟩ => ⟨S1x2048, .f32⟩
  | .hbm, ⟨64, _⟩ => ⟨S32x2048, .f32⟩
  | .hbm, ⟨65, _⟩ => ⟨S32x2048, .f32⟩
  | .hbm, ⟨66, _⟩ => ⟨S1x2048, .f32⟩
  | .hbm, ⟨67, _⟩ => ⟨S32x2048, .f32⟩
  | .hbm, ⟨68, _⟩ => ⟨S32x2048, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Mixp.lean ====
abbrev S8192x1024 : Shape := ⟨2, ![8192, 1024]⟩
abbrev S8192x1536 : Shape := ⟨2, ![8192, 1536]⟩
abbrev S2x31x512 : Shape := ⟨3, ![2, 31, 512]⟩
abbrev S2x512 : Shape := ⟨2, ![2, 512]⟩
abbrev S2x3x512 : Shape := ⟨3, ![2, 3, 512]⟩
abbrev S2x1x512 : Shape := ⟨3, ![2, 1, 512]⟩
abbrev S8192x512 : Shape := ⟨2, ![8192, 512]⟩
abbrev S2x32x512 : Shape := ⟨3, ![2, 32, 512]⟩
abbrev S2x8x512 : Shape := ⟨3, ![2, 8, 512]⟩
abbrev S256x512 : Shape := ⟨2, ![256, 512]⟩
abbrev S1x31x512 : Shape := ⟨3, ![1, 31, 512]⟩
abbrev S1x1x512 : Shape := ⟨3, ![1, 1, 512]⟩
abbrev S1x3x512 : Shape := ⟨3, ![1, 3, 512]⟩
abbrev S1x32x512 : Shape := ⟨3, ![1, 32, 512]⟩
abbrev S1x8x512 : Shape := ⟨3, ![1, 8, 512]⟩
abbrev S288x512 : Shape := ⟨2, ![288, 512]⟩
abbrev S264x512 : Shape := ⟨2, ![264, 512]⟩
abbrev S32x512 : Shape := ⟨2, ![32, 512]⟩
abbrev S8x512 : Shape := ⟨2, ![8, 512]⟩
abbrev S1x512 : Shape := ⟨2, ![1, 512]⟩
abbrev S32 : Shape := ⟨1, ![32]⟩
abbrev S32x1 : Shape := ⟨2, ![32, 1]⟩

abbrev nBuf : Space → Nat
  | .hbm => 14
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S2x31x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x3x512, .f32⟩
  | .hbm, ⟨7, _⟩ => ⟨S2x1x512, .f32⟩
  | .hbm, ⟨8, _⟩ => ⟨S2x1x512, .f32⟩
  | .hbm, ⟨9, _⟩ => ⟨S2x1x512, .f32⟩
  | .hbm, ⟨10, _⟩ => ⟨S8192x512, .bf16⟩
  | .hbm, ⟨11, _⟩ => ⟨S8192x512, .bf16⟩
  | .hbm, ⟨12, _⟩ => ⟨S2x32x512, .f32⟩
  | .hbm, ⟨13, _⟩ => ⟨S2x8x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x31x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x3x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S1x32x512, .f32⟩
  | .local _ .vmem, ⟨20, _⟩ => ⟨S1x32x512, .f32⟩
  | .local _ .vmem, ⟨21, _⟩ => ⟨S1x8x512, .f32⟩
  | .local _ .vmem, ⟨22, _⟩ => ⟨S1x8x512, .f32⟩
  | .local _ .vmem, ⟨23, _⟩ => ⟨S288x512, .f32⟩
  | .local _ .vmem, ⟨24, _⟩ => ⟨S264x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v1918 : BitVec 1 := Scalar.cmpi .eq arg1 c15_i32
  let v1919 : BitVec 32 := Scalar.extui v1918
  let c0_i32_1243 : BitVec 32 := 0#32
  let v1920 : BitVec 1 := Scalar.cmpi .ne v1919 c0_i32_1243
  v1920

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MixpReferenceIdeal.lean ====
abbrev S8192x1024 : Shape := ⟨2, ![8192, 1024]⟩
abbrev S8192x1536 : Shape := ⟨2, ![8192, 1536]⟩
abbrev S2x31x512 : Shape := ⟨3, ![2, 31, 512]⟩
abbrev S2x512 : Shape := ⟨2, ![2, 512]⟩
abbrev S2x3x512 : Shape := ⟨3, ![2, 3, 512]⟩
abbrev S2x4096x1024 : Shape := ⟨3, ![2, 4096, 1024]⟩
abbrev S2x4096x512 : Shape := ⟨3, ![2, 4096, 512]⟩
abbrev S2x4096x1536 : Shape := ⟨3, ![2, 4096, 1536]⟩
abbrev S_ : Shape := ⟨0, ![]⟩
abbrev S2x30x512 : Shape := ⟨3, ![2, 30, 512]⟩
abbrev S2x2x512 : Shape := ⟨3, ![2, 2, 512]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S1x3x512 : Shape := ⟨3, ![1, 3, 512]⟩
abbrev S3x512 : Shape := ⟨2, ![3, 512]⟩
abbrev S2x4126x512 : Shape := ⟨3, ![2, 4126, 512]⟩
abbrev S1x1x512 : Shape := ⟨3, ![1, 1, 512]⟩
abbrev S2x4096 : Shape := ⟨2, ![2, 4096]⟩
abbrev S2x4096x1 : Shape := ⟨3, ![2, 4096, 1]⟩
abbrev S2x4098x512 : Shape := ⟨3, ![2, 4098, 512]⟩
abbrev S8192x512 : Shape := ⟨2, ![8192, 512]⟩
abbrev S2x32x512 : Shape := ⟨3, ![2, 32, 512]⟩
abbrev S2x8x512 : Shape := ⟨3, ![2, 8, 512]⟩

abbrev nBuf : Space → Nat
  | .hbm => 330
  | .vmem => 0
  | .smem => 0
  | _ => 0

abbrev hbmTy0_0 (i : Nat) : BufTy := match i % 128 with
  | 0 => ⟨S8192x1024, .f32⟩
  | 1 => ⟨S8192x1536, .f32⟩
  | 2 => ⟨S2x31x512, .f32⟩
  | 3 => ⟨S2x512, .f32⟩
  | 4 => ⟨S2x512, .f32⟩
  | 5 => ⟨S2x512, .f32⟩
  | 6 => ⟨S2x3x512, .f32⟩
  | 7 => ⟨S2x4096x1024, .f32⟩
  | 8 => ⟨S2x4096x512, .f32⟩
  | 9 => ⟨S2x4096x512, .f32⟩
  | 10 => ⟨S2x4096x1536, .f32⟩
  | 11 => ⟨S2x4096x512, .f32⟩
  | 12 => ⟨S2x4096x512, .f32⟩
  | 13 => ⟨S2x4096x512, .f32⟩
  | 14 => ⟨S_, .f32⟩
  | 15 => ⟨S2x30x512, .f32⟩
  | 16 => ⟨S_, .f32⟩
  | 17 => ⟨S2x2x512, .f32⟩
  | 18 => ⟨S1x31x512, .f32⟩
  | 19 => ⟨S31x512, .f32⟩
  | 20 => ⟨S1x512, .f32⟩
  | 21 => ⟨S512, .f32⟩
  | 22 => ⟨S1x512, .f32⟩
  | 23 => ⟨S512, .f32⟩
  | 24 => ⟨S1x512, .f32⟩
  | 25 => ⟨S512, .f32⟩
  | 26 => ⟨S1x3x512, .f32⟩
  | 27 => ⟨S3x512, .f32⟩
  | 28 => ⟨S2x4096x512, .f32⟩
  | 29 => ⟨S2x4096x512, .f32⟩
  | 30 => ⟨S_, .f32⟩
  | 31 => ⟨S2x4096x512, .f32⟩
  | 32 => ⟨S2x4096x512, .f32⟩
  | 33 => ⟨S_, .f32⟩
  | 34 => ⟨S2x4096x512, .f32⟩
  | 35 => ⟨S2x4096x512, .f32⟩
  | 36 => ⟨S2x4096x512, .f32⟩
  | 37 => ⟨S2x4126x512, .f32⟩
  | 38 => ⟨S2x4096x512, .f32⟩
  | 39 => ⟨S1x512, .f32⟩
  | 40 => ⟨S512, .f32⟩
  | 41 => ⟨S1x1x512, .f32⟩
  | 42 => ⟨S2x4096x512, .f32⟩
  | 43 => ⟨S2x4096x512, .f32⟩
  | 44 => ⟨S_, .f32⟩
  | 45 => ⟨S2x4096x512, .f32⟩
  | 46 => ⟨S2x4096x512, .f32⟩
  | 47 => ⟨S2x4096x512, .f32⟩
  | 48 => ⟨S1x512, .f32⟩
  | 49 => ⟨S512, .f32⟩
  | 50 => ⟨S1x1x512, .f32⟩
  | 51 => ⟨S2x4096x512, .f32⟩
  | 52 => ⟨S2x4096x512, .f32⟩
  | 53 => ⟨S2x4096x512, .f32⟩
  | 54 => ⟨S2x4096x512, .f32⟩
  | 55 => ⟨S1x512, .f32⟩
  | 56 => ⟨S512, .f32⟩
  | 57 => ⟨S1x1x512, .f32⟩
  | 58 => ⟨S2x4096x512, .f32⟩
  | 59 => ⟨S2x4096x512, .f32⟩
  | 60 => ⟨S2x4096x512, .f32⟩
  | 61 => ⟨S2x4096x512, .f32⟩
  | 62 => ⟨S1x512, .f32⟩
  | 63 => ⟨S512, .f32⟩
  | 64 => ⟨S1x1x512, .f32⟩
  | 65 => ⟨S2x4096x512, .f32⟩
  | 66 => ⟨S2x4096x512, .f32⟩
  | 67 => ⟨S2x4096x512, .f32⟩
  | 68 => ⟨S2x4096x512, .f32⟩
  | 69 => ⟨S1x512, .f32⟩
  | 70 => ⟨S512, .f32⟩
  | 71 => ⟨S1x1x512, .f32⟩
  | 72 => ⟨S2x4096x512, .f32⟩
  | 73 => ⟨S2x4096x512, .f32⟩
  | 74 => ⟨S2x4096x512, .f32⟩
  | 75 => ⟨S2x4096x512, .f32⟩
  | 76 => ⟨S1x512, .f32⟩
  | 77 => ⟨S512, .f32⟩
  | 78 => ⟨S1x1x512, .f32⟩
  | 79 => ⟨S2x4096x512, .f32⟩
  | 80 => ⟨S2x4096x512, .f32⟩
  | 81 => ⟨S2x4096x512, .f32⟩
  | 82 => ⟨S2x4096x512, .f32⟩
  | 83 => ⟨S1x512, .f32⟩
  | 84 => ⟨S512, .f32⟩
  | 85 => ⟨S1x1x512, .f32⟩
  | 86 => ⟨S2x4096x512, .f32⟩
  | 87 => ⟨S2x4096x512, .f32⟩
  | 88 => ⟨S2x4096x512, .f32⟩
  | 89 => ⟨S2x4096x512, .f32⟩
  | 90 => ⟨S1x512, .f32⟩
  | 91 => ⟨S512, .f32⟩
  | 92 => ⟨S1x1x512, .f32⟩
  | 93 => ⟨S2x4096x512, .f32⟩
  | 94 => ⟨S2x4096x512, .f32⟩
  | 95 => ⟨S2x4096x512, .f32⟩
  | 96 => ⟨S2x4096x512, .f32⟩
  | 97 => ⟨S1x512, .f32⟩
  | 98 => ⟨S512, .f32⟩
  | 99 => ⟨S1x1x512, .f32⟩
  | 100 => ⟨S2x4096x512, .f32⟩
  | 101 => ⟨S2x4096x512, .f32⟩
  | 102 => ⟨S2x4096x512, .f32⟩
  | 103 => ⟨S2x4096x512, .f32⟩
  | 104 => ⟨S1x512, .f32⟩
  | 105 => ⟨S512, .f32⟩
  | 106 => ⟨S1x1x512, .f32⟩
  | 107 => ⟨S2x4096x512, .f32⟩
  | 108 => ⟨S2x4096x512, .f32⟩
  | 109 => ⟨S2x4096x512, .f32⟩
  | 110 => ⟨S2x4096x512, .f32⟩
  | 111 => ⟨S1x512, .f32⟩
  | 112 => ⟨S512, .f32⟩
  | 113 => ⟨S1x1x512, .f32⟩
  | 114 => ⟨S2x4096x512, .f32⟩
  | 115 => ⟨S2x4096x512, .f32⟩
  | 116 => ⟨S2x4096x512, .f32⟩
  | 117 => ⟨S2x4096x512, .f32⟩
  | 118 => ⟨S1x512, .f32⟩
  | 119 => ⟨S512, .f32⟩
  | 120 => ⟨S1x1x512, .f32⟩
  | 121 => ⟨S2x4096x512, .f32⟩
  | 122 => ⟨S2x4096x512, .f32⟩
  | 123 => ⟨S2x4096x512, .f32⟩
  | 124 => ⟨S2x4096x512, .f32⟩
  | 125 => ⟨S1x512, .f32⟩
  | 126 => ⟨S512, .f32⟩
  | 127 => ⟨S1x1x512, .f32⟩
  | _ => ⟨S8192x1024, .f32⟩

abbrev hbmTy0_1 (i : Nat) : BufTy := match i % 128 with
  | 0 => ⟨S2x4096x512, .f32⟩
  | 1 => ⟨S2x4096x512, .f32⟩
  | 2 => ⟨S2x4096x512, .f32⟩
  | 3 => ⟨S2x4096x512, .f32⟩
  | 4 => ⟨S1x512, .f32⟩
  | 5 => ⟨S512, .f32⟩
  | 6 => ⟨S1x1x512, .f32⟩
  | 7 => ⟨S2x4096x512, .f32⟩
  | 8 => ⟨S2x4096x512, .f32⟩
  | 9 => ⟨S2x4096x512, .f32⟩
  | 10 => ⟨S2x4096x512, .f32⟩
  | 11 => ⟨S1x512, .f32⟩
  | 12 => ⟨S512, .f32⟩
  | 13 => ⟨S1x1x512, .f32⟩
  | 14 => ⟨S2x4096x512, .f32⟩
  | 15 => ⟨S2x4096x512, .f32⟩
  | 16 => ⟨S2x4096x512, .f32⟩
  | 17 => ⟨S2x4096x512, .f32⟩
  | 18 => ⟨S1x512, .f32⟩
  | 19 => ⟨S512, .f32⟩
  | 20 => ⟨S1x1x512, .f32⟩
  | 21 => ⟨S2x4096x512, .f32⟩
  | 22 => ⟨S2x4096x512, .f32⟩
  | 23 => ⟨S2x4096x512, .f32⟩
  | 24 => ⟨S2x4096x512, .f32⟩
  | 25 => ⟨S1x512, .f32⟩
  | 26 => ⟨S512, .f32⟩
  | 27 => ⟨S1x1x512, .f32⟩
  | 28 => ⟨S2x4096x512, .f32⟩
  | 29 => ⟨S2x4096x512, .f32⟩
  | 30 => ⟨S2x4096x512, .f32⟩
  | 31 => ⟨S2x4096x512, .f32⟩
  | 32 => ⟨S1x512, .f32⟩
  | 33 => ⟨S512, .f32⟩
  | 34 => ⟨S1x1x512, .f32⟩
  | 35 => ⟨S2x4096x512, .f32⟩
  | 36 => ⟨S2x4096x512, .f32⟩
  | 37 => ⟨S2x4096x512, .f32⟩
  | 38 => ⟨S2x4096x512, .f32⟩
  | 39 => ⟨S1x512, .f32⟩
  | 40 => ⟨S512, .f32⟩
  | 41 => ⟨S1x1x512, .f32⟩
  | 42 => ⟨S2x4096x512, .f32⟩
  | 43 => ⟨S2x4096x512, .f32⟩
  | 44 => ⟨S2x4096x512, .f32⟩
  | 45 => ⟨S2x4096x512, .f32⟩
  | 46 => ⟨S1x512, .f32⟩
  | 47 => ⟨S512, .f32⟩
  | 48 => ⟨S1x1x512, .f32⟩
  | 49 => ⟨S2x4096x512, .f32⟩
  | 50 => ⟨S2x4096x512, .f32⟩
  | 51 => ⟨S2x4096x512, .f32⟩
  | 52 => ⟨S2x4096x512, .f32⟩
  | 53 => ⟨S1x512, .f32⟩
  | 54 => ⟨S512, .f32⟩
  | 55 => ⟨S1x1x512, .f32⟩
  | 56 => ⟨S2x4096x512, .f32⟩
  | 57 => ⟨S2x4096x512, .f32⟩
  | 58 => ⟨S2x4096x512, .f32⟩
  | 59 => ⟨S2x4096x512, .f32⟩
  | 60 => ⟨S1x512, .f32⟩
  | 61 => ⟨S512, .f32⟩
  | 62 => ⟨S1x1x512, .f32⟩
  | 63 => ⟨S2x4096x512, .f32⟩
  | 64 => ⟨S2x4096x512, .f32⟩
  | 65 => ⟨S2x4096x512, .f32⟩
  | 66 => ⟨S2x4096x512, .f32⟩
  | 67 => ⟨S1x512, .f32⟩
  | 68 => ⟨S512, .f32⟩
  | 69 => ⟨S1x1x512, .f32⟩
  | 70 => ⟨S2x4096x512, .f32⟩
  | 71 => ⟨S2x4096x512, .f32⟩
  | 72 => ⟨S2x4096x512, .f32⟩
  | 73 => ⟨S2x4096x512, .f32⟩
  | 74 => ⟨S1x512, .f32⟩
  | 75 => ⟨S512, .f32⟩
  | 76 => ⟨S1x1x512, .f32⟩
  | 77 => ⟨S2x4096x512, .f32⟩
  | 78 => ⟨S2x4096x512, .f32⟩
  | 79 => ⟨S2x4096x512, .f32⟩
  | 80 => ⟨S2x4096x512, .f32⟩
  | 81 => ⟨S1x512, .f32⟩
  | 82 => ⟨S512, .f32⟩
  | 83 => ⟨S1x1x512, .f32⟩
  | 84 => ⟨S2x4096x512, .f32⟩
  | 85 => ⟨S2x4096x512, .f32⟩
  | 86 => ⟨S2x4096x512, .f32⟩
  | 87 => ⟨S2x4096x512, .f32⟩
  | 88 => ⟨S1x512, .f32⟩
  | 89 => ⟨S512, .f32⟩
  | 90 => ⟨S1x1x512, .f32⟩
  | 91 => ⟨S2x4096x512, .f32⟩
  | 92 => ⟨S2x4096x512, .f32⟩
  | 93 => ⟨S2x4096x512, .f32⟩
  | 94 => ⟨S2x4096x512, .f32⟩
  | 95 => ⟨S1x512, .f32⟩
  | 96 => ⟨S512, .f32⟩
  | 97 => ⟨S1x1x512, .f32⟩
  | 98 => ⟨S2x4096x512, .f32⟩
  | 99 => ⟨S2x4096x512, .f32⟩
  | 100 => ⟨S2x4096x512, .f32⟩
  | 101 => ⟨S2x4096x512, .f32⟩
  | 102 => ⟨S1x512, .f32⟩
  | 103 => ⟨S512, .f32⟩
  | 104 => ⟨S1x1x512, .f32⟩
  | 105 => ⟨S2x4096x512, .f32⟩
  | 106 => ⟨S2x4096x512, .f32⟩
  | 107 => ⟨S2x4096x512, .f32⟩
  | 108 => ⟨S2x4096x512, .f32⟩
  | 109 => ⟨S1x512, .f32⟩
  | 110 => ⟨S512, .f32⟩
  | 111 => ⟨S1x1x512, .f32⟩
  | 112 => ⟨S2x4096x512, .f32⟩
  | 113 => ⟨S2x4096x512, .f32⟩
  | 114 => ⟨S2x4096x512, .f32⟩
  | 115 => ⟨S2x4096x512, .f32⟩
  | 116 => ⟨S1x512, .f32⟩
  | 117 => ⟨S512, .f32⟩
  | 118 => ⟨S1x1x512, .f32⟩
  | 119 => ⟨S2x4096x512, .f32⟩
  | 120 => ⟨S2x4096x512, .f32⟩
  | 121 => ⟨S2x4096x512, .f32⟩
  | 122 => ⟨S2x4096x512, .f32⟩
  | 123 => ⟨S1x512, .f32⟩
  | 124 => ⟨S512, .f32⟩
  | 125 => ⟨S1x1x512, .f32⟩
  | 126 => ⟨S2x4096x512, .f32⟩
  | 127 => ⟨S2x4096x512, .f32⟩
  | _ => ⟨S8192x1024, .f32⟩

abbrev hbmTy0_2 (i : Nat) : BufTy := match i % 128 with
  | 0 => ⟨S2x4096x512, .f32⟩
  | 1 => ⟨S1x1x512, .f32⟩
  | 2 => ⟨S2x4096x512, .f32⟩
  | 3 => ⟨S2x4096x512, .f32⟩
  | 4 => ⟨S_, .f32⟩
  | 5 => ⟨S2x4096, .f32⟩
  | 6 => ⟨S2x4096x1, .f32⟩
  | 7 => ⟨S_, .f32⟩
  | 8 => ⟨S2x4096x1, .f32⟩
  | 9 => ⟨S2x4096x1, .f32⟩
  | 10 => ⟨S2x4096x512, .f32⟩
  | 11 => ⟨S2x4096x512, .f32⟩
  | 12 => ⟨S2x4096x512, .f32⟩
  | 13 => ⟨S_, .f32⟩
  | 14 => ⟨S2x4096, .f32⟩
  | 15 => ⟨S2x4096x1, .f32⟩
  | 16 => ⟨S_, .f32⟩
  | 17 => ⟨S2x4096x1, .f32⟩
  | 18 => ⟨S2x4096x1, .f32⟩
  | 19 => ⟨S2x4096x512, .f32⟩
  | 20 => ⟨S2x4096x512, .f32⟩
  | 21 => ⟨S_, .f32⟩
  | 22 => ⟨S2x4096x1, .f32⟩
  | 23 => ⟨S2x4096x1, .f32⟩
  | 24 => ⟨S2x4096x1, .f32⟩
  | 25 => ⟨S2x4096x512, .f32⟩
  | 26 => ⟨S2x4096x512, .f32⟩
  | 27 => ⟨S1x1x512, .f32⟩
  | 28 => ⟨S2x4096x512, .f32⟩
  | 29 => ⟨S2x4096x512, .f32⟩
  | 30 => ⟨S1x1x512, .f32⟩
  | 31 => ⟨S2x4096x512, .f32⟩
  | 32 => ⟨S2x4096x512, .f32⟩
  | 33 => ⟨S2x4096x512, .f32⟩
  | 34 => ⟨S2x4096x512, .f32⟩
  | 35 => ⟨S_, .f32⟩
  | 36 => ⟨S2x4096x512, .f32⟩
  | 37 => ⟨S2x4096x512, .f32⟩
  | 38 => ⟨S_, .f32⟩
  | 39 => ⟨S2x4096x512, .f32⟩
  | 40 => ⟨S2x4096x512, .f32⟩
  | 41 => ⟨S2x4096x512, .f32⟩
  | 42 => ⟨S2x4096x512, .f32⟩
  | 43 => ⟨S2x4098x512, .f32⟩
  | 44 => ⟨S2x4096x512, .f32⟩
  | 45 => ⟨S1x512, .f32⟩
  | 46 => ⟨S512, .f32⟩
  | 47 => ⟨S1x1x512, .f32⟩
  | 48 => ⟨S2x4096x512, .f32⟩
  | 49 => ⟨S2x4096x512, .f32⟩
  | 50 => ⟨S_, .f32⟩
  | 51 => ⟨S2x4096x512, .f32⟩
  | 52 => ⟨S2x4096x512, .f32⟩
  | 53 => ⟨S2x4096x512, .f32⟩
  | 54 => ⟨S1x512, .f32⟩
  | 55 => ⟨S512, .f32⟩
  | 56 => ⟨S1x1x512, .f32⟩
  | 57 => ⟨S2x4096x512, .f32⟩
  | 58 => ⟨S2x4096x512, .f32⟩
  | 59 => ⟨S2x4096x512, .f32⟩
  | 60 => ⟨S2x4096x512, .f32⟩
  | 61 => ⟨S1x512, .f32⟩
  | 62 => ⟨S512, .f32⟩
  | 63 => ⟨S1x1x512, .f32⟩
  | 64 => ⟨S2x4096x512, .f32⟩
  | 65 => ⟨S2x4096x512, .f32⟩
  | 66 => ⟨S2x4096x512, .f32⟩
  | 67 => ⟨S2x4096x512, .f32⟩
  | 68 => ⟨S8192x512, .f32⟩
  | 69 => ⟨S8192x512, .bf16⟩
  | 70 => ⟨S8192x512, .f32⟩
  | 71 => ⟨S8192x512, .bf16⟩
  | 72 => ⟨S2x32x512, .f32⟩
  | 73 => ⟨S2x8x512, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_cst_4 : Ref sig .tc := ⟨.hbm, 260, rfl⟩
abbrev main_v248 : Ref sig .tc := ⟨.hbm, 261, rfl⟩
abbrev main_v249 : Ref sig .tc := ⟨.hbm, 262, rfl⟩
abbrev main_cst_5 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_cst_6 : Ref sig .tc := ⟨.hbm, 269, rfl⟩
abbrev main_v255 : Ref sig .tc := ⟨.hbm, 270, rfl⟩
abbrev main_v256 : Ref sig .tc := ⟨.hbm, 271, rfl⟩
abbrev main_cst_7 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_cst_8 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_call0_v0 : Ref sig .tc := ⟨.hbm, 289, rfl⟩
abbrev main_call0_v1 : Ref sig .tc := ⟨.hbm, 290, rfl⟩
abbrev main_call0_cst : Ref sig .tc := ⟨.hbm, 291, rfl⟩
abbrev main_call0_v2 : Ref sig .tc := ⟨.hbm, 292, rfl⟩
abbrev main_call0_v3 : Ref sig .tc := ⟨.hbm, 293, rfl⟩
abbrev main_call0_cst_0 : Ref sig .tc := ⟨.hbm, 294, rfl⟩
abbrev main_call0_v4 : Ref sig .tc := ⟨.hbm, 295, rfl⟩
abbrev main_call0_v5 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_cst_9 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩

abbrev nD : Nat := 1
abbrev τ : Topo := Topo.v7x

variable {F : FTy → Type} [FloatOps F]
-- ==== Inprojs.lean ====
abbrev S32x1x2048 : Shape := ⟨3, ![32, 1, 2048]⟩
abbrev S2x2048x5632 : Shape := ⟨3, ![2, 2048, 5632]⟩
abbrev S32x2048 : Shape := ⟨2, ![32, 2048]⟩
abbrev S32x1024 : Shape := ⟨2, ![32, 1024]⟩
abbrev S32x1536 : Shape := ⟨2, ![32, 1536]⟩
abbrev S1x2048x512 : Shape := ⟨3, ![1, 2048, 512]⟩
abbrev S32x512 : Shape := ⟨2, ![32, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S32x1x2048, .f32⟩
  | .hbm, ⟨1, _⟩ => ⟨S2x2048x5632, .f32⟩
  | .hbm, ⟨2, _⟩ => ⟨S32x2048, .f32⟩
  | .hbm, ⟨3, _⟩ => ⟨S32x1024, .f32⟩
  | .hbm, ⟨4, _⟩ => ⟨S32x1024, .bf16⟩
  | .hbm, ⟨5, _⟩ => ⟨S32x1024, .f32⟩
  | .hbm, ⟨6, _⟩ => ⟨S32x1024, .f32⟩
  | .hbm, ⟨7, _⟩ => ⟨S32x1536, .f32⟩
  | .local _ .vmem, ⟨0, _⟩ => ⟨S32x2048, .f32⟩
  | .local _ .vmem, ⟨1, _⟩ => ⟨S1x2048x512, .f32⟩
  | .local _ .vmem, ⟨2, _⟩ => ⟨S1x2048x512, .f32⟩
  | .local _ .vmem, ⟨3, _⟩ => ⟨S32x512, .f32⟩
  | .local _ .vmem, ⟨4, _⟩ => ⟨S32x512, .f32⟩
  | .local _ .vmem, ⟨5, _⟩ => ⟨S32x512, .bf16⟩
  | .local _ .vmem, ⟨6, _⟩ => ⟨S32x512, .bf16⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c2_i32 : BitVec 32 := 2#32
  let v8 : BitVec 1 := Scalar.cmpi .slt arg1 c2_i32
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c2_i32_6 : BitVec 32 := 2#32
  let v11 : BitVec 1 := Scalar.cmpi .sge arg1 c2_i32_6
  let c4_i32 : BitVec 32 := 4#32
  let v12 : BitVec 1 := Scalar.cmpi .slt arg1 c4_i32
  let v13 : BitVec 1 := Scalar.andi v11 v12
  let v14 : BitVec 32 := Scalar.extui v13
  let c0_i32_7 : BitVec 32 := 0#32
  let v15 : BitVec 1 := Scalar.cmpi .ne v14 c0_i32_7
  v15

def k0_cond4 (i : grid0.Coords) : BitVec 1 :=
  let arg1 : BitVec 32 := BitVec.ofNat 32 (i 1).val
  let c4_i32_8 : BitVec 32 := 4#32
  let v16 : BitVec 1 := Scalar.cmpi .sge arg1 c4_i32_8
  let c6_i32 : BitVec 32 := 6#32
  let v17 : BitVec 1 := Scalar.cmpi .slt arg1 c6_i32
  let v18 : BitVec 1 := Scalar.andi v16 v17
  let v19 : BitVec 32 := Scalar.extui v18
  let c0_i32_9 : BitVec 32 := 0#32
  let v20 : BitVec 1 := Scalar.cmpi .ne v19 c0_i32_9
  v20

def k0_cond5 (i : grid0.Coords) : BitVec 1 :=
  let arg1 : BitVec 32 := BitVec.ofNat 32 (i 1).val
  let c6_i32_10 : BitVec 32 := 6#32
  let v21 : BitVec 1 := Scalar.cmpi .sge arg1 c6_i32_10
  let c8_i32 : BitVec 32 := 8#32
  let v22 : BitVec 1 := Scalar.cmpi .slt arg1 c8_i32
  let v23 : BitVec 1 := Scalar.andi v21 v22
  let v24 : BitVec 32 := Scalar.extui v23
  let c0_i32_11 : BitVec 32 := 0#32
  let v25 : BitVec 1 := Scalar.cmpi .ne v24 c0_i32_11
  v25

def k0_cond6 (i : grid0.Coords) : BitVec 1 :=
  let arg1 : BitVec 32 := BitVec.ofNat 32 (i 1).val
  let c8_i32_12 : BitVec 32 := 8#32
  let v26 : BitVec 1 := Scalar.cmpi .sge arg1 c8_i32_12
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InprojsReferenceIdeal.lean ====
abbrev S32x1x2048 : Shape := ⟨3, ![32, 1, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S32x1x5632 : Shape := ⟨3, ![32, 1, 5632]⟩
abbrev S32x1x512 : Shape := ⟨3, ![32, 1, 512]⟩
abbrev S32x1x1024 : Shape := ⟨3, ![32, 1, 1024]⟩
abbrev S32x1024 : Shape := ⟨2, ![32, 1024]⟩
abbrev S_ : Shape := ⟨0, ![]⟩
abbrev S32x1x1536 : Shape := ⟨3, ![32, 1, 1536]⟩
abbrev S32x1536 : Shape := ⟨2, ![32, 1536]⟩

abbrev nBuf : Space → Nat
  | .hbm => 24
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2x2048x5632, .f32⟩
  | .hbm, ⟨2, _⟩ => ⟨S1x2048x5632, .f32⟩
  | .hbm, ⟨3, _⟩ => ⟨S2048x5632, .f32⟩
  | .hbm, ⟨4, _⟩ => ⟨S32x1x5632, .f32⟩
  | .hbm, ⟨5, _⟩ => ⟨S32x1x512, .f32⟩
  | .hbm, ⟨6, _⟩ => ⟨S32x1x512, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x512, .f32⟩
  | .hbm, ⟨11, _⟩ => ⟨S32x1x512, .f32⟩
  | .hbm, ⟨12, _⟩ => ⟨S32x1x512, .f32⟩
  | .hbm, ⟨13, _⟩ => ⟨S32x1x1024, .f32⟩
  | .hbm, ⟨14, _⟩ => ⟨S32x1024, .f32⟩
  | .hbm, ⟨15, _⟩ => ⟨S_, .f32⟩
  | .hbm, ⟨16, _⟩ => ⟨S32x1x1024, .f32⟩
  | .hbm, ⟨17, _⟩ => ⟨S32x1x1024, .f32⟩
  | .hbm, ⟨18, _⟩ => ⟨S32x1024, .f32⟩
  | .hbm, ⟨19, _⟩ => ⟨S32x1024, .bf16⟩
  | .hbm, ⟨20, _⟩ => ⟨S32x1024, .f32⟩
  | .hbm, ⟨21, _⟩ => ⟨S32x1024, .f32⟩
  | .hbm, ⟨22, _⟩ => ⟨S32x1x1536, .f32⟩
  | .hbm, ⟨23, _⟩ => ⟨S32x1536, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Proof.AttnMath.lean ====
/-
  Stick-breaking attention for one query over the extended reals: what a key weighs, the attended value, and the two
  forms it is computed in — block by block from the last key to the first, and all keys at once.
-/
module

public import Idealize.ShloMosaic.PureOps
public import Idealize.ShloMosaic.Lib.Pipeline.ValueKit

@[expose] public section

noncomputable section

open Idealize.ShloMosaic

namespace Cert.Hand

/-- `log (1 + exp z)` in the form that does not overflow. -/
def softplus (z : EReal) : EReal := max z 0 + Ideal.log (1 + Ideal.exp (0 - max z (-z)))

/-- What key `l` takes off the keys before it, for the query at position `s`: nothing unless it comes before the query. -/
def part (z : ℕ → EReal) (s l : ℕ) : EReal := if l < s then softplus (z l) else 0

/-- What key `j` weighs for the query at position `s`. -/
def weight (z : ℕ → EReal) (s j : ℕ) : EReal :=
  if j < s then Ideal.exp (z j - ∑ l ∈ Finset.Ico j 4096, part z s l) else 0

/-- The attended value of the query at position `s`. -/
def attend (z v : ℕ → EReal) (s : ℕ) : EReal := ∑ j ∈ Finset.range 4096, weight z s j * v j

/-- A family over the 4096 positions, continued by zero. -/
def up (f : Fin 4096 → EReal) (l : ℕ) : EReal := if h : l < 4096 then f ⟨l, h⟩ else 0

theorem up_val (f : Fin 4096 → EReal) (l : ℕ) (h : l < 4096) : up f l = f ⟨l, h⟩ := dif_pos h

theorem coe_sum {ι : Type} (t : Finset ι) (f : ι → ℝ) : ((∑ l ∈ t, f l : ℝ) : EReal) = ∑ l ∈ t, (f l : EReal) := by
  classical
  induction t using Finset.induction_on with
  | empty => simp
  | insert a t ha ih => rw [Finset.sum_insert ha, Finset.sum_insert ha, EReal.coe_add, ih]

theorem coe_max (a b : ℝ) : ((max a b : ℝ) : EReal) = max (a : EReal) (b : EReal) := EReal.coe_strictMono.monotone.map_max

/-- At a real number `softplus` is a real number. -/
theorem softplus_coe (y : ℝ) : softplus (y : EReal) = ((max y 0 + Real.log (1 + Real.exp (0 - max y (-y))) : ℝ) : EReal) := by
  have h1 : max (y : EReal) (-(y : EReal)) = ((max y (-y) : ℝ) : EReal) := by rw [← EReal.coe_neg, coe_max]
  have h2 : (0 : EReal) - ((max y (-y) : ℝ) : EReal) = ((0 - max y (-y) : ℝ) : EReal) := by rw [EReal.coe_sub, EReal.coe_zero]
  have h3 : Ideal.exp ((0 - max y (-y) : ℝ) : EReal) = (Real.exp (0 - max y (-y)) : EReal) := rfl
  have h4 : (1 : EReal) + (Real.exp (0 - max y (-y)) : EReal) = ((1 + Real.exp (0 - max y (-y)) : ℝ) : EReal) := by
    rw [EReal.coe_add, EReal.coe_one]
  have h5 : Ideal.log ((1 + Real.exp (0 - max y (-y)) : ℝ) : EReal) = (Real.log (1 + Real.exp (0 - max y (-y))) : EReal) :=
    if_neg (by have := Real.exp_pos (0 - max y (-y)); linarith)
  unfold softplus
  rw [h1, h2, h3, h4, h5, EReal.coe_add, coe_max, EReal.coe_zero]

/-- Two sides of the identity `log_sigmoid z = z - softplus z`. -/
theorem neg_softplus_neg (y : ℝ) : -softplus (-(y : EReal)) = (y : EReal) - softplus (y : EReal) := by
  rw [← EReal.coe_neg, softplus_coe, softplus_coe, ← EReal.coe_neg, ← EReal.coe_sub, neg_neg, max_comm (-y) y]
  congr 1
  rcases le_total y 0 with h | h
  · rw [max_eq_left (by linarith : (0 : ℝ) ≤ -y), max_eq_right h]; ring
  · rw [max_eq_right (by linarith : -y ≤ (0 : ℝ)), max_eq_left h]; ring

/-- The parts are real numbers when the scores are. -/
theorem part_real (z : ℕ → EReal) (s : ℕ) (hz : ∀ l, ∃ y : ℝ, z l = y) : ∃ w : ℕ → ℝ, ∀ l, part z s l = w l := by
  choose y hy using hz
  refine ⟨fun l => if l < s then max (y l) 0 + Real.log (1 + Real.exp (0 - max (y l) (-y l))) else 0, fun l => ?_⟩
  unfold part
  rw [hy l, softplus_coe]
  by_cases h : l < s
  · simp only [if_pos h]
  · simp only [if_neg h, EReal.coe_zero]

/-- The sum over the positions from `256 K` on takes in one block of 256 more. -/
theorem sum_block (g : ℕ → EReal) (K : ℕ) (hK : K < 16) : ∑ l ∈ Finset.Ico (256 * K) 4096, g l
    = (∑ l ∈ Finset.Ico (256 * (K + 1)) 4096, g l) + ∑ p : Fin 256, g (256 * K + p.val) := by
  rw [← Finset.sum_Ico_consecutive g (show 256 * K ≤ 256 * (K + 1) by omega) (show 256 * (K + 1) ≤ 4096 by omega), add_comm]
  congr 1
  rw [Finset.sum_Ico_eq_sum_range, show 256 * (K + 1) - 256 * K = 256 by omega, Finset.sum_range]

/-- A block's later positions, counted by a mask of ones and zeros. -/
theorem sum_later (g : ℕ → EReal) (K : ℕ) (c : Fin 256) (hK : K < 16) : ∑ l ∈ Finset.Ico (256 * K + c.val) 4096, g l
    = (∑ l ∈ Finset.Ico (256 * (K + 1)) 4096, g l) + ∑ p : Fin 256, g (256 * K + p.val) * (if c.val ≤ p.val then 1 else 0) := by
  have hc := c.isLt
  rw [← Finset.sum_Ico_consecutive g (show 256 * K + c.val ≤ 256 * (K + 1) by omega) (show 256 * (K + 1) ≤ 4096 by omega), add_comm]
  congr 1
  rw [← Finset.sum_range (fun p => g (256 * K + p) * (if c.val ≤ p then 1 else 0)),
    ← Finset.sum_range_add_sum_Ico (fun p => g (256 * K + p) * (if c.val ≤ p then 1 else 0)) (show c.val ≤ 256 by omega),
    Finset.sum_eq_zero (s := Finset.range c.val) (fun p hp => by rw [if_neg (by have := Finset.mem_range.1 hp; omega), mul_zero]), zero_add]
  rw [Finset.sum_Ico_eq_sum_range, Finset.sum_Ico_eq_sum_range, show 256 * (K + 1) - (256 * K + c.val) = 256 - c.val by omega]
  exact Finset.sum_congr rfl fun p _ => by rw [if_pos (by omega), mul_one, Nat.add_assoc]

/-- The sums carried from block to block, the last key's first: the attended values so far, and the parts so far. -/
def accFrom (z v : ℕ → EReal) (s K : ℕ) : EReal := ∑ j ∈ Finset.Ico (256 * K) 4096, weight z s j * v j

def runFrom (z : ℕ → EReal) (s K : ℕ) : EReal := ∑ j ∈ Finset.Ico (256 * K) 4096, part z s j

theorem accFrom_top (z v : ℕ → EReal) (s K : ℕ) (h : s ≤ 256 * K) : accFrom z v s K = 0 :=
  Finset.sum_eq_zero fun j hj => by
    unfold weight; rw [if_neg (by have := (Finset.mem_Ico.1 hj).1; omega), zero_mul]

theorem runFrom_top (z : ℕ → EReal) (s K : ℕ) (h : s ≤ 256 * K) : runFrom z s K = 0 :=
  Finset.sum_eq_zero fun j hj => by
    unfold part; rw [if_neg (by have := (Finset.mem_Ico.1 hj).1; omega)]

theorem accFrom_zero (z v : ℕ → EReal) (s : ℕ) : accFrom z v s 0 = attend z v s := by
  unfold accFrom attend; rw [Nat.mul_zero, Finset.range_eq_Ico]

theorem runFrom_step (z : ℕ → EReal) (s K : ℕ) (hK : K < 16) :
    runFrom z s K = runFrom z s (K + 1) + ∑ p : Fin 256, part z s (256 * K + p.val) := sum_block _ K hK

/-- One block of 256 keys, as the kernel adds it. -/
theorem accFrom_step (z v : ℕ → EReal) (s K : ℕ) (hK : K < 16) (hz : ∀ l, ∃ y : ℝ, z l = y) :
    accFrom z v s K = accFrom z v s (K + 1) + ∑ p : Fin 256,
      (if 256 * K + p.val < s then Ideal.exp (z (256 * K + p.val)
          - ((∑ u : Fin 256, part z s (256 * K + u.val) * (if p.val ≤ u.val then 1 else 0))
            + ∑ u : Fin 256, (part z s (256 * K + u.val) - part z s (256 * K + u.val)) * (if p.val ≤ u.val then 1 else 0))
          - runFrom z s (K + 1)) else 0) * v (256 * K + p.val) := by
  obtain ⟨w, hw⟩ := part_real z s hz
  choose y hy using hz
  refine (sum_block _ K hK).trans (congrArg₂ (· + ·) rfl (Finset.sum_congr rfl fun p _ => congrArg (· * _) ?_))
  unfold weight runFrom
  split
  · congr 1
    rw [sum_later _ K p hK]
    have h0 : ∑ u : Fin 256, (part z s (256 * K + u.val) - part z s (256 * K + u.val)) * (if p.val ≤ u.val then 1 else 0) = 0 :=
      Finset.sum_eq_zero fun u _ => by rw [hw, ← EReal.coe_sub, sub_self, EReal.coe_zero, zero_mul]
    have h1 : ∑ u : Fin 256, part z s (256 * K + u.val) * (if p.val ≤ u.val then 1 else 0)
        = ((∑ u : Fin 256, w (256 * K + u.val) * (if p.val ≤ u.val then 1 else 0) : ℝ) : EReal) := by
      rw [coe_sum]
      refine Finset.sum_congr rfl fun u _ => ?_
      rw [hw]; split <;> simp
    have h2 : ∑ l ∈ Finset.Ico (256 * (K + 1)) 4096, part z s l = ((∑ l ∈ Finset.Ico (256 * (K + 1)) 4096, w l : ℝ) : EReal) := by
      rw [coe_sum]; exact Finset.sum_congr rfl fun l _ => hw l
    rw [h0, add_zero, hy, h1, h2, ← EReal.coe_add, ← EReal.coe_sub, ← EReal.coe_sub, ← EReal.coe_sub]
    congr 1; ring
  · rfl

/-- All keys at once, as the reference weighs them. -/
theorem weight_eq (z : ℕ → EReal) (s j : ℕ) (hz : ∀ l, ∃ y : ℝ, z l = y) :
    (if j < s then Ideal.exp (-softplus (-(z j)) - ((∑ l ∈ Finset.Ico j 4096, part z s l) - part z s j)) else 0) = weight z s j := by
  obtain ⟨w, hw⟩ := part_real z s hz
  choose y hy using hz
  unfold weight
  split
  · next h =>
    have hp : softplus (z j) = w j := by rw [← hw j]; unfold part; rw [if_pos h]
    have h2 : ∑ l ∈ Finset.Ico j 4096, part z s l = ((∑ l ∈ Finset.Ico j 4096, w l : ℝ) : EReal) := by
      rw [coe_sum]; exact Finset.sum_congr rfl fun l _ => hw l
    rw [hy] at hp
    rw [hy, neg_softplus_neg, hp, hw, h2, ← EReal.coe_sub, ← EReal.coe_sub, ← EReal.coe_sub, ← EReal.coe_sub]
    congr 2; ring
  · rfl

end Cert.Hand
-- ==== Proof.AttnPay.lean ====
/-
  The attention of the prompt: what one block of keys adds, read at an index.
-/
module

public import proofs.«01_k».proof.Proof.Gen.KernelIdeal.Value
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen Cert.Hand

/-- The mask of a block: key `256 K + c` comes before query `512 i + r`. -/
theorem mask_at {α : Type} (K i r c : ℕ) (hK : K < 16) (hi : i < 8) (hr : r < 512) (hc : c < 256) (a b : α) :
    Scalar.select (IntOp.cmpi CmpIPredicate.slt (IntOp.addi (Scalar.muli (BitVec.ofNat 32 K) 256#32) (BitVec.ofNat 32 c))
        (IntOp.addi (Scalar.muli (BitVec.ofNat 32 i) 512#32) (BitVec.ofNat 32 r))) a b
      = if 256 * K + c < 512 * i + r then a else b := by
  have e : IntOp.cmpi CmpIPredicate.slt (IntOp.addi (Scalar.muli (BitVec.ofNat 32 K) 256#32) (BitVec.ofNat 32 c))
      (IntOp.addi (Scalar.muli (BitVec.ofNat 32 i) 512#32) (BitVec.ofNat 32 r))
      = BitVec.ofBool (decide (K * 256 + c < i * 512 + r)) := by
    show IntOp.cmpi CmpIPredicate.slt (IntOp.addi (IntOp.muli (BitVec.ofNat 32 K) (BitVec.ofNat 32 256)) (BitVec.ofNat 32 c))
      (IntOp.addi (IntOp.muli (BitVec.ofNat 32 i) (BitVec.ofNat 32 512)) (BitVec.ofNat 32 r)) = _
    rw [WordCmp.muli_ofNat, WordCmp.muli_ofNat, WordCmp.addi_ofNat, WordCmp.addi_ofNat, WordCmp.cmpi_slt_ofNat (by omega) (by omega)]
  rw [e]
  by_cases h : 256 * K + c < 512 * i + r
  · rw [if_pos h, decide_eq_true (by omega)]; rfl
  · rw [if_neg h, decide_eq_false (by omega)]; rfl

/-- The word of the block `d` places below the query block's last, `d < 2`. -/
theorem word_first (i : Fin 8) : Scalar.subi (Scalar.subi (Scalar.muli (Scalar.addi (BitVec.ofNat 32 i.val) 1#32) 2#32) 1#32) 0#32
    = BitVec.ofNat 32 (2 * i.val + 1) := by revert i; decide

theorem word_second (i : Fin 8) : Scalar.subi (Scalar.subi (Scalar.muli (Scalar.addi (BitVec.ofNat 32 i.val) 1#32) 2#32) 1#32) 1#32
    = BitVec.ofNat 32 (2 * i.val) := by revert i; decide

/-- What holds of a query row `r` and a block `K` of key and value rows: the scores, the values, and the mask of ones
    and zeros are those of the whole sequence. -/
structure Block (z vv : ℕ → EReal) (K : ℕ) (b : EReal) (q : Vec Ideal S512x128 .bf16) (k v : Vec Ideal S256x128 .bf16)
    (tri : FVec Ideal S256x256 .bf16) (r : Fin 512) (d : Fin 128) : Prop where
  hK : K < 16
  real : ∀ l, ∃ y : ℝ, z l = y
  score : ∀ c : Fin 256, ∑ x : Fin 128, q (ix2 r x) * k (ix2 c x) + b = z (256 * K + c.val)
  value : ∀ c : Fin 256, v (ix2 c d) = vv (256 * K + c.val)
  later : ∀ u c : Fin 256, tri (ix2 u c) = if c.val ≤ u.val then 1 else 0

variable {z vv : ℕ → EReal} {K : ℕ} {b : Elt Ideal .f32} {q : Vec Ideal S512x128 .bf16} {k v : Vec Ideal S256x128 .bf16}
  {tri : FVec Ideal S256x256 .bf16} {r : Fin 512} {d : Fin 128}

/-- A block all of whose keys come before the query. -/
theorem pay22_at (s : ℕ) (h : Block z vv K b q k v tri r d) (hs : 256 * (K + 1) ≤ s) (acc : FVec Ideal S512x128 .f32)
    (run : FVec Ideal S512x1 .f32) (ha : acc (ix2 r d) = accFrom z vv s (K + 1)) (hr : run (ix2 r 0) = runFrom z s (K + 1)) :
    k0_pay22 b q tri acc run k v (ix2 r d) = accFrom z vv s K := by
  pointwise [k0_pay22, k0_pay21, k0_pay20]
  simp only [h.score, h.value, h.later, ha, hr]
  rw [accFrom_step z vv s K h.hK h.real]
  have e : ∀ u : Fin 256, 256 * K + u.val < s := fun u => by omega
  simp only [part, e, if_true]
  rfl

theorem pay23_at (s : ℕ) (h : Block z vv K b q k v tri r d) (hs : 256 * (K + 1) ≤ s)
    (run : FVec Ideal S512x1 .f32) (hr : run (ix2 r 0) = runFrom z s (K + 1)) :
    k0_pay23 b q run k (ix2 r 0) = runFrom z s K := by
  pointwise [k0_pay23, k0_pay21, k0_pay20]
  simp only [h.score, hr]
  rw [runFrom_step z s K h.hK]
  have e : ∀ u : Fin 256, 256 * K + u.val < s := fun u => by omega
  simp only [part, e, if_true]
  rfl

/-- The first block of a query block, its later keys masked. -/
theorem pay11_at (i : grid0.Coords) (w : BitVec 32) (hw : w = BitVec.ofNat 32 K) (h : Block z vv K b q k v tri r d)
    (acc : FVec Ideal S512x128 .f32) (run : FVec Ideal S512x1 .f32)
    (ha : acc (ix2 r d) = accFrom z vv (512 * (i 2).val + r.val) (K + 1))
    (hr : run (ix2 r 0) = runFrom z (512 * (i 2).val + r.val) (K + 1)) :
    k0_pay11 tri acc run w v (k0_pay6 b q k) (k0_pay7 b q k) (iota .tc S512x256 32 [0] iota_S512x256_d0_w32) (k0_pay8 i) (ix2 r d)
      = accFrom z vv (512 * (i 2).val + r.val) K := by
  subst hw
  have hi : (i 2).val < 8 := (i 2).isLt
  pointwise [k0_pay11, k0_pay10, k0_pay9, k0_pay8, k0_pay7, k0_pay6]
  simp only [h.score, h.value, h.later, ha, hr, mask_at K (i 2).val r.val _ h.hK hi r.isLt (Fin.isLt _)]
  rw [accFrom_step z vv _ K h.hK h.real]
  simp only [part, ite_mul, zero_mul]
  rfl

theorem pay12_at (i : grid0.Coords) (w : BitVec 32) (hw : w = BitVec.ofNat 32 K) (h : Block z vv K b q k v tri r d)
    (run : FVec Ideal S512x1 .f32) (hr : run (ix2 r 0) = runFrom z (512 * (i 2).val + r.val) (K + 1)) :
    k0_pay12 run w (k0_pay7 b q k) (iota .tc S512x256 32 [0] iota_S512x256_d0_w32) (k0_pay8 i) (ix2 r 0)
      = runFrom z (512 * (i 2).val + r.val) K := by
  subst hw
  have hi : (i 2).val < 8 := (i 2).isLt
  pointwise [k0_pay12, k0_pay10, k0_pay9, k0_pay8, k0_pay7, k0_pay6]
  simp only [h.score, hr, mask_at K (i 2).val r.val _ h.hK hi r.isLt (Fin.isLt _)]
  rw [runFrom_step z _ K h.hK]
  rfl

/-- The second block of a query block. -/
theorem pay18_at (i : grid0.Coords) (w : BitVec 32) (hw : w = BitVec.ofNat 32 K) (h : Block z vv K b q k v tri r d)
    (acc : FVec Ideal S512x128 .f32) (run : FVec Ideal S512x1 .f32)
    (ha : acc (ix2 r d) = accFrom z vv (512 * (i 2).val + r.val) (K + 1))
    (hr : run (ix2 r 0) = runFrom z (512 * (i 2).val + r.val) (K + 1)) :
    k0_pay18 (BitVec.ofNat 32 (i 2).val) tri acc run w v (k0_pay13 b q k) (k0_pay14 b q k) (k0_pay15 b q k)
        (FloatOps.ofBits .f32 0#32) (ix2 r d)
      = accFrom z vv (512 * (i 2).val + r.val) K := by
  subst hw
  have hi : (i 2).val < 8 := (i 2).isLt
  pointwise [k0_pay18, k0_pay17, k0_pay16, k0_pay15, k0_pay14, k0_pay13]
  simp only [h.score, h.value, h.later, ha, hr, mask_at K (i 2).val r.val _ h.hK hi r.isLt (Fin.isLt _)]
  rw [accFrom_step z vv _ K h.hK h.real]
  simp only [part, ite_mul, zero_mul]
  rfl

theorem pay19_at (i : grid0.Coords) (w : BitVec 32) (hw : w = BitVec.ofNat 32 K) (h : Block z vv K b q k v tri r d)
    (run : FVec Ideal S512x1 .f32) (hr : run (ix2 r 0) = runFrom z (512 * (i 2).val + r.val) (K + 1)) :
    k0_pay19 (BitVec.ofNat 32 (i 2).val) run w (k0_pay14 b q k) (k0_pay15 b q k) (FloatOps.ofBits .f32 0#32) (ix2 r 0)
      = runFrom z (512 * (i 2).val + r.val) K := by
  subst hw
  have hi : (i 2).val < 8 := (i 2).isLt
  pointwise [k0_pay19, k0_pay17, k0_pay16, k0_pay15, k0_pay14, k0_pay13]
  simp only [h.score, hr, mask_at K (i 2).val r.val _ h.hK hi r.isLt (Fin.isLt _)]
  rw [runFrom_step z _ K h.hK]
  rfl

theorem pay28_at (x : FVec Ideal S512x128 .f32) : k0_pay28 x (ix2 r d) = x (ix2 r d) := by
  pointwise [k0_pay28]

theorem pay4_at : k0_pay4 (F := Ideal) (ix2 r d) = 0 := by
  pointwise [k0_pay4]

theorem pay5_at : k0_pay5 (F := Ideal) (ix2 r 0) = 0 := by
  pointwise [k0_pay5]

theorem pay3_eq (x : Vec Ideal S256x256 .bf16) : k0_pay3 x = x := by
  funext j; pointwise [k0_pay3]

end Cert.KernelIdeal.Hand
-- ==== Proof.AttnRun.lean ====
/-
  The attention of the prompt: what one grid point writes, and what it leaves in its two scratch arrays.
-/
module

public import proofs.«01_k».proof.Proof.Gen.KernelIdeal.Value
public import proofs.«01_k».proof.Proof.AttnPay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Hand

namespace Cert.KernelIdeal.Hand

open Cert.KernelIdeal Cert.KernelIdeal.Gen

/-- A block of 256 rows of an array of 4096 rows. -/
theorem ld_at (X : Vec Ideal S4096x128 .bf16) (K : ℕ) (hK : K < 16) (off : Fin 2 → ℕ)
    (h : ∀ a, off a + ![256, 128] a ≤ S4096x128.size a) (e : off = ![256 * K, 0]) (p : Fin 256) (x : Fin 128) :
    View.ld X (Rect.unit (s := S4096x128) off ![256, 128] h) (ix2 p x) = X (ix2 ⟨256 * K + p.val, by omega⟩ x) := by
  subst e
  pointwise

theorem off2_first (i : grid0.Coords) : k0_off2 i 0#32 = ![256 * (2 * (i 2).val + 1), 0] := by
  rw [show (0#32) = BitVec.ofNat 32 (0 : Fin 2).val from rfl, k0_off2_eq]
  congr 1
  show 512 * (i 2).val + 256 - 256 * 0 = _
  omega

theorem off2_second (i : grid0.Coords) : k0_off2 i 1#32 = ![256 * (2 * (i 2).val), 0] := by
  rw [show (1#32) = BitVec.ofNat 32 (1 : Fin 2).val from rfl, k0_off2_eq]
  congr 1
  show 512 * (i 2).val + 256 - 256 * 1 = _
  omega

theorem trips1 : ∀ i : grid0.Coords, (k0_t1_loop i).trips = 2 * (i 2).val := by decide +kernel

theorem trips2 : ∀ i : grid0.Coords, (k0_t2_loop i).trips = 0 := by decide +kernel

theorem off3_at : ∀ (i : grid0.Coords) (k : Fin (k0_t1_loop i).trips), k0_off3 i k = ![256 * (2 * (i 2).val - 1 - k.val), 0] := by
  decide +kernel

/-- The scores and values of one query row over the whole sequence. -/
structure Row (z vv : ℕ → EReal) (b : EReal) (q : Vec Ideal S512x128 .bf16) (k v : Vec Ideal S4096x128 .bf16)
    (tri : FVec Ideal S256x256 .bf16) (r : Fin 512) (d : Fin 128) : Prop where
  real : ∀ l, ∃ y : ℝ, z l = y
  score : ∀ l : Fin 4096, ∑ x : Fin 128, q (ix2 r x) * k (ix2 l x) + b = z l.val
  value : ∀ l : Fin 4096, v (ix2 l d) = vv l.val
  later : ∀ u c : Fin 256, tri (ix2 u c) = if c.val ≤ u.val then 1 else 0

theorem Row.block {z vv : ℕ → EReal} {b : EReal} {q : Vec Ideal S512x128 .bf16} {k v : Vec Ideal S4096x128 .bf16}
    {tri : FVec Ideal S256x256 .bf16} {r : Fin 512} {d : Fin 128} (h : Row z vv b q k v tri r d) (K : ℕ) (hK : K < 16)
    (off : Fin 2 → ℕ) (hk hv : ∀ a, off a + ![256, 128] a ≤ S4096x128.size a) (e : off = ![256 * K, 0]) :
    Block z vv K b q (View.ld k (Rect.unit (s := S4096x128) off ![256, 128] hk))
      (View.ld v (Rect.unit (s := S4096x128) off ![256, 128] hv)) tri r d where
  hK := hK
  real := h.real
  score p := by
    rw [← h.score ⟨256 * K + p.val, by omega⟩]
    refine congrArg (· + b) (Finset.sum_congr rfl fun x _ => ?_)
    rw [ld_at k K hK off hk e]
  value p := by
    rw [← h.value ⟨256 * K + p.val, by omega⟩]
    exact ld_at v K hK off hv e p d
  later := h.later

section Loops

variable (𝒱 : Variants) (c : Dev nD) (bd : Option 𝒱.V) (i : grid0.Coords) (arg3 : Memref sig .tc .smem S8 .f32) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S256x256 .bf16) (harg7 : arg7.IsWhole) (arg8 : Memref sig .tc .vmem S512x128 .bf16) (harg8 : arg8.IsWhole) (arg9 : Memref sig .tc .vmem S4096x128 .bf16) (harg9 : arg9.IsWhole) (arg10 : Memref sig .tc .vmem S4096x128 .bf16) (harg10 : arg10.IsWhole) (arg2 : BitVec 32) (v4 : Elt Ideal .f32) (v5 : Vec Ideal S512x128 .bf16) (v7 : FVec Ideal S256x256 .bf16) (v59 : FVec Ideal S512x128 .f32) (v62 : FVec Ideal S512x1 .f32) (v66 : BitVec 32) (v72 : Vec Ideal S256x128 .bf16) (v75 : FVec Ideal S512x256 .f32) (v77 : FVec Ideal S512x256 .f32) (v78 : FVec Ideal S512x256 .f32) (cst_29 : Ideal .f32) (X_arg9 : BufTy.Contents (Elt Ideal) arg9.view.ty) (X_arg10 : BufTy.Contents (Elt Ideal) arg10.view.ty) (init : FVec Ideal S512x128 .f32 × FVec Ideal S512x1 .f32)

/-- The walk over the blocks below a query block: before trip `n` the running pair holds what the blocks from
    `2 i - n` on add. -/
theorem loop1 {z vv : ℕ → EReal} {r : Fin 512} {d : Fin 128} (s : ℕ) (hs : 512 * (i 2).val ≤ s)
    (h : Row z vv v4 v5 (arg9.view.read (Elt Ideal) X_arg9) (arg10.view.read (Elt Ideal) X_arg10) v7 r d)
    (ha : init.1 (ix2 r d) = accFrom z vv s (2 * (i 2).val)) (hr : init.2 (ix2 r 0) = runFrom z s (2 * (i 2).val)) :
    ∀ n : ℕ, n ≤ 2 * (i 2).val →
      (st_k0_t1 (F := Ideal) 𝒱 c bd i arg3 harg3 arg4 harg4 arg5 harg5 arg6 harg6 arg7 harg7 arg8 harg8 arg9 harg9 arg10 harg10 arg2 v4 v5 v7 v59 v62 v66 v72 v75 v77 v78 cst_29 X_arg9 X_arg10 init n).1 (ix2 r d) = accFrom z vv s (2 * (i 2).val - n)
      ∧ (st_k0_t1 (F := Ideal) 𝒱 c bd i arg3 harg3 arg4 harg4 arg5 harg5 arg6 harg6 arg7 harg7 arg8 harg8 arg9 harg9 arg10 harg10 arg2 v4 v5 v7 v59 v62 v66 v72 v75 v77 v78 cst_29 X_arg9 X_arg10 init n).2 (ix2 r 0) = runFrom z s (2 * (i 2).val - n) := by
  intro n
  induction n with
  | zero => exact fun _ => ⟨ha, hr⟩
  | succ n ih =>
    intro hn
    have hi : (i 2).val < 8 := (i 2).isLt
    obtain ⟨iha, ihr⟩ := ih (by omega)
    have hn' : n < (k0_t1_loop i).trips := by rw [trips1]; omega
    have hb := h.block (2 * (i 2).val - 1 - n) (by omega) _ (k0_off3_inb i ⟨n, hn'⟩) (k0_off3_inb i ⟨n, hn'⟩) (off3_at i ⟨n, hn'⟩)
    have e1 : 2 * (i 2).val - n = 2 * (i 2).val - 1 - n + 1 := by omega
    have e2 : 2 * (i 2).val - (n + 1) = 2 * (i 2).val - 1 - n := by omega
    rw [e1] at iha ihr
    rw [e2]
    rw [st_k0_t1_succ (k := ⟨n, hn'⟩)]
    unfold tripR_k0_t1 trip_k0_t1
    dsimp only
    exact ⟨pay22_at s hb (by omega) _ _ iha ihr, pay23_at s hb (by omega) _ ihr⟩

theorem loop1_end {z vv : ℕ → EReal} {r : Fin 512} {d : Fin 128} (s n : ℕ) (hs : 512 * (i 2).val ≤ s) (hn : n = 2 * (i 2).val)
    (h : Row z vv v4 v5 (arg9.view.read (Elt Ideal) X_arg9) (arg10.view.read (Elt Ideal) X_arg10) v7 r d)
    (ha : init.1 (ix2 r d) = accFrom z vv s (2 * (i 2).val)) (hr : init.2 (ix2 r 0) = runFrom z s (2 * (i 2).val)) :
    (st_k0_t1 (F := Ideal) 𝒱 c bd i arg3 harg3 arg4 harg4 arg5 harg5 arg6 harg6 arg7 harg7 arg8 harg8 arg9 harg9 arg10 harg10 arg2 v4 v5 v7 v59 v62 v66 v72 v75 v77 v78 cst_29 X_arg9 X_arg10 init n).1 (ix2 r d) = attend z vv s := by
  subst hn
  rw [(loop1 𝒱 c bd i arg3 harg3 arg4 harg4 arg5 harg5 arg6 harg6 arg7 harg7 arg8 harg8 arg9 harg9 arg10 harg10 arg2 v4 v5 v7 v59 v62 v66 v72 v75 v77 v78 cst_29 X_arg9 X_arg10 init s hs h ha hr _ le_rfl).1, Nat.sub_self, accFrom_zero]

theorem loop2 (n : ℕ) (hn : n = 0) :
    st_k0_t2 (F := Ideal) 𝒱 c bd i arg3 harg3 arg4 harg4 arg5 harg5 arg6 harg6 arg7 harg7 arg8 harg8 arg9 harg9 arg10 harg10 arg2 v4 v5 v7 v59 v62 v66 v72 v75 v77 v78 cst_29 X_arg9 X_arg10 init n = init := by
  subst hn
  rfl

end Loops

/-- What the point reads of the bias. -/
abbrev bias (m : (ℓ : Loc nD τ sig) → Buf (Elt Ideal) ℓ) (c : Dev nD) (t : Fin cfg0.N) : Elt Ideal .f32 :=
  View.ld (iblk m c 0 t) (Rect.unit (s := S8) (k0_off1 (grid0.coords t)) ![1] (k0_off1_inb _)) (Shape.Idx.first (show 0 < S1.numel by decide))

variable (m : (ℓ : Loc nD τ sig) → Buf (Elt Ideal) ℓ)

theorem outB (c : Dev nD) (t : Fin cfg0.N) (h : ¬ t.val % 8 = 0) {z vv : ℕ → EReal} {r : Fin 512} {d : Fin 128}
    (hrow : Row z vv (bias m c t)
      (iblk m c 1 t) (outsAt0 m c (t.val - 1) (Nat.lt_of_le_of_lt (Nat.sub_le _ _) t.isLt)).2.1
      (outsAt0 m c (t.val - 1) (Nat.lt_of_le_of_lt (Nat.sub_le _ _) t.isLt)).2.2 (iblk m c 4 t) r d) :
    (outsAt0 m c t.val t.isLt).1 (ix2 r d) = attend z vv (512 * (grid0.coords t 2).val + r.val) := by
  rw [outsAt0_B m c t h]
  frame_out
  rw [pay28_at, loop2 (hn := trips2 (grid0.coords t))]
  have hi : (grid0.coords t 2).val < 8 := (grid0.coords t 2).isLt
  simp only [(Memref.isWhole_whole cc0_scratch0).read_unread, (Memref.isWhole_whole cc0_scratch1).read_unread, pay3_eq]
  have hb1 := hrow.block (2 * (grid0.coords t 2).val + 1) (by omega) _ (k0_off2_inb _ 0) (k0_off2_inb _ 0) (off2_first _)
  have hb2 := hrow.block (2 * (grid0.coords t 2).val) (by omega) _ (k0_off2_inb _ 1) (k0_off2_inb _ 1) (off2_second _)
  have t1 : accFrom z vv (512 * (grid0.coords t 2).val + r.val) (2 * (grid0.coords t 2).val + 1 + 1) = 0 := accFrom_top _ _ _ _ (by omega)
  have t2 : runFrom z (512 * (grid0.coords t 2).val + r.val) (2 * (grid0.coords t 2).val + 1 + 1) = 0 := runFrom_top _ _ _ (by omega)
  have a1 := pay11_at (grid0.coords t) _ (word_first _) hb1 _ _ (pay4_at.trans t1.symm) (pay5_at.trans t2.symm)
  have r1 := pay12_at (grid0.coords t) _ (word_first _) hb1 _ (pay5_at.trans t2.symm)
  refine loop1_end (hn := trips1 _) (hs := by omega) (h := ?_) (ha := ?_) (hr := ?_) ..
  · simp only [(Memref.isWhole_whole cc0_scratch0).read_unread, (Memref.isWhole_whole cc0_scratch1).read_unread]
    exact hrow
  · exact pay18_at (grid0.coords t) _ (word_second _) hb2 _ _ a1 r1
  · exact pay19_at (grid0.coords t) _ (word_second _) hb2 _ r1

theorem outA (c : Dev nD) (t : Fin cfg0.N) (h : t.val % 8 = 0) {z vv : ℕ → EReal} {r : Fin 512} {d : Fin 128}
    (hrow : Row z vv (bias m c t)
      (iblk m c 1 t) (k0_pay1 (iblk m c 2 t)) (k0_pay2 (iblk m c 3 t)) (iblk m c 4 t) r d) :
    (outsAt0 m c t.val t.isLt).1 (ix2 r d) = attend z vv (512 * (grid0.coords t 2).val + r.val) := by
  rw [outsAt0_A m c t h]
  frame_out
  rw [pay28_at, loop2 (hn := trips2 (grid0.coords t))]
  have hi : (grid0.coords t 2).val < 8 := (grid0.coords t 2).isLt
  simp only [pay3_eq]
  have hb1 := hrow.block (2 * (grid0.coords t 2).val + 1) (by omega) _ (k0_off2_inb _ 0) (k0_off2_inb _ 0) (off2_first _)
  have hb2 := hrow.block (2 * (grid0.coords t 2).val) (by omega) _ (k0_off2_inb _ 1) (k0_off2_inb _ 1) (off2_second _)
  have t1 : accFrom z vv (512 * (grid0.coords t 2).val + r.val) (2 * (grid0.coords t 2).val + 1 + 1) = 0 := accFrom_top _ _ _ _ (by omega)
  have t2 : runFrom z (512 * (grid0.coords t 2).val + r.val) (2 * (grid0.coords t 2).val + 1 + 1) = 0 := runFrom_top _ _ _ (by omega)
  have a1 := pay11_at (grid0.coords t) _ (word_first _) hb1 _ _ (pay4_at.trans t1.symm) (pay5_at.trans t2.symm)
  have r1 := pay12_at (grid0.coords t) _ (word_first _) hb1 _ (pay5_at.trans t2.symm)
  refine loop1_end (hn := trips1 _) (hs := by omega) (h := ?_) (ha := ?_) (hr := ?_) ..
  · rw [View.read_writes_junk_eq_canon, View.read_writes_junk_eq_canon]
    simp (disch := decide) only [View.canon_cons_unit_lit]
    exact hrow
  · exact pay18_at (grid0.coords t) _ (word_second _) hb2 _ _ a1 r1
  · exact pay19_at (grid0.coords t) _ (word_second _) hb2 _ r1

theorem scA (c : Dev nD) (t : Fin cfg0.N) (h : t.val % 8 = 0) :
    (outsAt0 m c t.val t.isLt).2 = (k0_pay1 (iblk m c 2 t), k0_pay2 (iblk m c 3 t)) := by
  rw [outsAt0_A m c t h]
  refine Prod.ext ?_ ?_
  · frame_out
  · frame_out

theorem scB (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]
  exact Prod.ext (by unfold sout0_B_0; rfl) (by unfold sout0_B_1; rfl)

theorem idx : ∀ t : Fin cfg0.N, win0_0.index t = ![0] ∧ win0_1.index t = ![t.val / 64 * 8 + t.val % 8, t.val / 8 % 8]
    ∧ win0_2.index t = ![t.val / 64, t.val / 8 % 8] ∧ win0_3.index t = ![t.val / 64, t.val / 8 % 8] ∧ win0_4.index t = ![0, 0]
    ∧ win0_5.index t = ![t.val / 64 * 8 + t.val % 8, t.val / 8 % 8]
    ∧ (grid0.coords t 1).val = t.val / 8 % 8 ∧ (grid0.coords t 2).val = t.val % 8 ∧ t.val < 128 :=
  (by decide +kernel : ∀ t : Fin grid0.N, _)

theorem pay1_eq (x : Vec Ideal S4096x128 .f32) : k0_pay1 x = x := by
  funext j; pointwise [k0_pay1]

theorem pay2_eq (x : Vec Ideal S4096x128 .f32) : k0_pay2 x = x := by
  funext j; pointwise [k0_pay2]

theorem same (c : Dev nD) (t : ℕ) (ht : t + 1 < cfg0.N) (h : ¬ (t + 1) % 8 = 0) :
    iblk m c 2 ⟨t + 1, ht⟩ = iblk m c 2 ⟨t, by omega⟩ ∧ iblk m c 3 ⟨t + 1, ht⟩ = iblk m c 3 ⟨t, by omega⟩ := by
  have e1 : (t + 1) / 64 = t / 64 := by omega
  have e2 : (t + 1) / 8 % 8 = t / 8 % 8 := by omega
  refine ⟨funext fun y => ?_, funext fun y => ?_⟩
  · blk_point [iblk, V, idx ⟨t + 1, ht⟩, idx ⟨t, by omega⟩, e1, e2]
  · blk_point [iblk, V, idx ⟨t + 1, ht⟩, idx ⟨t, by omega⟩, e1, e2]

/-- After every point the scratch arrays hold the keys and values of the point's sequence and head. -/
theorem scratch (c : Dev nD) : ∀ (t : ℕ) (ht : t < cfg0.N),
    (outsAt0 m c t ht).2 = (k0_pay1 (iblk m c 2 ⟨t, ht⟩), k0_pay2 (iblk m c 3 ⟨t, ht⟩)) := by
  intro t
  induction t with
  | zero => exact fun ht => scA m c ⟨0, ht⟩ rfl
  | succ t ih =>
    intro ht
    by_cases h : (t + 1) % 8 = 0
    · exact scA m c ⟨t + 1, ht⟩ h
    · refine (scB m c ⟨t + 1, ht⟩ h).trans ((ih (by omega)).trans ?_)
      rw [(same m c t ht h).1, (same m c t ht h).2]

theorem out_at (c : Dev nD) (t : Fin cfg0.N) {z vv : ℕ → EReal} {r : Fin 512} {d : Fin 128}
    (hrow : Row z vv (bias m c t) (iblk m c 1 t) (iblk m c 2 t) (iblk m c 3 t) (iblk m c 4 t) r d) :
    (outsAt0 m c t.val t.isLt).1 (ix2 r d) = attend z vv (512 * (grid0.coords t 2).val + r.val) := by
  by_cases h : t.val % 8 = 0
  · refine outA m c t h ?_
    rw [pay1_eq, pay2_eq]
    exact hrow
  · refine outB m c t h ?_
    obtain ⟨n, hn⟩ := t
    cases n with
    | zero => exact absurd rfl h
    | succ n =>
      have hn' : n < cfg0.N := by omega
      have e := scratch m c n hn'
      have e' : Row z vv (bias m c ⟨n + 1, hn⟩) (iblk m c 1 ⟨n + 1, hn⟩) (outsAt0 m c n hn').2.1 (outsAt0 m c n hn').2.2
          (iblk m c 4 ⟨n + 1, hn⟩) r d := by
        rw [e, ← (same m c n hn h).1, ← (same m c n hn h).2, pay1_eq, pay2_eq]
        exact hrow
      exact e'

/-- The scores of one query row against the keys of its sequence and head. -/
def scores (q k : S8192x1024.Idx → EReal) (b : S8.Idx → EReal) (j : S8192x1024.Idx) : ℕ → EReal :=
  up fun l => (∑ x : Fin 128, q (ix2 (j 0) ⟨(j 1).val / 128 * 128 + x.val, by have := (j 1).isLt; show _ < 1024; have : (j 1).val < 1024 := (j 1).isLt; omega⟩)
    * k (ix2 ⟨(j 0).val / 4096 * 4096 + l.val, by show _ < 8192; have : (j 0).val < 8192 := (j 0).isLt; omega⟩
      ⟨(j 1).val / 128 * 128 + x.val, by show _ < 1024; have : (j 1).val < 1024 := (j 1).isLt; omega⟩))
    + b (ix1 ⟨(j 1).val / 128, by show _ < 8; have : (j 1).val < 1024 := (j 1).isLt; omega⟩)

/-- The attention of every query: its row of the result. -/
def attn (q k v : S8192x1024.Idx → EReal) (b : S8.Idx → EReal) (j : S8192x1024.Idx) : EReal :=
  attend (scores q k b j)
    (up fun l => v (ix2 ⟨(j 0).val / 4096 * 4096 + l.val, by show _ < 8192; have : (j 0).val < 8192 := (j 0).isLt; omega⟩ (j 1)))
    ((j 0).val % 4096)

theorem V_main_v3 (c : Dev nD) : V m c main_v3
    = (uitofp .bf16 : Vec Ideal S256x256 .i1 → FVec Ideal S256x256 .bf16) (cmpi .sge (iotaInDim S256x256 32 0) (iotaInDim S256x256 32 1)) := rfl

theorem tri_at (c : Dev nD) (t : Fin cfg0.N) (u p : Fin 256) : iblk m c 4 t (ix2 u p) = if p.val ≤ u.val then (1 : EReal) else 0 := by
  have e : iblk m c 4 t (ix2 u p) = (V m c main_v3 : FVec Ideal S256x256 .bf16) (ix2 u p) := by
    show (V m c main_v3 : FVec Ideal S256x256 .bf16) ((win0_4.blk t).view.emb (ix2 u p)) = _
    congr 1
    funext a
    fin_cases a <;> exact Fin.ext (by blk_simp [idx t])
  rw [e, V_main_v3]
  pointwise
  rw [WordCmp.cmpi_sge_ofNat (by omega) (by omega)]
  by_cases h : p.val ≤ u.val
  · rw [if_pos h, decide_eq_true h]
    show ((1 : ℕ) : ℝ) = (1 : EReal)
    norm_num
  · rw [if_neg h, decide_eq_false h]
    show ((0 : ℕ) : ℝ) = (0 : EReal)
    norm_num

/-- The kernel's result array. -/
theorem final (c : Dev nD)
    (hreal : ∀ j l, ∃ y : ℝ, scores (m ((c : Thread nD τ).loc main_arg0)) (m ((c : Thread nD τ).loc main_arg1)) (m ((c : Thread nD τ).loc main_arg3)) j l = y) :
    (dats m 0 c).arrAt 5 cfg0.N
    = attn (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  idx_vars y
  blk_simp
  rw [after0_5]
  obtain ⟨-, -, -, -, -, -, hc1, hc2, hlt⟩ := idx t
  have e0 : ((win0_5.blk t).view.emb (ix2 y0 y1) 0).val = (t.val / 64 * 8 + t.val % 8) * 512 + y0.val := by blk_simp [idx t]
  have e1 : ((win0_5.blk t).view.emb (ix2 y0 y1) 1).val = t.val / 8 % 8 * 128 + y1.val := by blk_simp [idx t]
  generalize (win0_5.blk t).view.emb (ix2 y0 y1) = j at e0 e1
  have es : (j 0).val % 4096 = 512 * (grid0.coords t 2).val + y0.val := by rw [hc2]; omega
  have d0 : (j 0).val / 4096 = t.val / 64 := by omega
  have d1 : (j 1).val / 128 = t.val / 8 % 8 := by omega
  unfold attn
  rw [es]
  refine out_at m c t ⟨hreal j, fun l => ?_, fun l => ?_, tri_at m c t⟩
  · unfold scores
    rw [up_val _ l.val l.isLt]
    refine congrArg₂ (· + ·) (Finset.sum_congr rfl fun x _ => congrArg₂ (· * ·) ?_ ?_) ?_
    · blk_point [iblk, V, idx t, d0, d1, e0, e1]
    · blk_point [iblk, V, idx t, d0, d1, e0, e1]
    · blk_point [bias, iblk, V, idx t, d0, d1, e0, e1, k0_off1_eq]
  · rw [up_val _ l.val l.isLt]
    blk_point [iblk, V, idx t, d0, d1, e0, e1]

end Cert.KernelIdeal.Hand
-- ==== Proof.AttnRef.lean ====
/-
  The attention of the prompt: the reference's array, read at an index.
-/
module

public import proofs.«01_k».proof.Proof.Gen.ReferenceIdeal.Run
public import proofs.«01_k».proof.Proof.AttnMath
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Cert.Hand

namespace Cert.ReferenceIdeal.Hand

open Cert.ReferenceIdeal Cert.ReferenceIdeal.Gen

/-! ## The running sum from the right, as it prints -/

theorem foldl_add {n : ℕ} (g : Fin n → EReal) : (List.finRange n).foldl (fun r i => r + g i) 0 = ∑ i, g i := by
  rw [Fin.sum_univ_def, List.sum_eq_foldl, List.foldl_map]

theorem window_sum {s t : Shape} (window strides lo hi : Fin s.rank → ℕ) (h : s.ReduceWindows window strides lo hi t)
    (x : s.Idx → EReal) (j : t.Idx) :
    Ideal.hostReduceWindowAdd window strides lo hi h x 0 j
      = ∑ n : Fin (⟨s.rank, window⟩ : Shape).numel,
          if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a then
            x (fun a => ⟨(j (a.cast h.1.symm)).val * strides a + ((⟨s.rank, window⟩ : Shape).rowMajor.symm n a).val - lo a, (hin a).2⟩)
          else 0 := by
  unfold Ideal.hostReduceWindowAdd Host.reduceWindow
  dsimp only
  rw [foldl_add]
  refine Finset.sum_congr rfl fun n _ => ?_
  congr

theorem window_at (n : Fin (⟨4, ![1, 1, 1, 4096]⟩ : Shape).numel) (a : Fin 4) :
    ((⟨4, ![1, 1, 1, 4096]⟩ : Shape).rowMajor.symm n a).val = if a = 3 then n.val else 0 := by
  have h := (⟨4, ![1, 1, 1, 4096]⟩ : Shape).rowMajor.apply_symm_apply n
  generalize (⟨4, ![1, 1, 1, 4096]⟩ : Shape).rowMajor.symm n = w at h ⊢
  have h' := congrArg Fin.val h
  rw [Shape.rowMajor_val_four] at h'
  have h0 : (w 0).val < 1 := (w 0).isLt
  have h1 : (w 1).val < 1 := (w 1).isLt
  have h2 : (w 2).val < 1 := (w 2).isLt
  change (((w 0).val * 1 + (w 1).val) * 1 + (w 2).val) * 4096 + (w 3).val = n.val at h'
  fin_cases a
  · exact Nat.lt_one_iff.1 h0
  · exact Nat.lt_one_iff.1 h1
  · exact Nat.lt_one_iff.1 h2
  · show (w 3).val = n.val
    omega

theorem numel_window : (⟨4, ![1, 1, 1, 4096]⟩ : Shape).numel = 4096 := by
  show ∏ a : Fin 4, (![1, 1, 1, 4096] : Fin 4 → ℕ) a = 4096
  rw [Fin.prod_univ_four]
  rfl

/-- Entry `j` of the running sum from the right is the sum of the entries from `j` on. -/
theorem cumsum_at (x : FVec Ideal S2x8x4096x4096 .f32) (init : S_.Idx → Ideal .f32) (hi : ∀ i, init i = 0)
    (h : S2x8x4096x4096.ReduceWindows (![1, 1, 1, 4096] : Fin 4 → ℕ) ![1, 1, 1, 1] ![0, 0, 0, 0] ![0, 0, 0, 4095] S2x8x4096x4096)
    (hu : 0 < S_.numel) (b : Fin 2) (hd : Fin 8) (i j : Fin 4096) :
    Host.reduceWindowAdd ![1, 1, 1, 4096] ![1, 1, 1, 1] ![0, 0, 0, 0] ![0, 0, 0, 4095] x init h hu (ix4 b hd i j)
      = ∑ l ∈ Finset.Ico j.val 4096, up (fun l => x (ix4 b hd i l)) l := by
  unfold Host.reduceWindowAdd
  rw [Ideal.hostReduceWindowAdd_def, hi]
  rw [window_sum]
  have hn : (⟨S2x8x4096x4096.rank, ![1, 1, 1, 4096]⟩ : Shape).numel = 4096 := numel_window
  refine (Finset.sum_congr rfl (g := fun n => up (fun l => x (ix4 b hd i l)) (j.val + n.val)) fun n _ => ?_).trans ?_
  · have w0 := window_at n 0
    have w1 := window_at n 1
    have w2 := window_at n 2
    have w3 := window_at n 3
    simp only [if_true, if_false, show ¬ ((0 : Fin 4) = 3) by decide, show ¬ ((1 : Fin 4) = 3) by decide, show ¬ ((2 : Fin 4) = 3) by decide] at w0 w1 w2 w3
    by_cases hlt : j.val + n.val < 4096
    · rw [up_val _ _ hlt, dif_pos ?_]
      · refine congrArg x (funext fun a => Fin.ext ?_)
        fin_cases a
        · show b.val * 1 + ((⟨4, ![1, 1, 1, 4096]⟩ : Shape).rowMajor.symm n 0).val - 0 = b.val
          rw [w0]; omega
        · show hd.val * 1 + ((⟨4, ![1, 1, 1, 4096]⟩ : Shape).rowMajor.symm n 1).val - 0 = hd.val
          rw [w1]; omega
        · show i.val * 1 + ((⟨4, ![1, 1, 1, 4096]⟩ : Shape).rowMajor.symm n 2).val - 0 = i.val
          rw [w2]; omega
        · show j.val * 1 + ((⟨4, ![1, 1, 1, 4096]⟩ : Shape).rowMajor.symm n 3).val - 0 = j.val + n.val
          rw [w3]; omega
      · intro a
        fin_cases a
        · show 0 ≤ b.val * 1 + ((⟨4, ![1, 1, 1, 4096]⟩ : Shape).rowMajor.symm n 0).val ∧ b.val * 1 + ((⟨4, ![1, 1, 1, 4096]⟩ : Shape).rowMajor.symm n 0).val - 0 < 2
          rw [w0]; omega
        · show 0 ≤ hd.val * 1 + ((⟨4, ![1, 1, 1, 4096]⟩ : Shape).rowMajor.symm n 1).val ∧ hd.val * 1 + ((⟨4, ![1, 1, 1, 4096]⟩ : Shape).rowMajor.symm n 1).val - 0 < 8
          rw [w1]; omega
        · show 0 ≤ i.val * 1 + ((⟨4, ![1, 1, 1, 4096]⟩ : Shape).rowMajor.symm n 2).val ∧ i.val * 1 + ((⟨4, ![1, 1, 1, 4096]⟩ : Shape).rowMajor.symm n 2).val - 0 < 4096
          rw [w2]; omega
        · show 0 ≤ j.val * 1 + ((⟨4, ![1, 1, 1, 4096]⟩ : Shape).rowMajor.symm n 3).val ∧ j.val * 1 + ((⟨4, ![1, 1, 1, 4096]⟩ : Shape).rowMajor.symm n 3).val - 0 < 4096
          rw [w3]; omega
    · rw [dif_neg fun hin => hlt ?_]
      · unfold up
        rw [dif_neg hlt]
      · have h3 : j.val * 1 + ((⟨4, ![1, 1, 1, 4096]⟩ : Shape).rowMajor.symm n 3).val - 0 < 4096 := (hin 3).2
        rw [w3] at h3
        omega
  · rw [Fin.sum_univ_eq_sum_range (fun n => up (fun l => x (ix4 b hd i l)) (j.val + n)), hn, Finset.sum_Ico_eq_sum_range]
    have hj := j.isLt
    refine (Finset.sum_subset (Finset.range_subset_range.2 (by omega)) fun n _ h2 => dif_neg ?_).symm
    rw [Finset.mem_range] at h2
    omega

/-! ## The pieces of the reference -/

/-- Queries and keys as `[sequence, position, head, column]`, their scores and the bias. -/
abbrev logits (q k : FVec Ideal S8192x1024 .f32) (bias : FVec Ideal S8 .f32) : FVec Ideal S2x8x4096x4096 .f32 :=
  addf (Host.dotGeneral dot_S2x4096x8x128_S2x4096x8x128_S2x8x4096x4096_3_3_1_1_02_02 none (shapeCast _ q shapeCasts_S8192x1024_S2x4096x8x128) (shapeCast _ k shapeCasts_S8192x1024_S2x4096x8x128))
    (broadcastInDim S2x8x4096x4096 ![0, 1, 2, 3] bcast_S1x8x1x1_S2x8x4096x4096_0_1_2_3 (broadcastInDim S1x8x1x1 ![1] bcast_S8_S1x8x1x1_1 bias))

theorem logits_at (q k : FVec Ideal S8192x1024 .f32) (bias : FVec Ideal S8 .f32) (b : Fin 2) (hd : Fin 8) (i j : Fin 4096) :
    logits q k bias (ix4 b hd i j) = (∑ x : Fin 128, q (ix2 ⟨b.val * 4096 + i.val, by omega⟩ ⟨hd.val * 128 + x.val, by omega⟩)
      * k (ix2 ⟨b.val * 4096 + j.val, by omega⟩ ⟨hd.val * 128 + x.val, by omega⟩)) + bias (ix1 hd) := by
  unfold logits
  pointwise

abbrev zeros : FVec Ideal S2x8x4096x4096 .f32 := broadcastInDim S2x8x4096x4096 ![] bcast_S_S2x8x4096x4096 (constant S_ .f32 0x00000000#32)

/-- `log (1 + exp x)` as it prints. -/
abbrev softplusV (x : FVec Ideal S2x8x4096x4096 .f32) : FVec Ideal S2x8x4096x4096 .f32 :=
  select (cmpf .une (subf x zeros) (subf x zeros)) (addf x zeros)
    (addf (maximumf x zeros) (Host.log1p (Host.exp (Host.negf (Host.absf (subf x zeros))))))

theorem softplusV_at (x : FVec Ideal S2x8x4096x4096 .f32) (b : Fin 2) (hd : Fin 8) (i j : Fin 4096) :
    softplusV x (ix4 b hd i j) = softplus (x (ix4 b hd i j)) := by
  unfold softplusV zeros
  pointwise
  rw [if_neg (fun h => h rfl)]
  show _ = max _ 0 + Ideal.log (1 + Ideal.exp (0 - max _ (-_)))
  rw [zero_sub]
  rfl

abbrev earlier : Vec Ideal S2x8x4096x4096 .i1 :=
  broadcastInDim S2x8x4096x4096 ![2, 3] bcast_S4096x4096_S2x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

theorem earlier_at (x y : FVec Ideal S2x8x4096x4096 .f32) (b : Fin 2) (hd : Fin 8) (i j : Fin 4096) :
    select earlier x y (ix4 b hd i j) = if j.val < i.val then x (ix4 b hd i j) else y (ix4 b hd i j) := by
  unfold earlier
  pointwise
  rw [WordCmp.cmpi_slt_ofNat (by omega) (by omega)]
  by_cases h : j.val < i.val
  · rw [if_pos h, decide_eq_true h]; rfl
  · rw [if_neg h, decide_eq_false h]; rfl

abbrev zeros' : FVec Ideal S2x8x4096x4096 .f32 := broadcastInDim S2x8x4096x4096 ![] bcast_S_S2x8x4096x4096 (id (constant S_ .f32 0x00000000#32))

theorem zeros_at (b : Fin 2) (hd : Fin 8) (i j : Fin 4096) : zeros' (ix4 b hd i j) = 0 := by
  unfold zeros' id
  pointwise

/-- What a key before the query adds to the running sum. -/
abbrev parts (z : FVec Ideal S2x8x4096x4096 .f32) : FVec Ideal S2x8x4096x4096 .f32 :=
  select earlier (softplusV z) zeros'

abbrev weights (z : FVec Ideal S2x8x4096x4096 .f32) : FVec Ideal S2x8x4096x4096 .f32 :=
  select earlier (Host.exp (subf (Host.negf (softplusV (Host.negf z))) (subf (Host.reduceWindowAdd ![1, 1, 1, 4096] ![1, 1, 1, 1] ![0, 0, 0, 0] ![0, 0, 0, 4095] (parts z)
      (broadcastInDim S_ ![] bcast_S_S_ (constant S_ .f32 0x00000000#32)) reduceWindows_S2x8x4096x4096_S2x8x4096x4096_w1s1p0_0_w1s1p0_0_w1s1p0_0_w4096s1p0_4095 h_S_) (parts z))))
    zeros'

theorem parts_at (z : FVec Ideal S2x8x4096x4096 .f32) (b : Fin 2) (hd : Fin 8) (i : Fin 4096) (l : ℕ) :
    up (fun l => parts z (ix4 b hd i l)) l = part (up fun l => z (ix4 b hd i l)) i.val l := by
  unfold part
  by_cases h : l < 4096
  · rw [up_val _ l h, up_val _ l h]
    unfold parts
    rw [earlier_at, softplusV_at, zeros_at]
  · have e : ¬ l < i.val := by omega
    rw [if_neg e]
    exact dif_neg h

theorem weights_at (z : FVec Ideal S2x8x4096x4096 .f32) (b : Fin 2) (hd : Fin 8) (i j : Fin 4096)
    (hz : ∀ l, ∃ y : ℝ, up (fun l => z (ix4 b hd i l)) l = y) :
    weights z (ix4 b hd i j) = weight (up fun l => z (ix4 b hd i l)) i.val j.val := by
  rw [← weight_eq _ _ _ hz]
  unfold weights
  rw [earlier_at, zeros_at]
  simp only [← parts_at]
  have e1 := cumsum_at (parts z) (broadcastInDim S_ ![] bcast_S_S_ (constant S_ .f32 0x00000000#32)) (fun i => by pointwise)
    reduceWindows_S2x8x4096x4096_S2x8x4096x4096_w1s1p0_0_w1s1p0_0_w1s1p0_0_w4096s1p0_4095 h_S_ b hd i j
  have e2 := softplusV_at (Host.negf z) b hd i j
  have e3 : parts z (ix4 b hd i j) = up (fun l => parts z (ix4 b hd i l)) j.val := by
    rw [up_val _ j.val j.isLt]
  generalize Host.reduceWindowAdd ![1, 1, 1, 4096] ![1, 1, 1, 1] ![0, 0, 0, 0] ![0, 0, 0, 4095] (parts z)
      (broadcastInDim S_ ![] bcast_S_S_ (constant S_ .f32 0x00000000#32)) reduceWindows_S2x8x4096x4096_S2x8x4096x4096_w1s1p0_0_w1s1p0_0_w1s1p0_0_w4096s1p0_4095 h_S_ = cs at e1 ⊢
  generalize up (fun l => parts z (ix4 b hd i l)) = pz at e1 e3 ⊢
  generalize parts z = ps at e3 ⊢
  generalize softplusV (Host.negf z) = sn at e2 ⊢
  rw [up_val _ j.val j.isLt, ← e1, ← e3]
  have e4 : Host.negf z (ix4 b hd i j) = -z (ix4 b hd i j) := by pointwise
  rw [e4] at e2
  pointwise
  rw [e2]

/-- The reference's result of its pieces. -/
abbrev result (v : FVec Ideal S8192x1024 .f32) (w : FVec Ideal S2x8x4096x4096 .f32) : FVec Ideal S8192x1024 .bf16 :=
  truncf .bf16 (shapeCast _ (transpose S2x4096x8x128 [0, 3, 1, 2] (Host.dotGeneral dot_S2x4096x8x128_S2x8x4096x4096_S2x8x128x4096_1_3_3_2_02_01 none (shapeCast _ v shapeCasts_S8192x1024_S2x4096x8x128) w) transposes_S2x8x128x4096_S2x4096x8x128_0_3_1_2) shapeCasts_S2x4096x8x128_S8192x1024) bitsLt_bf16_f32

theorem result_at (v : FVec Ideal S8192x1024 .f32) (w : FVec Ideal S2x8x4096x4096 .f32) (r : Fin 8192) (d : Fin 1024) :
    result v w (ix2 r d) = ∑ x : Fin 4096, v (ix2 ⟨r.val / 4096 * 4096 + x.val, by omega⟩ d)
      * w (ix4 ⟨r.val / 4096, by omega⟩ ⟨d.val / 128, by omega⟩ ⟨r.val % 4096, by omega⟩ x) := by
  unfold result
  pointwise

theorem res_eq (m : (ℓ : Loc nD τ sig) → Buf (Elt Ideal) ℓ) (c : Dev nD) : Value.res_main_v25 m c
    = result (m ((c.tc : Thread nD τ).loc main_arg2)) (weights (logits (m ((c.tc : Thread nD τ).loc main_arg0)) (m ((c.tc : Thread nD τ).loc main_arg1)) (m ((c.tc : Thread nD τ).loc main_arg3)))) := by
  unfold Value.res_main_v25
  rfl

end Cert.ReferenceIdeal.Hand
-- ==== Proof.AttnClaim.lean ====
/-
  The attention call against its reference: what the precondition says, both runs, and the equation of their results.
-/
module

public import proofs.«01_k».proof.Defs
public import proofs.«01_k».proof.Proof.AttnRun
public import proofs.«01_k».proof.Proof.AttnRef
public import proofs.«01_k».proof.Proof.Gen.KernelIdeal
public import Idealize.ShloMosaic.Lib.Quiescent

@[expose] public section

set_option maxRecDepth 16384

noncomputable section

open Idealize.ShloMosaic Idealize.ShloMosaic.TcCoe Idealize.SL.Sem
open Cert.Hand

namespace Cert.Proof.Attn

instance facts_finite : Cert.Pre_finite.Facts := ⟨by decide, by decide, by decide⟩

/-- An extended real below infinity in absolute value is a real number. -/
theorem real_of_lt (x : EReal) (h : Ideal.cmp .olt (max x (-x)) (Ideal.ofBits .f32 0x7F800000#32) = 1#1) : ∃ y : ℝ, x = y := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | top => simp at hlt
  | coe y => exact ⟨y, rfl⟩

/-- Every score is a real number where queries, keys and biases are. -/
theorem scores_real (q k : Cert.KernelIdeal.S8192x1024.Idx → EReal) (b : Cert.KernelIdeal.S8.Idx → EReal) (hq : ∀ i, ∃ y : ℝ, q i = y)
    (hk : ∀ i, ∃ y : ℝ, k i = y) (hb : ∀ i, ∃ y : ℝ, b i = y) (j : Cert.KernelIdeal.S8192x1024.Idx) (l : ℕ) :
    ∃ y : ℝ, Cert.KernelIdeal.Hand.scores q k b j l = y := by
  choose qr hq using hq
  choose kr hk using hk
  choose br hb using hb
  unfold Cert.KernelIdeal.Hand.scores
  by_cases h : l < 4096
  · rw [up_val _ _ h]
    simp only [hq, hk, hb, ← EReal.coe_mul, ← coe_sum, ← EReal.coe_add]
    exact ⟨_, rfl⟩
  · unfold up
    rw [dif_neg h]
    exact ⟨0, rfl⟩

/-- The reference's scores of one query are the kernel's. -/
theorem logits_row (q k : Cert.KernelIdeal.S8192x1024.Idx → EReal) (b : Cert.KernelIdeal.S8.Idx → EReal) (r : Fin 8192) (d : Fin 1024) :
    (up fun l => Cert.ReferenceIdeal.Hand.logits q k b
        (ix4 (⟨r.val / 4096, by omega⟩ : Fin 2) (⟨d.val / 128, by omega⟩ : Fin 8) (⟨r.val % 4096, by omega⟩ : Fin 4096) l))
      = Cert.KernelIdeal.Hand.scores q k b (ix2 r d) := by
  unfold Cert.KernelIdeal.Hand.scores
  congr 1
  funext l
  rw [Cert.ReferenceIdeal.Hand.logits_at]
  have e : (⟨r.val / 4096 * 4096 + r.val % 4096, by omega⟩ : Fin 8192) = r := Fin.ext (by show r.val / 4096 * 4096 + r.val % 4096 = r.val; omega)
  simp only [e]
  rfl

/-- The reference's result array. -/
theorem result_eq (q k v : Cert.KernelIdeal.S8192x1024.Idx → EReal) (b : Cert.KernelIdeal.S8.Idx → EReal)
    (hreal : ∀ j l, ∃ y : ℝ, Cert.KernelIdeal.Hand.scores q k b j l = y) :
    Cert.ReferenceIdeal.Hand.result v (Cert.ReferenceIdeal.Hand.weights (Cert.ReferenceIdeal.Hand.logits q k b))
      = Cert.KernelIdeal.Hand.attn q k v b := by
  funext j
  obtain ⟨r, d, rfl⟩ : ∃ r d, j = ix2 r d := ⟨j 0, j 1, funext fun a => by fin_cases a <;> rfl⟩
  rw [Cert.ReferenceIdeal.Hand.result_at]
  unfold Cert.KernelIdeal.Hand.attn attend
  rw [Finset.sum_range]
  refine Finset.sum_congr rfl fun x _ => ?_
  rw [Cert.ReferenceIdeal.Hand.weights_at, logits_row, up_val _ _ x.isLt, mul_comm]
  · rfl
  · rw [logits_row]
    exact hreal _

variable (m : (ℓ : Loc Cert.KernelIdeal.nD Cert.KernelIdeal.τ Cert.KernelIdeal.sig) → Buf (Elt Ideal) ℓ)

/-- What the precondition says of the kernel's scores. -/
theorem real_of_pre (h : Cert.Pre_KernelIdeal_finite m) (c : Dev Cert.KernelIdeal.nD) (j l) :
    ∃ y : ℝ, Cert.KernelIdeal.Hand.scores (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3)) j l = y := by
  obtain ⟨h0, h1, h3⟩ := h c
  exact scores_real _ _ _ (fun i => real_of_lt _ (congrFun h0 i)) (fun i => real_of_lt _ (congrFun h1 i))
    (fun i => real_of_lt _ (congrFun h3 i)) j l

/-- The reference terminates and leaves its arguments; it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result. -/
theorem algebraic : Cert.algebraic_KernelIdeal_ReferenceIdeal_pre_finite (hKernelIdeal := Cert.KernelIdeal.Gen.facts)
    (hReferenceIdeal := Cert.ReferenceIdeal.Gen.facts) (hPre_finite := facts_finite) := fun m ρ m' ρ' hpre hag =>
  ⟨fun c => Cert.ReferenceIdeal.Value.res_main_v25 m' c,
    (θ_run Cert.KernelIdeal.defs _ _).mono (fun r h c => ⟨(h c).1.trans (by
        obtain ⟨h0, h1, h2, h3⟩ := hag c
        refine Eq.trans ?_ (Cert.ReferenceIdeal.Hand.res_eq m' c).symm
        rw [h0, h1, h2, h3]
        refine Eq.trans ?_ (result_eq _ _ _ _ (real_of_pre m hpre c)).symm
        exact Cert.KernelIdeal.Hand.final m c (real_of_pre m hpre c)), (h c).2⟩) (Cert.KernelIdeal.Value.run_blocks (F := Ideal) m ρ),
    Cert.ReferenceIdeal.Value.run (F := Ideal) m' ρ'⟩

end Cert.Proof.Attn

end
-- ==== Proof.Scalars.lean ====
/-
  Functions over the extended reals that the layer's calls and their references share: the layer normalisation of a row,
  and one hidden value of an expert.
-/
module

public import Idealize.ShloMosaic.Lib.Pipeline.ValueKit

@[expose] public section

noncomputable section

open Idealize.ShloMosaic

namespace Cert.Hand

/-- The mean of a row of 2048 values. -/
def mean (h : Fin 2048 → EReal) : EReal := Ideal.div (∑ l, h l) (Ideal.ofBits .f32 0x45000000#32)

/-- The layer normalisation of the row `h` at place `j`, with gain `g` and offset `b` there. -/
def norm (h : Fin 2048 → EReal) (g b : EReal) (j : Fin 2048) : EReal :=
  (h j - mean h)
      * Ideal.rsqrt (mean (fun l => (h l - mean h) * (h l - mean h)) + Ideal.ofBits .f32 0x3727C5AC#32) * g + b

theorem norm_congr {h h' : Fin 2048 → EReal} {g g' b b' : EReal} {j : Fin 2048} (hh : h = h') (hg : g = g')
    (hb : b = b') : norm h g b j = norm h' g' b' j := by rw [hh, hg, hb]

/-- One hidden value of an expert: `silu(gate) · up`, weighted. -/
def hid (gate up weight : EReal) : EReal := gate * Ideal.logistic gate * up * weight

/-- Of a sum over lanes that keeps the lane numbered `e` and puts zero elsewhere, that lane's term is left. -/
theorem sum_lane (e : Fin 16) (f : Fin 128 → EReal) :
    ∑ l : Fin 128, Scalar.select (IntOp.cmpi .eq (BitVec.ofNat 32 l.val) (BitVec.ofNat 32 e.val)) (f l) 0
      = f ⟨e.val, by omega⟩ := by
  rw [Finset.sum_eq_single (⟨e.val, by omega⟩ : Fin 128)]
  · simp [IntOp.cmpi, Scalar.select]
  · intro l _ hl
    have hne : (BitVec.ofNat 32 l.val == BitVec.ofNat 32 e.val) = false := by
      rw [beq_eq_false_iff_ne]
      intro h
      have := congrArg BitVec.toNat h
      simp only [BitVec.toNat_ofNat] at this
      exact hl (Fin.ext (by dsimp only; omega))
    simp [IntOp.cmpi, Scalar.select, hne]
  · intro h; exact absurd (Finset.mem_univ _) h

end Cert.Hand
-- ==== Proof.MoeFun.lean ====
/-
  The mixture-of-experts call as a function of its arguments, for any number of rows.
-/
module

public import proofs.«01_k».proof.Proof.Scalars

@[expose] public section

noncomputable section

open Idealize.ShloMosaic

namespace Cert.Hand.Experts

/-- What one expert, the one numbered `e`, adds to a row: the down-projection of its weighted hidden values. -/
def part {n : ℕ} (e : Fin 16) (x : FVec Ideal ⟨2, ![n, 2048]⟩ .bf16) (g u : FVec Ideal ⟨4, ![1, 1, 2048, 512]⟩ .bf16)
    (cb : FVec Ideal ⟨2, ![n, 128]⟩ .f32) (d : FVec Ideal ⟨4, ![1, 1, 512, 2048]⟩ .bf16) (r : Fin n) (l : Fin 2048) : EReal :=
  ∑ f : Fin 512, hid (∑ k : Fin 2048, x (ix2 r k) * g (ix4 0 0 k f)) (∑ k : Fin 2048, x (ix2 r k) * u (ix4 0 0 k f))
    (cb (ix2 r ⟨e.val, by omega⟩)) * d (ix4 0 0 f l)

/-- The weighted sum of the sixteen experts' outputs at row `r` and place `d`. -/
def expertSum {n : ℕ} (x : FVec Ideal ⟨2, ![n, 2048]⟩ .bf16) (cb : FVec Ideal ⟨2, ![n, 128]⟩ .f32)
    (wg wu : FVec Ideal ⟨4, ![2, 16, 2048, 512]⟩ .f32) (wd : FVec Ideal ⟨4, ![2, 16, 512, 2048]⟩ .f32) (r : Fin n)
    (d : Fin 2048) : EReal :=
  ∑ e : Fin 16, ∑ f : Fin 512, hid (∑ k : Fin 2048, x (ix2 r k) * wg (ix4 1 e k f)) (∑ k : Fin 2048, x (ix2 r k) * wu (ix4 1 e k f))
    (cb (ix2 r ⟨e.val, by omega⟩)) * wd (ix4 1 e f d)

/-- The call's result: the residual and the experts' sum, normalised row by row. -/
def moe {n : ℕ} (x : FVec Ideal ⟨2, ![n, 2048]⟩ .bf16) (x1 : FVec Ideal ⟨2, ![n, 2048]⟩ .f32) (cb : FVec Ideal ⟨2, ![n, 128]⟩ .f32)
    (wg wu : FVec Ideal ⟨4, ![2, 16, 2048, 512]⟩ .f32) (wd : FVec Ideal ⟨4, ![2, 16, 512, 2048]⟩ .f32)
    (g b : FVec Ideal ⟨2, ![2, 2048]⟩ .f32) : FVec Ideal ⟨2, ![n, 2048]⟩ .f32 := fun i =>
  norm (fun l => Ideal.ofBits .f32 0x3FB504F3#32 * x1 (ix2 (i 0) l) + expertSum x cb wg wu wd (i 0) l)
    (g (ix2 1 (i 1))) (b (ix2 1 (i 1))) (i 1)

end Cert.Hand.Experts
-- ==== Proof.MoeRef.lean ====
/-
  The mixture-of-experts reference: its composed term read at an index.
-/
module

public import proofs.«01_k».proof.Proof.MoeFun
public import proofs.«01_k».proof.Proof.Gen.MoeReferenceIdeal.Run
public import Idealize.ShloMosaic.Lib.Tactic.CleanTypes

@[expose] public section

set_option maxRecDepth 16384

noncomputable section

open Idealize.ShloMosaic Idealize.ShloMosaic.TcCoe Idealize.SL.Sem

namespace Cert.MoeReferenceIdeal.Hand

open Cert.MoeReferenceIdeal Cert.MoeReferenceIdeal.Gen Cert.Hand Cert.Hand.Experts

theorem ref_eq (m : (ℓ : Loc nD τ sig) → Buf (Elt Ideal) ℓ) (c : Dev nD) : Value.res_out0 m c
    = Cert.Hand.Experts.moe (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold Value.res_out0 Value.res_main_v46
  clean_types
  funext j
  idx_vars j
  pointwise
  unfold Cert.Hand.Experts.moe expertSum hid
  rfl

end Cert.MoeReferenceIdeal.Hand
-- ==== Proof.MoeSum.lean ====
/-
  The sweep over the sixteen experts, for any number of rows and of row blocks: what its running sum holds at the last point of a
  row block, and what that point makes of it.
-/
module

public import proofs.«01_k».proof.Proof.MoeFun
public import Idealize.ShloMosaic.Lib.Pipeline.ValueKit.Acc

@[expose] public section

noncomputable section

open Idealize.ShloMosaic

namespace Cert.Hand.Experts

/-- A running sum that sweeps the experts: it is reset at the first of a row block's sixteen points, each point adds its expert's
    part, and the blocks the points get are those of the arrays. -/
structure Sweep {N R h : ℕ} (acc : (n : ℕ) → n < N → FVec Ideal ⟨2, ![h, 2048]⟩ .f32) (e : Fin N → Fin 16)
    (xt : Fin N → FVec Ideal ⟨2, ![h, 2048]⟩ .bf16) (ct : Fin N → FVec Ideal ⟨2, ![h, 128]⟩ .f32)
    (gt ut : Fin N → FVec Ideal ⟨4, ![1, 1, 2048, 512]⟩ .bf16) (dt : Fin N → FVec Ideal ⟨4, ![1, 1, 512, 2048]⟩ .bf16)
    (x : FVec Ideal ⟨2, ![R, 2048]⟩ .bf16) (cb : FVec Ideal ⟨2, ![R, 128]⟩ .f32)
    (wg wu : FVec Ideal ⟨4, ![2, 16, 2048, 512]⟩ .f32) (wd : FVec Ideal ⟨4, ![2, 16, 512, 2048]⟩ .f32) : Prop where
  expert : ∀ t, (e t).val = t.val % 16
  first : ∀ t : Fin N, t.val % 16 = 0 → ∀ j, acc t.val t.isLt j = 0 + part (e t) (xt t) (gt t) (ut t) (ct t) (dt t) (j 0) (j 1)
  next : ∀ t : Fin N, ¬ t.val % 16 = 0 → ∀ j, acc t.val t.isLt j
    = acc (t.val - 1) (Nat.lt_of_le_of_lt (Nat.sub_le _ _) t.isLt) j + part (e t) (xt t) (gt t) (ut t) (ct t) (dt t) (j 0) (j 1)
  row : ∀ (t : Fin N) (r : Fin h) (n : Fin R), n.val = t.val / 16 * h + r.val → ∀ k, xt t (ix2 r k) = x (ix2 n k)
  weight : ∀ (t : Fin N) (r : Fin h) (n : Fin R), n.val = t.val / 16 * h + r.val → ∀ k, ct t (ix2 r k) = cb (ix2 n k)
  gate : ∀ t k f, gt t (ix4 0 0 k f) = wg (ix4 1 (e t) k f)
  up : ∀ t k f, ut t (ix4 0 0 k f) = wu (ix4 1 (e t) k f)
  down : ∀ t f l, dt t (ix4 0 0 f l) = wd (ix4 1 (e t) f l)

section
variable {N R h : ℕ} {acc : (n : ℕ) → n < N → FVec Ideal ⟨2, ![h, 2048]⟩ .f32} {e : Fin N → Fin 16}
  {xt : Fin N → FVec Ideal ⟨2, ![h, 2048]⟩ .bf16} {ct : Fin N → FVec Ideal ⟨2, ![h, 128]⟩ .f32}
  {gt ut : Fin N → FVec Ideal ⟨4, ![1, 1, 2048, 512]⟩ .bf16} {dt : Fin N → FVec Ideal ⟨4, ![1, 1, 512, 2048]⟩ .bf16}
  {x : FVec Ideal ⟨2, ![R, 2048]⟩ .bf16} {cb : FVec Ideal ⟨2, ![R, 128]⟩ .f32}
  {wg wu : FVec Ideal ⟨4, ![2, 16, 2048, 512]⟩ .f32} {wd : FVec Ideal ⟨4, ![2, 16, 512, 2048]⟩ .f32}

/-- A point's part is its expert's term of the sum. -/
theorem Sweep.part_eq (S : Sweep acc e xt ct gt ut dt x cb wg wu wd) (t : Fin N) (r : Fin h) (l : Fin 2048) (n : Fin R)
    (hn : n.val = t.val / 16 * h + r.val) (s : Fin 16) (hs : e t = s) :
    part (e t) (xt t) (gt t) (ut t) (ct t) (dt t) r l
      = ∑ f : Fin 512, hid (∑ k : Fin 2048, x (ix2 n k) * wg (ix4 1 s k f)) (∑ k : Fin 2048, x (ix2 n k) * wu (ix4 1 s k f))
          (cb (ix2 n ⟨s.val, by omega⟩)) * wd (ix4 1 s f l) := by
  subst hs
  unfold part
  refine Finset.sum_congr rfl fun f _ => ?_
  simp only [S.down, S.weight t r n hn, S.row t r n hn, S.gate, S.up]

/-- At the last point of a row block the running sum is the sum of all sixteen experts. -/
theorem Sweep.sum_last (S : Sweep acc e xt ct gt ut dt x cb wg wu wd) (t : Fin N) (ht : t.val % 16 = 15)
    (r : Fin h) (l : Fin 2048) (n : Fin R) (hn : n.val = t.val / 16 * h + r.val) :
    acc t.val t.isLt (ix2 r l) = expertSum x cb wg wu wd n l := by
  rw [Pipeline.eq_sum_fin_of_reset_step_apply_of_flush acc 16 (fun _ => 0) _ S.first S.next t ht (ix2 r l), zero_add]
  unfold expertSum
  refine Fin.sum_fin_congr fun s => ?_
  have hs := s.isLt
  have es : e ⟨16 * (t.val / 16) + s.val, Pipeline.run_point_lt_of_flush t ht s⟩ = s :=
    Fin.ext ((S.expert _).trans (by show (16 * (t.val / 16) + s.val) % 16 = s.val; omega))
  exact S.part_eq _ r l n (by
    show n.val = (16 * (t.val / 16) + s.val) / 16 * h + r.val
    rw [show (16 * (t.val / 16) + s.val) / 16 = t.val / 16 by omega]; exact hn) s es

/-- What the last point of a row block writes, where it norms the residual and the running sum. -/
theorem Sweep.out_last (S : Sweep acc e xt ct gt ut dt x cb wg wu wd) (t : Fin N) (ht : t.val % 16 = 15)
    (x1 : FVec Ideal ⟨2, ![R, 2048]⟩ .f32) (g b : FVec Ideal ⟨2, ![2, 2048]⟩ .f32)
    (x1t : FVec Ideal ⟨2, ![h, 2048]⟩ .f32) (g1 b1 : EReal) (r : Fin h) (l : Fin 2048) (n : Fin R)
    (hn : n.val = t.val / 16 * h + r.val) (hx : ∀ k, x1t (ix2 r k) = x1 (ix2 n k)) (hg : g1 = g (ix2 1 l)) (hb : b1 = b (ix2 1 l)) :
    norm (fun k => Ideal.ofBits .f32 0x3FB504F3#32 * x1t (ix2 r k) + acc t.val t.isLt (ix2 r k)) g1 b1 l
      = moe x x1 cb wg wu wd g b (ix2 n l) :=
  norm_congr (funext fun k => congrArg₂ (fun a b : EReal => Ideal.ofBits .f32 0x3FB504F3#32 * a + b) (hx k)
    (S.sum_last t ht r k n hn)) hg hb
end

end Cert.Hand.Experts
-- ==== Proof.MoeStep.lean ====
/-
  The mixture-of-experts call: what one grid point adds to the running sum of experts, and what the last point of a
  row block makes of it, both read at an index.
-/
module

public import proofs.«01_k».proof.Proof.Gen.MoeIdeal.Value
public import proofs.«01_k».proof.Proof.MoeSum

@[expose] public section

set_option maxRecDepth 16384

noncomputable section

open Idealize.ShloMosaic Idealize.ShloMosaic.TcCoe Idealize.SL.Sem
open Idealize.ShloMosaic.Pipeline (Dat)

namespace Cert.MoeIdeal.Hand

open Cert.MoeIdeal Cert.MoeIdeal.Gen Cert.Hand Cert.Hand.Experts

/-- The running sum starts at zero. -/
theorem pay3_at (j : S512x2048.Idx) : k0_pay3 (F := Ideal) j = 0 := by
  pointwise [k0_pay3]

/-- The sum is stored as it is. -/
theorem pay1_eq (v : FVec Ideal S512x2048 .f32) : k0_pay1 v = v := by
  funext j; pointwise [k0_pay1]

/-- A grid point adds its expert's part. -/
theorem pay4_at (i : grid0.Coords) (x : Vec Ideal S512x2048 .bf16) (g : Vec Ideal S1x1x2048x512 .bf16)
    (u : Vec Ideal S1x1x2048x512 .bf16) (cb : Vec Ideal S512x128 .f32) (acc : Vec Ideal S512x2048 .f32)
    (d : Vec Ideal S1x1x512x2048 .bf16) (j : S512x2048.Idx) :
    k0_pay4 i x g u cb acc d j = acc j + part (i 1) x g u cb d (j 0) (j 1) := by
  pointwise [k0_pay4]
  unfold part
  simp only [hid, ← sum_lane (i 1) (fun l => cb (ix2 (j 0) l))]

/-- What the last point of a row block writes: the row, residual and sum of experts, normalised. -/
theorem pay2_at (x1 acc : Vec Ideal S512x2048 .f32) (g b : Vec Ideal S1x1x2048 .f32) (j : S512x2048.Idx) :
    k0_pay2 x1 acc g b j = norm (fun l => Ideal.ofBits .f32 0x3FB504F3#32 * x1 (ix2 (j 0) l) + acc (ix2 (j 0) l))
      (g (ix3 0 0 (j 1))) (b (ix3 0 0 (j 1))) (j 1) := by
  idx_vars j
  pointwise [k0_pay2]
  rfl

variable (m : (ℓ : Loc nD τ sig) → Buf (Elt Ideal) ℓ)

theorem idx : ∀ t : Fin cfg0.N, win0_0.index t = ![t.val / 16, 0] ∧ win0_1.index t = ![t.val / 16, 0] ∧ win0_2.index t = ![t.val / 16, 0]
    ∧ win0_3.index t = ![1, t.val % 16, 0, 0] ∧ win0_4.index t = ![1, t.val % 16, 0, 0] ∧ win0_5.index t = ![1, t.val % 16, 0, 0]
    ∧ win0_6.index t = ![1, 0, 0] ∧ win0_7.index t = ![1, 0, 0] ∧ win0_8.index t = ![t.val / 16, 0]
    ∧ (grid0.coords t 1).val = t.val % 16 ∧ t.val / 16 < 16 :=
  (by decide +kernel : ∀ t : Fin grid0.N, _)

/-- At the last point of a row block the output is made of the running sum the same point leaves. -/
theorem out_last (c : Dev nD) (t : Fin cfg0.N) (h : t.val % 16 = 15) :
    (outsAt0 m c t.val t.isLt).1 = k0_pay2 (iblk m c 1 t) (outsAt0 m c t.val t.isLt).2 (iblk m c 6 t) (iblk m c 7 t) := by
  rw [outsAt0_C m c t (by omega) h]
  frame_out

theorem step_first (c : Dev nD) (t : Fin cfg0.N) (h : t.val % 16 = 0) (j : S512x2048.Idx) :
    (outsAt0 m c t.val t.isLt).2 j
      = 0 + part ((grid0.coords t) 1) (iblk m c 0 t) (iblk m c 3 t) (iblk m c 4 t) (iblk m c 2 t) (iblk m c 5 t) (j 0) (j 1) := by
  rw [outsAt0_A m c t h (by omega)]
  frame_out
  rw [pay1_eq, pay4_at, pay3_at]

theorem step_next (c : Dev nD) (t : Fin cfg0.N) (h : ¬ t.val % 16 = 0) (j : S512x2048.Idx) :
    (outsAt0 m c t.val t.isLt).2 j
      = (outsAt0 m c (t.val - 1) (by omega)).2 j + part ((grid0.coords t) 1) (iblk m c 0 t) (iblk m c 3 t) (iblk m c 4 t) (iblk m c 2 t) (iblk m c 5 t) (j 0) (j 1) := by
  by_cases h1 : t.val % 16 = 15
  · rw [outsAt0_C m c t h h1]
    frame_out
    rw [pay1_eq, pay4_at]
    exact congrArg₂ (· + ·) (congrFun ((Memref.isWhole_whole cc0_scratch0).read_unread _) j) rfl
  · rw [outsAt0_B m c t h h1]
    frame_out
    rw [pay1_eq, pay4_at]
    exact congrArg₂ (· + ·) (congrFun ((Memref.isWhole_whole cc0_scratch0).read_unread _) j) rfl

/-- The call's running sum sweeps the experts. -/
theorem sweep (c : Dev nD) : Sweep (fun n h => (outsAt0 m c n h).2) (fun t => grid0.coords t 1) (fun t => iblk m c 0 t)
    (fun t => iblk m c 2 t) (fun t => iblk m c 3 t) (fun t => iblk m c 4 t) (fun t => iblk m c 5 t)
    (m ((c : Thread nD τ).loc main_arg0)) (m ((c : Thread nD τ).loc main_arg2)) (m ((c : Thread nD τ).loc main_arg3))
    (m ((c : Thread nD τ).loc main_arg4)) (m ((c : Thread nD τ).loc main_arg5)) where
  expert t := (idx t).2.2.2.2.2.2.2.2.2.1
  first := step_first m c
  next := step_next m c
  row t r n hn k := by blk_point [iblk, V, idx t]
  weight t r n hn k := by blk_point [iblk, V, idx t]
  gate t k f := by blk_point [iblk, V, idx t]
  up t k f := by blk_point [iblk, V, idx t]
  down t f l := by blk_point [iblk, V, idx t]

/-- The kernel's result array. -/
theorem final (c : Dev nD) : (dats m 0 c).arrAt 8 cfg0.N
    = moe (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  have hy : ∃ n : Fin 8192, n.val = t.val / 16 * 512 + (y 0).val ∧ (win0_8.blk t).view.emb y = ix2 n (y 1) :=
    ⟨⟨t.val / 16 * 512 + (y 0).val, by have := (idx t).2.2.2.2.2.2.2.2.2.2; have := (y 0).isLt; change _ < 512 at this; omega⟩, rfl,
      by blk_ext [idx t]⟩
  obtain ⟨n, hn, he⟩ := hy
  blk_simp
  rw [after0_8, out_last m c t ((flush0_8 t).mp hf), pay2_at, he]
  exact (sweep m c).out_last t ((flush0_8 t).mp hf) _ _ _ (iblk m c 1 t) _ _ (y 0) (y 1) n hn
    (fun k => by blk_point [iblk, V, idx t]) (by blk_point [iblk, V, idx t]) (by blk_point [iblk, V, idx t])

end Cert.MoeIdeal.Hand
-- ==== Proof.MoeClaim.lean ====
/-
  The mixture-of-experts call against its reference: both runs, and the equation of their results.
-/
module

public import proofs.«01_k».proof.Defs
public import proofs.«01_k».proof.Proof.MoeRef
public import proofs.«01_k».proof.Proof.MoeStep
public import proofs.«01_k».proof.Proof.Gen.MoeIdeal
public import Idealize.ShloMosaic.Lib.Quiescent

@[expose] public section

noncomputable section

open Idealize.ShloMosaic Idealize.ShloMosaic.TcCoe Idealize.SL.Sem

namespace Cert.Proof.Moe

/-- The reference terminates and leaves its arguments; it declares no semaphore. -/
theorem frame_ref : Cert.quiescent_MoeReferenceIdeal (hMoeReferenceIdeal := Cert.MoeReferenceIdeal.Gen.facts) := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

/-- Kernel and reference end with the same result. -/
theorem algebraic : Cert.algebraic_MoeIdeal_MoeReferenceIdeal (hMoeIdeal := Cert.MoeIdeal.Gen.facts)
    (hMoeReferenceIdeal := Cert.MoeReferenceIdeal.Gen.facts) := fun m ρ m' ρ' _ hag =>
  ⟨fun c => Cert.MoeReferenceIdeal.Value.res_out0 m' c,
    (θ_run Cert.MoeIdeal.defs _ _).mono (fun r h c => ⟨(h c).1.trans (by
        obtain ⟨h0, h1, h2, h3, h4, h5, h6, h7⟩ := hag c
        refine Eq.trans ?_ (Cert.MoeReferenceIdeal.Hand.ref_eq m' c).symm
        rw [h0, h1, h2, h3, h4, h5, h6, h7]
        exact Cert.MoeIdeal.Hand.final m c), (h c).2⟩) (Cert.MoeIdeal.Value.run_blocks (F := Ideal) m ρ),
    Cert.MoeReferenceIdeal.Value.run (F := Ideal) m' ρ'⟩

end Cert.Proof.Moe

end
-- ==== Proof.OutFun.lean ====
/-
  The output projection: what one grid point makes of its blocks, read at an index.
-/
module

public import proofs.«01_k».proof.Proof.Gen.OutprojIdeal.Value
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.OutprojIdeal.Hand

open Cert.OutprojIdeal Cert.OutprojIdeal.Gen Cert.Hand

/-- Three pieces laid end to end. -/
def cat (a : Fin 512 → EReal) (s : Fin 1024 → EReal) (c : Fin 512 → EReal) (k : Fin 2048) : EReal :=
  if h : k.val < 512 then a ⟨k.val, h⟩ else if h : k.val - 512 < 1024 then s ⟨k.val - 512, h⟩ else c ⟨k.val - 512 - 1024, by omega⟩

/-- One row before its normalisation: the residual, and the projection of the three mixers' outputs. -/
def row (a : Fin 512 → EReal) (s : Fin 1024 → EReal) (c : Fin 512 → EReal) (w : Fin 2048 → Fin 2048 → EReal)
    (x : Fin 2048 → EReal) (l : Fin 2048) : EReal :=
  Ideal.ofBits .f32 0x3FB504F3#32 * x l + ∑ k : Fin 2048, cat a s c k * w k l

theorem row_congr {a a' c c' : Fin 512 → EReal} {s s' : Fin 1024 → EReal} {w w' : Fin 2048 → Fin 2048 → EReal}
    {x x' : Fin 2048 → EReal} (ha : ∀ k, a k = a' k) (hs : ∀ k, s k = s' k) (hc : ∀ k, c k = c' k)
    (hw : ∀ k l, w k l = w' k l) (hx : ∀ k, x k = x' k) : row a s c w x = row a' s' c' w' x' := by
  rw [funext ha, funext hs, funext hc, funext hx, funext fun k => funext (hw k)]

theorem pay2_at (a : Vec Ideal S256x512 .bf16) (s : Vec Ideal S256x1024 .bf16) (c : Vec Ideal S256x512 .bf16)
    (w : Vec Ideal S1x2048x2048 .bf16) (x : Vec Ideal S256x2048 .f32) (g b : Vec Ideal S1x1x2048 .f32) (j : S256x2048.Idx) :
    k0_pay2 a s c w x g b j = norm (row (fun k => a (ix2 (j 0) k)) (fun k => s (ix2 (j 0) k)) (fun k => c (ix2 (j 0) k))
      (fun k l => w (ix3 0 k l)) (fun l => x (ix2 (j 0) l))) (g (ix3 0 0 (j 1))) (b (ix3 0 0 (j 1))) (j 1) := by
  idx_vars j
  pointwise [k0_pay2]
  rfl

theorem pay3_eq (v : FVec Ideal S256x2048 .f32) : k0_pay3 v = v := by
  funext j; pointwise [k0_pay3]

/-- The call's normed rows. -/
def out (a : FVec Ideal S8192x512 .bf16) (s : FVec Ideal S8192x1024 .bf16) (c : FVec Ideal S8192x512 .bf16)
    (x : FVec Ideal S8192x2048 .f32) (w : FVec Ideal S2x2048x2048 .f32) (g b : FVec Ideal S2x2048 .f32) :
    FVec Ideal S8192x2048 .f32 := fun i =>
  norm (row (fun k => a (ix2 (i 0) k)) (fun k => s (ix2 (i 0) k)) (fun k => c (ix2 (i 0) k))
    (fun k l => w (ix3 0 k l)) (fun l => x (ix2 (i 0) l))) (g (ix2 0 (i 1))) (b (ix2 0 (i 1))) (i 1)

end Cert.OutprojIdeal.Hand
-- ==== Proof.OutStep.lean ====
/-
  The output projection: the two arrays of normed rows it writes.
-/
module

public import proofs.«01_k».proof.Proof.OutFun

@[expose] public section

set_option maxRecDepth 16384

noncomputable section

open Idealize.ShloMosaic Idealize.ShloMosaic.TcCoe Idealize.SL.Sem
open Idealize.ShloMosaic.Pipeline (Dat)

namespace Cert.OutprojIdeal.Hand

open Cert.OutprojIdeal Cert.OutprojIdeal.Gen Cert.Hand

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0]
    ∧ win0_6.index t = ![0, 0, 0] ∧ win0_10.index t = ![t.val, 0] ∧ win0_11.index t = ![t.val, 0] ∧ t.val < 32 :=
  (by decide +kernel : ∀ t : Fin grid0.N, _)

/-- The gain's rows, as the region finds them. -/
theorem V13 (c : Dev nD) : V m c main_v13 = shapeCast S2x1x2048 (m ((c : Thread nD τ).loc main_arg5)) shapeCasts_S2x2048_S2x1x2048 := by
  simp only [V, hostOps0, hostOps0_1, hostOps0_2, hostOps0_3, hostOps0_4, List.flatten_cons, List.flatten_nil, List.append_nil,
    List.cons_append, List.nil_append]
  entry_read
  rfl

/-- The offset's rows, as the region finds them. -/
theorem V14 (c : Dev nD) : V m c main_v14 = shapeCast S2x1x2048 (m ((c : Thread nD τ).loc main_arg6)) shapeCasts_S2x2048_S2x1x2048 := by
  simp only [V, hostOps0, hostOps0_1, hostOps0_2, hostOps0_3, hostOps0_4, List.flatten_cons, List.flatten_nil, List.append_nil,
    List.cons_append, List.nil_append]
  entry_read
  rfl

theorem blk0 (c : Dev nD) (t : Fin cfg0.N) (r : Fin 256) (k : Fin 512) (n : Fin 8192) (hn : n.val = t.val * 256 + r.val) :
    iblk m c 0 t (ix2 r k) = m ((c : Thread nD τ).loc main_arg0) (ix2 n k) := by
  blk_point [iblk, V, idx t]

theorem blk1 (c : Dev nD) (t : Fin cfg0.N) (r : Fin 256) (k : Fin 1024) (n : Fin 8192) (hn : n.val = t.val * 256 + r.val) :
    iblk m c 1 t (ix2 r k) = m ((c : Thread nD τ).loc main_arg1) (ix2 n k) := by
  blk_point [iblk, V, idx t]

theorem blk2 (c : Dev nD) (t : Fin cfg0.N) (r : Fin 256) (k : Fin 512) (n : Fin 8192) (hn : n.val = t.val * 256 + r.val) :
    iblk m c 2 t (ix2 r k) = m ((c : Thread nD τ).loc main_arg2) (ix2 n k) := by
  blk_point [iblk, V, idx t]

theorem blk3 (c : Dev nD) (t : Fin cfg0.N) (r : Fin 256) (k : Fin 2048) (n : Fin 8192) (hn : n.val = t.val * 256 + r.val) :
    iblk m c 3 t (ix2 r k) = m ((c : Thread nD τ).loc main_arg3) (ix2 n k) := by
  blk_point [iblk, V, idx t]

theorem blk4 (c : Dev nD) (t : Fin cfg0.N) (k l : Fin 2048) :
    iblk m c 4 t (ix3 0 k l) = m ((c : Thread nD τ).loc main_arg4) (ix3 0 k l) := by
  blk_point [iblk, V, idx t]

theorem blk5 (c : Dev nD) (t : Fin cfg0.N) (l : Fin 2048) :
    iblk m c 5 t (ix3 0 0 l) = m ((c : Thread nD τ).loc main_arg5) (ix2 0 l) := by
  refine (congrFun (V13 m c) ((win0_5.blk t).view.emb (ix3 0 0 l))).trans ?_
  pointwise
  blk_ext [idx t]

theorem blk6 (c : Dev nD) (t : Fin cfg0.N) (l : Fin 2048) :
    iblk m c 6 t (ix3 0 0 l) = m ((c : Thread nD τ).loc main_arg6) (ix2 0 l) := by
  refine (congrFun (V14 m c) ((win0_6.blk t).view.emb (ix3 0 0 l))).trans ?_
  pointwise
  blk_ext [idx t]

/-- What a point leaves in either window is the same block of rows. -/
theorem blk_at (c : Dev nD) (t : Fin cfg0.N) (y : S256x2048.Idx) (i : S8192x2048.Idx)
    (hi0 : (i 0).val = t.val * 256 + (y 0).val) (hi1 : i 1 = y 1) :
    k0_pay2 (iblk m c 0 t) (iblk m c 1 t) (iblk m c 2 t) (iblk m c 4 t) (iblk m c 3 t) (iblk m c 5 t) (iblk m c 6 t) y
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) i := by
  rw [pay2_at]
  unfold out
  rw [hi1]
  exact norm_congr (row_congr (fun k => blk0 m c t _ k _ hi0) (fun k => blk1 m c t _ k _ hi0) (fun k => blk2 m c t _ k _ hi0)
    (fun k l => blk4 m c t k l) fun k => blk3 m c t _ k _ hi0) (blk5 m c t _) (blk6 m c t _)

/-- The normed rows the kernel writes. -/
theorem final10 (c : Dev nD) : (dats m 0 c).arrAt 10 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 10 _ (by decide +kernel) fun t hf y => ?_
  blk_simp
  rw [after0_10]
  unfold_out out0_10
  frame_out
  exact blk_at m c t y _ (by blk_simp [idx t]) (Fin.ext (by blk_simp [idx t]))

/-- Their copy at the narrower width. -/
theorem final11 (c : Dev nD) : (dats m 0 c).arrAt 11 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 11 _ (by decide +kernel) fun t hf y => ?_
  blk_simp
  rw [after0_11]
  unfold_out out0_11
  frame_out
  rw [pay3_eq]
  exact blk_at m c t y _ (by blk_simp [idx t]) (Fin.ext (by blk_simp [idx t]))

end Cert.OutprojIdeal.Hand
-- ==== Proof.OutRef.lean ====
/-
  The output projection's reference: its composed term read at an index.
-/
module

public import proofs.«01_k».proof.Proof.OutFun
public import proofs.«01_k».proof.Proof.Gen.OutprojReferenceIdeal.Run
public import Idealize.ShloMosaic.Lib.Tactic.CleanTypes

@[expose] public section

set_option maxRecDepth 16384

noncomputable section

open Idealize.ShloMosaic Idealize.ShloMosaic.TcCoe Idealize.SL.Sem

namespace Cert.OutprojReferenceIdeal.Hand

open Cert.OutprojReferenceIdeal Cert.OutprojReferenceIdeal.Gen Cert.Hand

/-- The reference's normed rows. -/
theorem ref0_eq (m : (ℓ : Loc nD τ sig) → Buf (Elt Ideal) ℓ) (c : Dev nD) : Value.res_out0 m c
    = Cert.OutprojIdeal.Hand.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  unfold Value.res_out0 Value.res_main_v35
  clean_types
  funext j
  idx_vars j
  pointwise
  rfl

/-- Their copy at the narrower width. -/
theorem ref1_eq (m : (ℓ : Loc nD τ sig) → Buf (Elt Ideal) ℓ) (c : Dev nD) : Value.res_out1 m c
    = Cert.OutprojIdeal.Hand.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  unfold Value.res_out1 Value.res_main_v36
  clean_types
  funext j
  idx_vars j
  pointwise
  rfl

end Cert.OutprojReferenceIdeal.Hand
-- ==== Proof.OutClaim.lean ====
/-
  The output projection against its reference: both runs, and the equations of their results.
-/
module

public import proofs.«01_k».proof.Defs
public import proofs.«01_k».proof.Proof.OutStep
public import proofs.«01_k».proof.Proof.OutRef
public import proofs.«01_k».proof.Proof.Gen.OutprojIdeal
public import Idealize.ShloMosaic.Lib.Quiescent

@[expose] public section

noncomputable section

open Idealize.ShloMosaic Idealize.ShloMosaic.TcCoe Idealize.SL.Sem

namespace Cert.Proof.Out

/-- The reference terminates and leaves its arguments; it declares no semaphore. -/
theorem frame_ref : Cert.quiescent_OutprojReferenceIdeal (hOutprojReferenceIdeal := Cert.OutprojReferenceIdeal.Gen.facts) := fun m ρ _ =>
  (θ_run Cert.OutprojReferenceIdeal.defs _ _).mono (fun r h => ⟨fun c => (h c).2.2, sem_eq_zero_of_no_sems (by decide) r.2⟩)
    (Cert.OutprojReferenceIdeal.Value.run (F := Ideal) m ρ)

/-- Kernel and reference end with the same two results. -/
theorem algebraic : Cert.algebraic_OutprojIdeal_OutprojReferenceIdeal (hOutprojIdeal := Cert.OutprojIdeal.Gen.facts)
    (hOutprojReferenceIdeal := Cert.OutprojReferenceIdeal.Gen.facts) := fun m ρ m' ρ' _ hag =>
  ⟨fun c => Cert.OutprojReferenceIdeal.Value.res_out0 m' c, fun c => Cert.OutprojReferenceIdeal.Value.res_out1 m' c,
    (θ_run Cert.OutprojIdeal.defs _ _).mono (fun r h c => ⟨(h c).1.trans (by
        obtain ⟨h0, h1, h2, h3, h4, h5, h6, -⟩ := hag c
        refine Eq.trans ?_ (Cert.OutprojReferenceIdeal.Hand.ref0_eq m' c).symm
        rw [h0, h1, h2, h3, h4, h5, h6]
        exact Cert.OutprojIdeal.Hand.final10 m c), (h c).2.1.trans (by
        obtain ⟨h0, h1, h2, h3, h4, h5, h6, -⟩ := hag c
        refine Eq.trans ?_ (Cert.OutprojReferenceIdeal.Hand.ref1_eq m' c).symm
        rw [h0, h1, h2, h3, h4, h5, h6]
        exact Cert.OutprojIdeal.Hand.final11 m c), (h c).2.2.2⟩) (Cert.OutprojIdeal.Value.run_blocks (F := Ideal) m ρ),
    Cert.OutprojReferenceIdeal.Value.run (F := Ideal) m' ρ'⟩

end Cert.Proof.Out

end
-- ==== Proof.InShared.lean ====
/-
  What both calls of the input projection rest on: buffers stored and loaded whole, and a schedule in which eleven steps
  make up a row block and each of them writes one output.
-/
module

public import Idealize.ShloMosaic.Lib.Claim
public import Idealize.ShloMosaic.Lib.VecWindow
public import Idealize.ShloMosaic.Lib.Pipeline.TableIdle

@[expose] public section

noncomputable section

namespace Cert.Hand.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

/-! ## One step's stores and loads -/

/-- What a step writes into one output, where its condition holds: the value, else what was there. -/
def put {α : Type} (b : BitVec 1) (new old : α) : α := if b = 1#1 then new else old

/-- Where the step's condition says that the step writes the output, the value is the step's own. -/
theorem put_live {α : Type} {b : BitVec 1} {p : Prop} (hb : b = 1#1 ↔ p) {new old v : α} (h : p → new = v) (hp : p) :
    put b new old = v := (if_pos (hb.mpr hp)).trans (h hp)

theorem put_idle {α : Type} {b : BitVec 1} {p : Prop} (hb : b = 1#1 ↔ p) {new old : α} (hp : ¬ p) :
    put b new old = old := if_neg (fun h => hp (hb.mp h))

section
variable {sig : RefSig} {F : FTy → Type} [FloatOps F]

/-- A load of a whole buffer's own sizes reads what the buffer holds. -/
theorem load_full {sp : Space} {sh : Shape} {e : EltTy} {r : Memref sig .tc sp sh e} (h : r.IsWhole) (X : sh.Idx → Elt F e)
    {off : Fin sh.rank → ℕ} (inb : ∀ a, off a + sh.size a ≤ sh.size a) :
    r.view.readAt (Elt F) (Rect.unit off sh.size inb).toLoadRect (h.unread X) = X := by
  rw [View.readAt_full]; exact h.read_unread X

/-- A load of a whole buffer's own sizes, after a store of those sizes, reads what was stored; -/
theorem load_stored {sp : Space} {sh : Shape} {e : EltTy} (r : Memref sig .tc sp sh e) (f : r.view.ty.Contents (Elt F))
    {off off' : Fin sh.rank → ℕ} (inb : ∀ a, off a + sh.size a ≤ sh.size a) (inb' : ∀ a, off' a + sh.size a ≤ sh.size a)
    (p p' : sh.Idx → Elt F e) (hp : p = p') (L : List (View.Piece (Elt F) sh e)) :
    r.view.readAt (Elt F) (Rect.unit off sh.size inb).toLoadRect (r.view.writes (Elt F) f (⟨Rect.unit off' sh.size inb', p⟩ :: L)) = p' :=
  (View.readAt_writes_full _ _ inb inb' p L).trans hp

/-- and so does the buffer as a whole. -/
theorem holds_stored {sp : Space} {sh : Shape} {e : EltTy} (r : Memref sig .tc sp sh e) (f : r.view.ty.Contents (Elt F))
    {off' : Fin sh.rank → ℕ} (inb' : ∀ a, off' a + sh.size a ≤ sh.size a)
    (p p' : sh.Idx → Elt F e) (hp : p = p') (L : List (View.Piece (Elt F) sh e)) :
    r.view.read (Elt F) (r.view.writes (Elt F) f (⟨Rect.unit off' sh.size inb', p⟩ :: L)) = p' :=
  (View.read_writes_full _ f inb' p L).trans hp

/-- A buffer is owned at what it reads as. -/
theorem owns_read {nD : ℕ} {τ : Topo} {U : Type} [URA U] (c : Dev nD) {sp : Space} {sh : Shape} {e : EltTy} (r : Memref sig .tc sp sh e)
    (f : r.view.ty.Contents (Elt F)) (X : sh.Idx → Elt F e) (h : r.view.read (Elt F) f = X) :
    ((r.view.loc (c : Thread nD τ) ↦[r.view.set]{fullShare} f) : sProp (MT nD τ sig Unit (Elt F) ℕ U ℕ))
      ⊢ owns (c : Thread nD τ) r fullShare X := by
  unfold owns
  iintro H
  iexists f; isplitr
  · ipureintro; exact h
  iexact H

/-- A whole buffer owned at a value holds that value's contents. -/
theorem owns_unread {nD : ℕ} {τ : Topo} {U : Type} [URA U] (c : Dev nD) {sp : Space} {sh : Shape} {e : EltTy} (r : Memref sig .tc sp sh e)
    (h : r.IsWhole) (X : sh.Idx → Elt F e) :
    (owns (c : Thread nD τ) r fullShare X : sProp (MT nD τ sig Unit (Elt F) ℕ U ℕ))
      ⊢ (r.view.loc (c : Thread nD τ) ↦[r.view.set]{fullShare} h.unread X) := by
  unfold owns
  iintro ⟨%f, %hf, H⟩
  obtain rfl := h.eq_unread hf
  iexact H
end

/-! ## The step of the row block nearest to a step -/

theorem near_lt {N : ℕ} (hN : N % 11 = 0) (lo hi : ℕ) (t : Fin N) : t.val / 11 * 11 + min 10 (max lo (min hi (t.val % 11))) < N := by
  have h := t.isLt
  omega

/-- The step of the same row block, between its steps `lo` and `hi`, that is nearest to `t`. -/
def near {N : ℕ} (hN : N % 11 = 0) (lo hi : ℕ) (t : Fin N) : Fin N :=
  ⟨t.val / 11 * 11 + min 10 (max lo (min hi (t.val % 11))), near_lt hN lo hi t⟩

/-- A step between `lo` and `hi` is the nearest itself. -/
theorem near_self {N : ℕ} (hN : N % 11 = 0) (lo hi : ℕ) (t : Fin N) (h1 : lo ≤ t.val % 11) (h2 : t.val % 11 ≤ hi) : near hN lo hi t = t :=
  Fin.ext (by show t.val / 11 * 11 + min 10 (max lo (min hi (t.val % 11))) = t.val; omega)

/-- A step after `hi` has the same nearest as the step before it. -/
theorem near_pred {N : ℕ} (hN : N % 11 = 0) (lo hi : ℕ) (t : Fin N) (h2 : hi < t.val % 11) :
    near hN lo hi t = near hN lo hi ⟨t.val - 1, Nat.lt_of_le_of_lt (Nat.sub_le _ _) t.isLt⟩ :=
  Fin.ext (by
    show t.val / 11 * 11 + min 10 (max lo (min hi (t.val % 11)))
      = (t.val - 1) / 11 * 11 + min 10 (max lo (min hi ((t.val - 1) % 11)))
    omega)

/-! ## The schedule -/

section
variable {nD : ℕ} {τ : Topo} {sig : RefSig} {Λ₀ : Labels} {F : FTy → Type} [FloatOps F]
variable {U : Type} [URA U]

/-- What the schedule says of an output that the steps `lo` to `hi` write: it is idle at the others; up to step `hi` its buffer
    holds nothing that a later write-back could write; and it is written back at an idle step after `hi` only. -/
structure Sched (cfg : Cfg sig Λ₀) (w : Fin cfg.W) (lo hi : ℕ) : Prop where
  out : (cfg.win w).isOut = true
  uncut : ∀ (i : cfg.grid.Coords) a, (cfg.win w).clip i a = none
  idle : ∀ t : Fin cfg.N, cfg.idle w (cfg.grid.coords t) = false ↔ lo ≤ t.val % 11 ∧ t.val % 11 ≤ hi
  fresh : ∀ t : Fin cfg.N, decide ((t.val + 1) % 11 ≤ hi)
    = ((cfg.win w).flushF t || (cfg.idle w (cfg.grid.coords t) && decide (t.val % 11 ≤ hi)))
  flush : ∀ t : Fin cfg.N, cfg.idle w (cfg.grid.coords t) = true → (cfg.win w).flushF t = true → hi < t.val % 11

/-- Up to step `hi`, and only there, the buffer is fresh. -/
theorem Sched.fresh_eq {cfg : Cfg sig Λ₀} {w : Fin cfg.W} {lo hi : ℕ} (S : Sched cfg w lo hi) (t : Fin cfg.N) :
    cfg.fresh w t.val = decide (t.val % 11 ≤ hi) :=
  cfg.fresh_tab w (fun n => decide (n % 11 ≤ hi)) (by simp)
    (fun t => by rw [Window.flush_eq_flushF]; exact S.fresh t) t.val (Nat.le_of_lt t.isLt)

/-- What a step leaves in an output's buffer, if it is the step's product where the step writes it and what was there elsewhere. -/
theorem leaves_of {cfg : Cfg sig Λ₀} {c : Dev nD} (D : Dat τ (Elt F) Unit ℕ U ℕ cfg c) {w : Fin cfg.W} {lo hi : ℕ}
    (S : Sched cfg w lo hi) (t : Fin cfg.N)
    (d X : (cfg.win w).block.Idx → Elt F (cfg.win w).elt)
    (hcarry : ∀ t : Fin cfg.N, hi < t.val % 11 →
      D.after w t = D.after w ⟨t.val - 1, Nat.lt_of_le_of_lt (Nat.sub_le _ _) t.isLt⟩)
    (hlive : lo ≤ t.val % 11 ∧ t.val % 11 ≤ hi → X = D.after w t)
    (hidle : ¬ (lo ≤ t.val % 11 ∧ t.val % 11 ≤ hi) → X = D.before w t d) :
    (owns (c : Thread nD τ) ((cfg.win w).stage (cfg.slots t w)) fullShare X : sProp (MT nD τ sig Unit (Elt F) ℕ U ℕ))
      ⊢ D.leavesExact w t := by
  have htraj := D.before_out_traj w S.out S.uncut
    (fun t _ hi' hf => hcarry t (by rw [S.fresh_eq] at hf; simpa using hf)) t.val t rfl d
  cases hi' : cfg.idle w (cfg.grid.coords t) with
  | false =>
    unfold Dat.leavesExact; rw [hi', hlive ((S.idle t).mp hi')]
  | true =>
    have hX := hidle (fun h => by rw [(S.idle t).mpr h] at hi'; exact Bool.false_ne_true hi')
    cases hf : (cfg.win w).flush t with
    | false =>
      rw [Dat.leavesExact_idle _ w t hi' hf, hX]
      iintro H; iexists d; iexact H
    | true =>
      have h := S.flush t hi' (by rw [← Window.flush_eq_flushF]; exact hf)
      rw [S.fresh_eq, if_neg (by simpa using h), ← hcarry t h] at htraj
      unfold Dat.leavesExact; rw [hi', hf, hX, htraj]

/-- The same, where every step of the pipeline makes a value `f`, the output keeps that of the nearest step that writes it, and the
    step's condition says whether it writes. -/
theorem leaves_near {cfg : Cfg sig Λ₀} {c : Dev nD} (D : Dat τ (Elt F) Unit ℕ U ℕ cfg c) {w : Fin cfg.W} {lo hi : ℕ}
    (S : Sched cfg w lo hi) (hN : cfg.N % 11 = 0) (f : Fin cfg.N → (cfg.win w).block.Idx → Elt F (cfg.win w).elt)
    (hD : ∀ t, D.after w t = f (near hN lo hi t)) (t : Fin cfg.N) {b : BitVec 1} (hb : b = 1#1 ↔ lo ≤ t.val % 11 ∧ t.val % 11 ≤ hi)
    (d : (cfg.win w).block.Idx → Elt F (cfg.win w).elt) :
    (owns (c : Thread nD τ) ((cfg.win w).stage (cfg.slots t w)) fullShare (put b (f t) (D.before w t d))
        : sProp (MT nD τ sig Unit (Elt F) ℕ U ℕ)) ⊢ D.leavesExact w t :=
  leaves_of D S t d _ (fun t h => by rw [hD, hD, near_pred hN lo hi t h])
    (put_live hb fun h => by rw [hD, near_self hN lo hi t h.1 h.2]) (put_idle hb)

/-- An input that is not fetched at a step has the block of the step before. -/
theorem same_block {cfg : Cfg sig Λ₀} {c : Dev nD} (D : Dat τ (Elt F) Unit ℕ U ℕ cfg c) (w : Fin cfg.W)
    (hw : (cfg.win w).isOut = false) (hc : ∀ i i' : cfg.grid.Coords, (cfg.win w).clip i = (cfg.win w).clip i')
    (b : Fin cfg.N → (cfg.win w).block.Idx → Elt F (cfg.win w).elt)
    (hb : ∀ t d, D.fetched w t d = b t) (t : Fin cfg.N) (hf : (cfg.win w).fetch t = false) :
    b t = b ⟨t.val - 1, Nat.lt_of_le_of_lt (Nat.sub_le _ _) t.isLt⟩ := by
  obtain ⟨h0, hix⟩ := (cfg.win w).index_eq_of_fetch hw t hf
  exact (hb t (b t)).symm.trans ((D.fetched_congr w hix (hc _ _) (b t)).trans (hb _ _))

/-- Before the first step the kept rows are anything, after step `n` they are that step's. -/
def Held (c : Dev nD) {N : ℕ} {sp : Space} {sh : Shape} {e : EltTy} (P : sProp (MT nD τ sig Unit (Elt F) ℕ U ℕ))
    (r : Memref sig .tc sp sh e) (rows : Fin N → sh.Idx → Elt F e) : (n : ℕ) → n ≤ N → sProp (MT nD τ sig Unit (Elt F) ℕ U ℕ)
  | 0, _ => P
  | n + 1, hn => iprop(owns (c : Thread nD τ) r fullShare (rows ⟨n, hn⟩) ∗ (∃ g, prngReg c g))

/-- Before a step, the kept rows are this step's, unless the step is the first of its row block. -/
theorem held_pre (c : Dev nD) {N : ℕ} {sp : Space} {sh : Shape} {e : EltTy} {P : sProp (MT nD τ sig Unit (Elt F) ℕ U ℕ)}
    {r : Memref sig .tc sp sh e} {rows : Fin N → sh.Idx → Elt F e} (first : Fin N → BitVec 1)
    (hP : P ⊢ iprop((∃ d, owns (c : Thread nD τ) r fullShare d) ∗ (∃ g, prngReg c g)))
    (hf : ∀ t, first t = 1#1 ↔ t.val % 11 = 0)
    (hr : ∀ t : Fin N, t.val % 11 ≠ 0 → rows t = rows ⟨t.val - 1, Nat.lt_of_le_of_lt (Nat.sub_le _ _) t.isLt⟩) (t : Fin N) :
    Held c P r rows t.val (Nat.le_of_lt t.isLt)
      ⊢ iprop((∃ s, ⌜put (first t) (rows t) s = rows t⌝ ∗ owns (c : Thread nD τ) r fullShare s) ∗ (∃ g, prngReg c g)) := by
  obtain ⟨n, hn⟩ := t
  cases n with
  | zero =>
    show P ⊢ _
    iintro H
    ihave H' := hP $$ H
    icases H' with ⟨⟨%s, H⟩, Hg⟩
    isplitl [H]
    · iexists s; isplitr
      · ipureintro; exact if_pos ((hf ⟨0, hn⟩).mpr rfl)
      iexact H
    iexact Hg
  | succ n =>
    show iprop(owns (c : Thread nD τ) r fullShare (rows ⟨n, _⟩) ∗ (∃ g, prngReg c g)) ⊢ _
    iintro ⟨H, Hg⟩
    isplitl [H]
    · iexists _; isplitr
      swap; · iexact H
      ipureintro
      by_cases h : (n + 1) % 11 = 0
      · exact if_pos ((hf ⟨n + 1, hn⟩).mpr h)
      · exact (if_neg (fun e => h ((hf ⟨n + 1, hn⟩).mp e))).trans (hr ⟨n + 1, hn⟩ h).symm
    iexact Hg

/-- After any step the kept rows may be forgotten. -/
theorem held_post (c : Dev nD) {N : ℕ} {sp : Space} {sh : Shape} {e : EltTy} {P : sProp (MT nD τ sig Unit (Elt F) ℕ U ℕ)}
    {r : Memref sig .tc sp sh e} {rows : Fin N → sh.Idx → Elt F e}
    (hP : iprop((∃ d, owns (c : Thread nD τ) r fullShare d) ∗ (∃ g, prngReg c g)) ⊢ P) (n : ℕ) (hn : n + 1 ≤ N) :
    Held c P r rows (n + 1) hn ⊢ P := by
  refine Idealize.SL.BI.Entails.trans ?_ hP
  show iprop(owns (c : Thread nD τ) r fullShare (rows ⟨n, hn⟩) ∗ (∃ g, prngReg c g)) ⊢ _
  iintro ⟨H, Hg⟩
  isplitl [H]
  · iexists _; iexact H
  iexact Hg
end

end Cert.Hand.Blocks

end
-- ==== Proof.InRun.lean ====
/-
  One step of the input projection: what the step leaves in its buffers.
-/
module

public import proofs.«01_k».proof.Proof.Gen.InprojIdeal.Frame
public import proofs.«01_k».proof.Proof.InShared

@[expose] public section

set_option maxRecDepth 16384

noncomputable section

namespace Cert.InprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InprojIdeal.Gen Cert.Hand.Blocks

variable {F : FTy → Type} [FloatOps F]

local notation "𝕄" => MT nD τ sig Unit (Elt F) ℕ (UR sig nD τ) ℕ

/-- The rows of `x` as the first step of a row block keeps them: cast to bf16. -/
def kept (x : Vec F S512x2048 .f32) : Vec F S512x2048 .bf16 :=
  shapeCast S512x2048 (truncf .bf16 (shapeCast S512x2048 x shapeCasts_S512x2048_S512x2048 : FVec F S512x2048 .f32) bitsLt_bf16_f32)
    shapeCasts_S512x2048_S512x2048

/-- A step's product: the kept rows with a block of columns of the weight. -/
def prod (s : Vec F S512x2048 .bf16) (w : Vec F S1x2048x512 .f32) : Vec F S512x512 .f32 :=
  matmul dot_S512x2048_S2048x512_S512x512_1_0_0_1_n_n none s
    (truncf .bf16 (shapeCast S2048x512 w shapeCasts_S1x2048x512_S2048x512 : FVec F S2048x512 .f32) bitsLt_bf16_f32)
    (constant S512x512 .f32 0x00000000#32)

/-- The product as the queries get it: scaled, then cast to bf16. -/
def scaled (p : Vec F S512x512 .f32) : Vec F S512x512 .bf16 :=
  truncf .bf16 (mulf p (broadcast S512x512 (Scalar.ofBits .f32 0x3DB504F3#32 : F .f32)) : FVec F S512x512 .f32) bitsLt_bf16_f32

theorem kept_of {x x' : Vec F S512x2048 .f32} (h : x = x') : kept x = kept x' := congrArg kept h
theorem prod_of {s s' : Vec F S512x2048 .bf16} {w w' : Vec F S1x2048x512 .f32} (hs : s = s') (hw : w = w') : prod s w = prod s' w' :=
  congrArg₂ prod hs hw
theorem scaled_of {p p' : Vec F S512x512 .f32} (h : p = p') : scaled p = scaled p' := congrArg scaled h

/-- The step is the first of its row block. -/
def first (i : grid0.Coords) : BitVec 1 :=
  Scalar.cmpi .ne (Scalar.extui (Scalar.cmpi .eq (BitVec.ofNat 32 (i 1).val) 0#32) : BitVec 32) 0#32

/-- The six kinds of steps of a row block: its first step, and the steps that write each of the five outputs. -/
def Kind6 (i : grid0.Coords) : Prop :=
  (first i = 1#1 ∧ k0_cond2 i = 1#1 ∧ ¬ k0_cond3 i = 1#1 ∧ ¬ k0_cond4 i = 1#1 ∧ ¬ k0_cond5 i = 1#1 ∧ ¬ k0_cond6 i = 1#1)
  ∨ (¬ first i = 1#1 ∧ k0_cond2 i = 1#1 ∧ ¬ k0_cond3 i = 1#1 ∧ ¬ k0_cond4 i = 1#1 ∧ ¬ k0_cond5 i = 1#1 ∧ ¬ k0_cond6 i = 1#1)
  ∨ (¬ first i = 1#1 ∧ ¬ k0_cond2 i = 1#1 ∧ k0_cond3 i = 1#1 ∧ ¬ k0_cond4 i = 1#1 ∧ ¬ k0_cond5 i = 1#1 ∧ ¬ k0_cond6 i = 1#1)
  ∨ (¬ first i = 1#1 ∧ ¬ k0_cond2 i = 1#1 ∧ ¬ k0_cond3 i = 1#1 ∧ k0_cond4 i = 1#1 ∧ ¬ k0_cond5 i = 1#1 ∧ ¬ k0_cond6 i = 1#1)
  ∨ (¬ first i = 1#1 ∧ ¬ k0_cond2 i = 1#1 ∧ ¬ k0_cond3 i = 1#1 ∧ ¬ k0_cond4 i = 1#1 ∧ k0_cond5 i = 1#1 ∧ ¬ k0_cond6 i = 1#1)
  ∨ (¬ first i = 1#1 ∧ ¬ k0_cond2 i = 1#1 ∧ ¬ k0_cond3 i = 1#1 ∧ ¬ k0_cond4 i = 1#1 ∧ ¬ k0_cond5 i = 1#1 ∧ k0_cond6 i = 1#1)

set_option maxHeartbeats 4000000 in
/-- One step, of any kind: the rows kept are those of the row block, and the output that the step's condition names gets the
    product of the kept rows with the step's block of columns. -/
theorem step (c : Dev nD) (i : grid0.Coords) (arg2 : Memref sig .tc .vmem S512x2048 .f32) (harg2 : arg2.IsWhole)
    (arg3 : Memref sig .tc .vmem S1x2048x512 .f32) (harg3 : arg3.IsWhole)
    (arg4 : Memref sig .tc .vmem S512x512 .f32) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x2048 .bf16) (harg9 : arg9.IsWhole)
    (x : Vec F S512x2048 .f32) (w : Vec F S1x2048x512 .f32) (y4 : Vec F S512x512 .f32) (y5 : Vec F S512x512 .bf16)
    (y6 y7 y8 : Vec F S512x512 .f32) (s : Vec F S512x2048 .bf16)
    (hk : Kind6 i)
    (E : Set ℕ) (K : PUnit → sProp 𝕄) :
    iprop(owns (c : Thread nD τ) arg2 fullShare x ∗ owns (c : Thread nD τ) arg3 fullShare w ∗ owns (c : Thread nD τ) arg4 fullShare y4
        ∗ owns (c : Thread nD τ) arg5 fullShare y5 ∗ owns (c : Thread nD τ) arg6 fullShare y6 ∗ owns (c : Thread nD τ) arg7 fullShare y7
        ∗ owns (c : Thread nD τ) arg8 fullShare y8 ∗ owns (c : Thread nD τ) arg9 fullShare s
        ∗ (iprop(owns (c : Thread nD τ) arg2 fullShare x ∗ owns (c : Thread nD τ) arg3 fullShare w
              ∗ owns (c : Thread nD τ) arg4 fullShare (put (k0_cond2 i) (prod (put (first i) (kept x) s) w) y4)
              ∗ owns (c : Thread nD τ) arg5 fullShare (put (k0_cond3 i) (scaled (prod (put (first i) (kept x) s) w)) y5)
              ∗ owns (c : Thread nD τ) arg6 fullShare (put (k0_cond4 i) (prod (put (first i) (kept x) s) w) y6)
              ∗ owns (c : Thread nD τ) arg7 fullShare (put (k0_cond5 i) (prod (put (first i) (kept x) s) w) y7)
              ∗ owns (c : Thread nD τ) arg8 fullShare (put (k0_cond6 i) (prod (put (first i) (kept x) s) w) y8)
              ∗ owns (c : Thread nD τ) arg9 fullShare (put (first i) (kept x) s)) -∗ K ⟨⟩))
      ⊢ wp frame (wpE (defs₀ (F := F)) Variants.none c none) E
          (cc0_inproj i arg2 harg2 arg3 harg3 arg4 harg4 arg5 harg5 arg6 harg6 arg7 harg7 arg8 harg8 arg9 harg9) K := by
  rcases hk with ⟨h1, h2, h3, h4, h5, h6⟩ | ⟨h1, h2, h3, h4, h5, h6⟩ | ⟨h1, h2, h3, h4, h5, h6⟩ | ⟨h1, h2, h3, h4, h5, h6⟩
    | ⟨h1, h2, h3, h4, h5, h6⟩ | ⟨h1, h2, h3, h4, h5, h6⟩
  all_goals
    simp only [put, h1, h2, h3, h4, h5, h6, if_true, if_false]
    unfold first at h1
    unfold cc0_inproj
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9
    sl_exec (disch := first | sl_exact h1 | sl_exact h2 | sl_exact h3 | sl_exact h4 | sl_exact h5 | sl_exact h6)
    sl_step
    iapply Hk
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      first
        | with_reducible exact hf4
        | refine holds_stored _ _ _ _ _ ?_ _
          refine prod_of ?_ (load_full harg3 _ _)
          first
            | have hA : _ = 1#1 := h1
              exact load_stored _ _ _ _ _ _ (kept_of (load_full harg2 _ _)) _
            | exact load_full harg9 _ _
    isplitl [H5]
    · iexists _; isplitr
      swap; · iexact H5
      ipureintro
      first
        | with_reducible exact hf5
        | exact holds_stored _ _ _ _ _ (scaled_of (prod_of (load_full harg9 _ _) (load_full harg3 _ _))) _
    isplitl [H6]
    · iexists _; isplitr
      swap; · iexact H6
      ipureintro
      first
        | with_reducible exact hf6
        | exact holds_stored _ _ _ _ _ (prod_of (load_full harg9 _ _) (load_full harg3 _ _)) _
    isplitl [H7]
    · iexists _; isplitr
      swap; · iexact H7
      ipureintro
      first
        | with_reducible exact hf7
        | exact holds_stored _ _ _ _ _ (prod_of (load_full harg9 _ _) (load_full harg3 _ _)) _
    isplitl [H8]
    · iexists _; isplitr
      swap; · iexact H8
      ipureintro
      first
        | with_reducible exact hf8
        | exact holds_stored _ _ _ _ _ (prod_of (load_full harg9 _ _) (load_full harg3 _ _)) _
    iexists _; isplitr
    swap; · iexact H9
    ipureintro
    first
      | with_reducible exact hf9
      | exact holds_stored _ _ _ _ _ (kept_of (load_full harg2 _ _)) _

end Cert.InprojIdeal.Hand

end
-- ==== Proof.InFrame.lean ====
/-
  The frame of the input projection: what every buffer holds after every step, and the run of the whole call.
-/
module

public import proofs.«01_k».proof.Proof.InRun

@[expose] public section

set_option maxRecDepth 16384

noncomputable section

namespace Cert.InprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InprojIdeal.Gen Cert.Hand.Blocks

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: eleven steps to a row block, each of which writes one output -/

theorem N_mod : cfg0.N % 11 = 0 := by rw [show cfg0.N = 176 from N_0]

instance (i : grid0.Coords) : Decidable (Kind6 i) := by unfold Kind6; infer_instance

theorem kind6 : ∀ t : Fin cfg0.N, Kind6 (grid0.coords t) :=
  (by decide +kernel : ∀ t : Fin grid0.N, Kind6 (grid0.coords t))

theorem first_iff : ∀ t : Fin cfg0.N, first (grid0.coords t) = 1#1 ↔ t.val % 11 = 0 :=
  (by decide +kernel : ∀ t : Fin grid0.N, _)

theorem cond2_iff : ∀ t : Fin cfg0.N, k0_cond2 (grid0.coords t) = 1#1 ↔ 0 ≤ t.val % 11 ∧ t.val % 11 ≤ 1 :=
  (by decide +kernel : ∀ t : Fin grid0.N, _)
theorem cond3_iff : ∀ t : Fin cfg0.N, k0_cond3 (grid0.coords t) = 1#1 ↔ 2 ≤ t.val % 11 ∧ t.val % 11 ≤ 3 :=
  (by decide +kernel : ∀ t : Fin grid0.N, _)
theorem cond4_iff : ∀ t : Fin cfg0.N, k0_cond4 (grid0.coords t) = 1#1 ↔ 4 ≤ t.val % 11 ∧ t.val % 11 ≤ 5 :=
  (by decide +kernel : ∀ t : Fin grid0.N, _)
theorem cond5_iff : ∀ t : Fin cfg0.N, k0_cond5 (grid0.coords t) = 1#1 ↔ 6 ≤ t.val % 11 ∧ t.val % 11 ≤ 7 :=
  (by decide +kernel : ∀ t : Fin grid0.N, _)
theorem cond6_iff : ∀ t : Fin cfg0.N, k0_cond6 (grid0.coords t) = 1#1 ↔ 8 ≤ t.val % 11 ∧ t.val % 11 ≤ 10 :=
  (by decide +kernel : ∀ t : Fin grid0.N, _)

theorem sched2 : Sched cfg0 2 0 1 :=
  ⟨rfl, fun _ _ => rfl, (by decide +kernel : ∀ t : Fin grid0.N, _), (by decide +kernel : ∀ t : Fin grid0.N, _),
    (by decide +kernel : ∀ t : Fin grid0.N, _)⟩
theorem sched3 : Sched cfg0 3 2 3 :=
  ⟨rfl, fun _ _ => rfl, (by decide +kernel : ∀ t : Fin grid0.N, _), (by decide +kernel : ∀ t : Fin grid0.N, _),
    (by decide +kernel : ∀ t : Fin grid0.N, _)⟩
theorem sched4 : Sched cfg0 4 4 5 :=
  ⟨rfl, fun _ _ => rfl, (by decide +kernel : ∀ t : Fin grid0.N, _), (by decide +kernel : ∀ t : Fin grid0.N, _),
    (by decide +kernel : ∀ t : Fin grid0.N, _)⟩
theorem sched5 : Sched cfg0 5 6 7 :=
  ⟨rfl, fun _ _ => rfl, (by decide +kernel : ∀ t : Fin grid0.N, _), (by decide +kernel : ∀ t : Fin grid0.N, _),
    (by decide +kernel : ∀ t : Fin grid0.N, _)⟩
theorem sched6 : Sched cfg0 6 8 10 :=
  ⟨rfl, fun _ _ => rfl, (by decide +kernel : ∀ t : Fin grid0.N, _), (by decide +kernel : ∀ t : Fin grid0.N, _),
    (by decide +kernel : ∀ t : Fin grid0.N, _)⟩

/-! ## What the buffers hold -/

/-- The kept rows' buffer. -/
abbrev scM : Memref sig .tc .vmem S512x2048 .bf16 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The rows kept at step `t`, as a function of the step's block of `x`. -/
def rows (c : Dev nD) (t : Fin cfg0.N) : Vec F S512x2048 .bf16 := kept (iblk m c 0 t)

/-- The product made at step `t`. -/
def made (c : Dev nD) (t : Fin cfg0.N) : Vec F S512x512 .f32 := prod (rows m c t) (iblk m c 1 t)

/-- After step `t` each input's buffer holds its block, and each output's what the nearest step that writes it made. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => made m c (near N_mod 0 1 t)
    | ⟨3, _⟩ => scaled (made m c (near N_mod 2 3 t))
    | ⟨4, _⟩ => made m c (near N_mod 4 5 t)
    | ⟨5, _⟩ => made m c (near N_mod 6 7 t)
    | ⟨6, _⟩ => made m c (near N_mod 8 10 t)
  Φ t := Held c (Pipeline.ΦA spec0 c) scM (rows m c) t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = made m c (near N_mod 0 1 t) := by dsimp only [dats]
theorem after_3 (c : Dev nD) (t : Fin cfg0.N) : (dats m 0 c).after 3 t = scaled (made m c (near N_mod 2 3 t)) := by dsimp only [dats]
theorem after_4 (c : Dev nD) (t : Fin cfg0.N) : (dats m 0 c).after 4 t = made m c (near N_mod 4 5 t) := by dsimp only [dats]
theorem after_5 (c : Dev nD) (t : Fin cfg0.N) : (dats m 0 c).after 5 t = made m c (near N_mod 6 7 t) := by dsimp only [dats]
theorem after_6 (c : Dev nD) (t : Fin cfg0.N) : (dats m 0 c).after 6 t = made m c (near N_mod 8 10 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Within a row block the block of `x` does not change. -/
theorem rows_pred (c : Dev nD) (t : Fin cfg0.N) (h : t.val % 11 ≠ 0) :
    rows m c t = rows m c ⟨t.val - 1, Nat.lt_of_le_of_lt (Nat.sub_le _ _) t.isLt⟩ := by
  exact congrArg kept (same_block (dats m 0 c) 0 rfl (fun _ _ => rfl) (iblk m c 0)
    (fun t d => by unfold Dat.fetched Dat.blockOf iblk; rw [A_eq]; rfl) t (by rw [← Bool.not_eq_true, fetch0_0 t]; exact h))

/-! ## One step's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- Before a step, the kept rows are this step's, unless the step is the first of its row block. -/
theorem Phi_pre (c : Dev nD) (t : Fin cfg0.N) :
    (dats m 0 c).Φ t.castSucc ⊢ iprop((∃ s, ⌜put (first (grid0.coords t)) (rows m c t) s = rows m c t⌝ ∗ owns (c : Thread nD τ) scM fullShare s)
      ∗ (∃ r, prngReg c r)) := by
  rw [show (dats m 0 c).Φ t.castSucc = Held c (Pipeline.ΦA spec0 c) scM (rows m c) t.val (Nat.le_of_lt t.isLt) from by
    dsimp only [dats]; exact Pipeline.Dat.Φ_castSucc (Held c (Pipeline.ΦA spec0 c) scM (rows m c)) t]
  exact held_pre c (fun t => first (grid0.coords t)) (by rw [PhiA_eq]) first_iff (rows_pred m c) t

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = iprop(owns (c : Thread nD τ) scM fullShare (rows m c t) ∗ (∃ r, prngReg c r)) from rfl]
  rw [show (dats m 0 c).leavesExact 0 t = owns (c : Thread nD τ) (st0_0 t) fullShare (iblk m c 0 t) from by
    rw [← after_0]]
  rw [show (dats m 0 c).leavesExact 1 t = owns (c : Thread nD τ) (st0_1 t) fullShare (iblk m c 1 t) from by
    rw [← after_1]]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (Phi_pre m c t) $$ HΦ
  icases HΦ' with ⟨⟨%s, %hs, HS⟩, Hg⟩
  have hp : prod (put (first (grid0.coords t)) (kept (iblk m c 0 t)) s) (iblk m c 1 t) = made m c t := congrArg (fun r => prod r (iblk m c 1 t)) hs
  iapply (step c (grid0.coords t) _ _ _ _ _ _ _ _ _ _ _ _ _ _ _ _ (iblk m c 0 t) (iblk m c 1 t) _ _ _ _ _ s (kind6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  rw [hp, show put (first (grid0.coords t)) (kept (iblk m c 0 t)) s = rows m c t from hs]
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]
  · iapply (leaves_near (dats m 0 c) sched2 N_mod (made m c) (after_2 m c) t (cond2_iff t) d2)
    iexact H2
  isplitl [H3]
  · iapply (leaves_near (dats m 0 c) sched3 N_mod (fun t => scaled (made m c t)) (after_3 m c) t (cond3_iff t) d3)
    iexact H3
  isplitl [H4]
  · iapply (leaves_near (dats m 0 c) sched4 N_mod (made m c) (after_4 m c) t (cond4_iff t) d4)
    iexact H4
  isplitl [H5]
  · iapply (leaves_near (dats m 0 c) sched5 N_mod (made m c) (after_5 m c) t (cond5_iff t) d5)
    iexact H5
  iapply (leaves_near (dats m 0 c) sched6 N_mod (made m c) (after_6 m c) t (cond6_iff t) d6)
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The call -/

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = Held c (Pipeline.ΦA spec0 c) scM (rows m c) 176 (le_of_eq N_0.symm) from rfl]
  exact held_post c (by rw [PhiA_eq]) 175 _

set_option backward.isDefEq.respectTransparency.types false in
/-- The whole call ends with every array at what the steps left in it, and no semaphore raised. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame of the call: its arguments end as they began, and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.InprojIdeal.Hand

end
-- ==== Proof.InTwin.lean ====
/-
  The frame of the input projection as printed for its own formats: it is the same program, so it has the same frame.
-/
module

public import proofs.«01_k».proof.Proof.InFrame
public import proofs.«01_k».proof.Proof.Gen.Inproj.Frame

@[expose] public section

set_option maxRecDepth 16384

noncomputable section

namespace Cert.Inproj.Hand

open Idealize.ShloMosaic Idealize.ShloMosaic.TcCoe Idealize.SL.Sem
open Cert.Inproj.Gen

variable {F : FTy → Type} [FloatOps F]

/-- The two printed kernel bodies are one function. -/
theorem bodies_eq : (Cert.Inproj.defs₀ (F := F)) = Cert.InprojIdeal.defs₀ (F := F) := by
  unfold Cert.Inproj.defs₀ Cert.InprojIdeal.defs₀
  refine congrArg Defs.onTc (funext fun l => ?_)
  match l with
  | ⟨0, _⟩ => rfl

/-- So are the two tables of everything they call. -/
theorem defs_eq : (Cert.Inproj.defs (F := F)) = Cert.InprojIdeal.defs (F := F) :=
  congrArg (Pipeline.defs (Cert.InprojIdeal.pcfgs (F := F))) bodies_eq

/-- The frame of the call: its arguments end as they began, and no semaphore raised. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.InprojIdeal.Hand.frame m ρ

end Cert.Inproj.Hand

end
-- ==== Proof.InCols.lean ====
/-
  The input projection as a function of rows and the weight, for any number of rows, and the products of its steps as entries of it.
-/
module

public import proofs.«01_k».proof.Proof.Scalars
public import proofs.«01_k».proof.Proof.InShared

@[expose] public section

noncomputable section

open Idealize.ShloMosaic

namespace Cert.Hand.Columns

open Cert.Hand.Blocks

/-- One entry: row `n` with column `l` of the layer's weight. -/
def entry {R : ℕ} (row : Fin R → Fin 2048 → EReal) (w : FVec Ideal ⟨3, ![2, 2048, 5632]⟩ .f32) (n : Fin R) (l : Fin 5632) : EReal :=
  ∑ k : Fin 2048, row n k * w (ix3 0 k l)

/-- The 1024 columns from `lo` on. -/
def cols {R : ℕ} (lo : ℕ) (h : lo ≤ 4608) (row : Fin R → Fin 2048 → EReal) (w : FVec Ideal ⟨3, ![2, 2048, 5632]⟩ .f32) :
    FVec Ideal ⟨2, ![R, 1024]⟩ .f32 := fun i =>
  entry row w (i 0) ⟨lo + (i 1).val, by have := (i 1).isLt; change _ < 1024 at this; omega⟩

/-- The 1024 columns from 1024 on, scaled. -/
def queries {R : ℕ} (row : Fin R → Fin 2048 → EReal) (w : FVec Ideal ⟨3, ![2, 2048, 5632]⟩ .f32) : FVec Ideal ⟨2, ![R, 1024]⟩ .bf16 :=
  fun i => cols 1024 (by omega) row w i * Ideal.ofBits .f32 0x3DB504F3#32

/-- The last 1536 columns. -/
def rest {R : ℕ} (row : Fin R → Fin 2048 → EReal) (w : FVec Ideal ⟨3, ![2, 2048, 5632]⟩ .f32) : FVec Ideal ⟨2, ![R, 1536]⟩ .f32 :=
  fun i => entry row w (i 0) ⟨4096 + (i 1).val, by have := (i 1).isLt; change _ < 1536 at this; omega⟩

/-- Row `n` of an array of the sample: its one token. -/
def tokens {R W : ℕ} (x : FVec Ideal ⟨3, ![R, 1, W]⟩ .f32) (n : Fin R) (k : Fin W) : EReal := x (ix3 n 0 k)

/-- If every step makes the entries of its rows and columns, the step nearest to another, between the steps `lo` and `hi`, makes the
    entries of that one's rows and of the columns it writes. -/
theorem near_entry {N R h : ℕ} (hN : N % 11 = 0) (made : Fin N → FVec Ideal ⟨2, ![h, 512]⟩ .f32) (row : Fin R → Fin 2048 → EReal)
    (w : FVec Ideal ⟨3, ![2, 2048, 5632]⟩ .f32)
    (hm : ∀ (t : Fin N) (r : Fin h) (q : Fin 512) (n : Fin R) (l : Fin 5632), n.val = t.val / 11 * h + r.val →
      l.val = t.val % 11 * 512 + q.val → made t (ix2 r q) = entry row w n l)
    (lo hi : ℕ) (hh : lo ≤ hi) (h10 : hi ≤ 10) (t : Fin N) (r : Fin h) (q : Fin 512) (n : Fin R) (l : Fin 5632)
    (hn : n.val = t.val / 11 * h + r.val) (hl : l.val = lo * 512 + (min (hi - lo) (t.val % 11 - lo) * 512 + q.val)) :
    made (near hN lo hi t) (ix2 r q) = entry row w n l := by
  have ev : (near hN lo hi t).val = t.val / 11 * 11 + min 10 (max lo (min hi (t.val % 11))) := rfl
  refine hm _ r q n l ?_ (by rw [ev]; omega)
  rw [ev, show (t.val / 11 * 11 + min 10 (max lo (min hi (t.val % 11)))) / 11 = t.val / 11 by omega]
  exact hn

end Cert.Hand.Columns

end
-- ==== Proof.InFun.lean ====
/-
  The input projection as a function of the activations and the weight.
-/
module

public import proofs.«01_k».proof.Proof.Gen.InprojIdeal
public import proofs.«01_k».proof.Proof.InCols

@[expose] public section

set_option maxRecDepth 16384

noncomputable section

open Idealize.ShloMosaic Idealize.ShloMosaic.TcCoe Idealize.SL.Sem

namespace Cert.InprojIdeal.Hand

open Cert.InprojIdeal Cert.InprojIdeal.Gen Cert.Hand

/-- Row `n` of the activations, the batch's sequences laid end to end. -/
def seqs (x : FVec Ideal S2x4096x2048 .f32) (n : Fin 8192) (k : Fin 2048) : EReal :=
  x (ix3 ⟨n.val / 4096, by omega⟩ ⟨n.val % 4096, by omega⟩ k)

end Cert.InprojIdeal.Hand

end
-- ==== Proof.InStep.lean ====
/-
  The input projection: the five arrays it writes, read at an index.
-/
module

public import proofs.«01_k».proof.Proof.InFun
public import proofs.«01_k».proof.Proof.InFrame
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.InprojIdeal.Hand

open Cert.InprojIdeal Cert.InprojIdeal.Gen Cert.Hand Cert.Hand.Blocks Cert.Hand.Columns

variable (m : (ℓ : Loc nD τ sig) → Buf (Elt Ideal) ℓ)

theorem idx : ∀ t : Fin cfg0.N, win0_0.index t = ![t.val / 11, 0] ∧ win0_1.index t = ![0, 0, t.val % 11]
    ∧ win0_2.index t = ![t.val / 11, min 1 (t.val % 11)] ∧ win0_3.index t = ![t.val / 11, min 1 (t.val % 11 - 2)]
    ∧ win0_4.index t = ![t.val / 11, min 1 (t.val % 11 - 4)] ∧ win0_5.index t = ![t.val / 11, min 1 (t.val % 11 - 6)]
    ∧ win0_6.index t = ![t.val / 11, min 2 (t.val % 11 - 8)] ∧ t.val < 176 :=
  (by decide +kernel : ∀ t : Fin grid0.N, _)

/-- The activations' rows, as the region finds them. -/
theorem V0 (c : Dev nD) : V m c main_v0 = shapeCast S8192x2048 (m ((c : Thread nD τ).loc main_arg0)) shapeCasts_S2x4096x2048_S8192x2048 := by
  simp only [V, hostOps0, List.flatten_cons, List.flatten_nil, List.append_nil,
    List.cons_append, List.nil_append]
  entry_read
  rfl

/-- The activations' row `n`, the sequences laid end to end. -/
theorem flat_at (v : FVec Ideal S2x4096x2048 .f32) (n : Fin 8192) (k : Fin 2048) :
    shapeCast S8192x2048 v shapeCasts_S2x4096x2048_S8192x2048 (ix2 n k) = v (ix3 ⟨n.val / 4096, by omega⟩ ⟨n.val % 4096, by omega⟩ k) := by
  pointwise

theorem blk0 (c : Dev nD) (t : Fin cfg0.N) (r : Fin 512) (k : Fin 2048) (n : Fin 8192) (hn : n.val = t.val / 11 * 512 + r.val) :
    iblk m c 0 t (ix2 r k) = m ((c : Thread nD τ).loc main_arg0) (ix3 ⟨n.val / 4096, by omega⟩ ⟨n.val % 4096, by omega⟩ k) := by
  have e : (win0_0.blk t).view.emb (ix2 r k) = ix2 n k := by
    blk_ext [idx t]
  refine (congrFun (V0 m c) ((win0_0.blk t).view.emb (ix2 r k))).trans ?_
  rw [e]
  exact flat_at _ n k

theorem blk1 (c : Dev nD) (t : Fin cfg0.N) (k : Fin 2048) (q : Fin 512) (l : Fin 5632) (hl : l.val = t.val % 11 * 512 + q.val) :
    iblk m c 1 t (ix3 0 k q) = m ((c : Thread nD τ).loc main_arg1) (ix3 0 k l) := by
  blk_point [iblk, V, idx t]

theorem kept_at (x : Vec Ideal S512x2048 .f32) (p : Fin 512) (k : Fin 2048) : kept x (ix2 p k) = x (ix2 p k) := by
  unfold kept
  pointwise

theorem prod_at (s : Vec Ideal S512x2048 .bf16) (w : Vec Ideal S1x2048x512 .f32) (p q : Fin 512) :
    prod s w (ix2 p q) = ∑ k : Fin 2048, s (ix2 p k) * w (ix3 0 k q) := by
  unfold prod
  pointwise

theorem scaled_at (v : Vec Ideal S512x512 .f32) (i : S512x512.Idx) : scaled v i = v i * Ideal.ofBits .f32 0x3DB504F3#32 := by
  unfold scaled
  pointwise

/-- A step's product holds the entries of its rows and columns. -/
theorem made_at (c : Dev nD) (t : Fin cfg0.N) (r q : Fin 512) (n : Fin 8192) (l : Fin 5632)
    (hn : n.val = t.val / 11 * 512 + r.val) (hl : l.val = t.val % 11 * 512 + q.val) :
    made m c t (ix2 r q) = entry (seqs (m ((c : Thread nD τ).loc main_arg0))) (m ((c : Thread nD τ).loc main_arg1)) n l := by
  unfold made rows entry seqs
  rw [prod_at]
  refine Finset.sum_congr rfl fun k _ => ?_
  rw [kept_at, blk0 m c t r k n hn, blk1 m c t k q l hl]

/-- The first 1024 columns. -/
theorem final2 (c : Dev nD) : (dats m 0 c).arrAt 2 cfg0.N
    = cols 0 (by omega) (seqs (m ((c : Thread nD τ).loc main_arg0))) (m ((c : Thread nD τ).loc main_arg1)) := by
  refine (dats m 0 c).arrAt_eq_of_covers 2 _ (by decide +kernel) fun t hf y => ?_
  idx_vars y
  blk_simp
  rw [after_2]
  exact near_entry N_mod (made m c) _ _ (made_at m c) 0 1 (by omega) (by omega) t y0 y1 _ _ (by blk_simp [idx t]) (by blk_simp [idx t]; rfl)

/-- The next 1024, scaled. -/
theorem final3 (c : Dev nD) : (dats m 0 c).arrAt 3 cfg0.N
    = queries (seqs (m ((c : Thread nD τ).loc main_arg0))) (m ((c : Thread nD τ).loc main_arg1)) := by
  refine (dats m 0 c).arrAt_eq_of_covers 3 _ (by decide +kernel) fun t hf y => ?_
  idx_vars y
  blk_simp
  rw [after_3]
  refine (scaled_at _ _).trans (congrArg (· * _) ?_)
  exact near_entry N_mod (made m c) _ _ (made_at m c) 2 3 (by omega) (by omega) t y0 y1 _ _ (by blk_simp [idx t]) (by blk_simp [idx t])

/-- The next 1024. -/
theorem final4 (c : Dev nD) : (dats m 0 c).arrAt 4 cfg0.N
    = cols 2048 (by omega) (seqs (m ((c : Thread nD τ).loc main_arg0))) (m ((c : Thread nD τ).loc main_arg1)) := by
  refine (dats m 0 c).arrAt_eq_of_covers 4 _ (by decide +kernel) fun t hf y => ?_
  idx_vars y
  blk_simp
  rw [after_4]
  exact near_entry N_mod (made m c) _ _ (made_at m c) 4 5 (by omega) (by omega) t y0 y1 _ _ (by blk_simp [idx t]) (by blk_simp [idx t])

/-- The next 1024. -/
theorem final5 (c : Dev nD) : (dats m 0 c).arrAt 5 cfg0.N
    = cols 3072 (by omega) (seqs (m ((c : Thread nD τ).loc main_arg0))) (m ((c : Thread nD τ).loc main_arg1)) := by
  refine (dats m 0 c).arrAt_eq_of_covers 5 _ (by decide +kernel) fun t hf y => ?_
  idx_vars y
  blk_simp
  rw [after_5]
  exact near_entry N_mod (made m c) _ _ (made_at m c) 6 7 (by omega) (by omega) t y0 y1 _ _ (by blk_simp [idx t]) (by blk_simp [idx t])

/-- The last 1536. -/
theorem final6 (c : Dev nD) : (dats m 0 c).arrAt 6 cfg0.N
    = rest (seqs (m ((c : Thread nD τ).loc main_arg0))) (m ((c : Thread nD τ).loc main_arg1)) := by
  refine (dats m 0 c).arrAt_eq_of_covers 6 _ (by decide +kernel) fun t hf y => ?_
  idx_vars y
  blk_simp
  rw [after_6]
  exact near_entry N_mod (made m c) _ _ (made_at m c) 8 10 (by omega) (by omega) t y0 y1 _ _ (by blk_simp [idx t]) (by blk_simp [idx t])

end Cert.InprojIdeal.Hand

end
-- ==== Proof.InRef.lean ====
/-
  The input projection's reference: each result of its run read at an index.
-/
module

public import proofs.«01_k».proof.Proof.InFun
public import proofs.«01_k».proof.Proof.Gen.InprojReferenceIdeal.Run
public import Idealize.ShloMosaic.Lib.Tactic.CleanTypes

@[expose] public section

set_option maxRecDepth 16384

noncomputable section

open Idealize.ShloMosaic Idealize.ShloMosaic.TcCoe Idealize.SL.Sem

namespace Cert.InprojReferenceIdeal.Hand

open Cert.InprojReferenceIdeal Cert.InprojReferenceIdeal.Gen Cert.Hand
open Cert.InprojIdeal.Hand (seqs)
open Cert.Hand.Columns (entry cols queries rest)

/-- The activations times the layer's weight, before the columns are split. -/
def whole (x : FVec Ideal S2x4096x2048 .f32) (w : FVec Ideal S2x2048x5632 .f32) : FVec Ideal S2x4096x5632 .f32 :=
  Host.dotGeneral (φ₁ := .f32) (φ₂ := .f32) dot_S2x4096x2048_S2048x5632_S2x4096x5632_2_0_01_1_n_n none x
    (shapeCast S2048x5632 (extractStridedSlice S1x2048x5632 ![0, 0, 0] w slices_S2x2048x5632_S1x2048x5632_0_0_0)
      shapeCasts_S1x2048x5632_S2048x5632)

/-- Row `n` of a product, the batch's sequences laid end to end. -/
def rowOf (P : FVec Ideal S2x4096x5632 .f32) (n : Fin 8192) (l : Fin 5632) : EReal :=
  P (ix3 ⟨n.val / 4096, by omega⟩ ⟨n.val % 4096, by omega⟩ l)

theorem whole_at (x : FVec Ideal S2x4096x2048 .f32) (w : FVec Ideal S2x2048x5632 .f32) (n : Fin 8192) (l : Fin 5632) :
    rowOf (whole x w) n l = entry (seqs x) w n l := by
  unfold rowOf whole entry seqs
  pointwise

theorem rowOf_congr (P : FVec Ideal S2x4096x5632 .f32) (n : Fin 8192) {a b : Fin 5632} (h : a.val = b.val) :
    P (ix3 ⟨n.val / 4096, by omega⟩ ⟨n.val % 4096, by omega⟩ a) = rowOf P n b := by
  rw [Fin.ext h]; rfl

/-- The two groups of 512 columns, joined. -/
theorem pair_eq (x : FVec Ideal S2x4096x2048 .f32) (w : FVec Ideal S2x2048x5632 .f32) :
    shapeCast S8192x1024 (concatenate S2x4096x1024 2
      [⟨S2x4096x512, extractStridedSlice S2x4096x512 ![0, 0, 0] (whole x w) slices_S2x4096x5632_S2x4096x512_0_0_0⟩,
       ⟨S2x4096x512, extractStridedSlice S2x4096x512 ![0, 0, 512] (whole x w) slices_S2x4096x5632_S2x4096x512_0_0_512⟩]
      concatenates_S2x4096x512_S2x4096x512_S2x4096x1024_d2) shapeCasts_S2x4096x1024_S8192x1024 = cols 0 (by omega) (seqs x) w := by
  funext i
  idx_vars i
  refine Eq.trans ?_ (whole_at x w i0 _)
  generalize whole x w = P
  pointwise
  split
  · exact rowOf_congr P i0 rfl
  · exact rowOf_congr P i0 (by simp only []; omega)

/-- The scaled group. -/
theorem queries_eq (x : FVec Ideal S2x4096x2048 .f32) (w : FVec Ideal S2x2048x5632 .f32) :
    truncf .bf16 (shapeCast S8192x1024 (mulf (extractStridedSlice S2x4096x1024 ![0, 0, 1024] (whole x w)
        slices_S2x4096x5632_S2x4096x1024_0_0_1024)
      (broadcastInDim S2x4096x1024 ![] bcast_S_S2x4096x1024 (constant (F := Ideal) S_ .f32 0x3DB504F3#32)) :
        FVec Ideal S2x4096x1024 .f32) shapeCasts_S2x4096x1024_S8192x1024 : FVec Ideal S8192x1024 .f32) bitsLt_bf16_f32
    = queries (seqs x) w := by
  funext i
  idx_vars i
  refine Eq.trans ?_ (congrArg (· * Ideal.ofBits .f32 0x3DB504F3#32) (whole_at x w i0 _))
  generalize whole x w = P
  pointwise
  exact congrArg (· * _) (rowOf_congr P i0 rfl)

/-- The third group. -/
theorem third_eq (x : FVec Ideal S2x4096x2048 .f32) (w : FVec Ideal S2x2048x5632 .f32) :
    shapeCast S8192x1024 (extractStridedSlice S2x4096x1024 ![0, 0, 2048] (whole x w) slices_S2x4096x5632_S2x4096x1024_0_0_2048)
      shapeCasts_S2x4096x1024_S8192x1024 = cols 2048 (by omega) (seqs x) w := by
  funext i
  idx_vars i
  refine Eq.trans ?_ (whole_at x w i0 _)
  generalize whole x w = P
  pointwise
  exact rowOf_congr P i0 rfl

/-- The fourth group. -/
theorem fourth_eq (x : FVec Ideal S2x4096x2048 .f32) (w : FVec Ideal S2x2048x5632 .f32) :
    shapeCast S8192x1024 (extractStridedSlice S2x4096x1024 ![0, 0, 3072] (whole x w) slices_S2x4096x5632_S2x4096x1024_0_0_3072)
      shapeCasts_S2x4096x1024_S8192x1024 = cols 3072 (by omega) (seqs x) w := by
  funext i
  idx_vars i
  refine Eq.trans ?_ (whole_at x w i0 _)
  generalize whole x w = P
  pointwise
  exact rowOf_congr P i0 rfl

/-- The last three groups of 512 columns, joined. -/
theorem rest_eq (x : FVec Ideal S2x4096x2048 .f32) (w : FVec Ideal S2x2048x5632 .f32) :
    shapeCast S8192x1536 (concatenate S2x4096x1536 2
      [⟨S2x4096x512, extractStridedSlice S2x4096x512 ![0, 0, 4096] (whole x w) slices_S2x4096x5632_S2x4096x512_0_0_4096⟩,
       ⟨S2x4096x512, extractStridedSlice S2x4096x512 ![0, 0, 4608] (whole x w) slices_S2x4096x5632_S2x4096x512_0_0_4608⟩,
       ⟨S2x4096x512, extractStridedSlice S2x4096x512 ![0, 0, 5120] (whole x w) slices_S2x4096x5632_S2x4096x512_0_0_5120⟩]
      concatenates_S2x4096x512_S2x4096x512_S2x4096x512_S2x4096x1536_d2) shapeCasts_S2x4096x1536_S8192x1536 = rest (seqs x) w := by
  funext i
  idx_vars i
  refine Eq.trans ?_ (whole_at x w i0 _)
  generalize whole x w = P
  pointwise
  split
  · exact rowOf_congr P i0 rfl
  · split
    · exact rowOf_congr P i0 (by simp only []; omega)
    · exact rowOf_congr P i0 (by simp only []; omega)

/-- The reference's run: each result is the function of the two arguments it computes, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = cols 0 (by omega) (seqs (m ((c.tc : Thread nD τ).loc main_arg0))) (m ((c.tc : Thread nD τ).loc main_arg1))
      ∧ r.2.mem ((c.tc : Thread nD τ).loc main_v16) = queries (seqs (m ((c.tc : Thread nD τ).loc main_arg0))) (m ((c.tc : Thread nD τ).loc main_arg1))
      ∧ r.2.mem ((c.tc : Thread nD τ).loc main_v17) = cols 2048 (by omega) (seqs (m ((c.tc : Thread nD τ).loc main_arg0))) (m ((c.tc : Thread nD τ).loc main_arg1))
      ∧ r.2.mem ((c.tc : Thread nD τ).loc main_v18) = cols 3072 (by omega) (seqs (m ((c.tc : Thread nD τ).loc main_arg0))) (m ((c.tc : Thread nD τ).loc main_arg1))
      ∧ r.2.mem ((c.tc : Thread nD τ).loc main_v20) = rest (seqs (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h12, h16, h17, h18, h20, h0, h1⟩ := h c
    exact ⟨h12.trans (pair_eq _ _), h16.trans (queries_eq _ _), h17.trans (third_eq _ _), h18.trans (fourth_eq _ _),
      h20.trans (rest_eq _ _), h0, h1⟩) (Value.run (F := Ideal) m ρ)

end Cert.InprojReferenceIdeal.Hand

end
-- ==== Proof.InClaim.lean ====
/-
  The input projection against its reference: both runs, and the equations of their results.
-/
module

public import proofs.«01_k».proof.Defs
public import proofs.«01_k».proof.Proof.InStep
public import proofs.«01_k».proof.Proof.InRef
public import proofs.«01_k».proof.Proof.Gen.InprojIdeal
public import Idealize.ShloMosaic.Lib.Quiescent

@[expose] public section

noncomputable section

open Idealize.ShloMosaic Idealize.ShloMosaic.TcCoe Idealize.SL.Sem

namespace Cert.Proof.In

open Cert.InprojIdeal.Hand (seqs)
open Cert.Hand.Columns (cols queries rest)

/-- The reference terminates and leaves its arguments; it declares no semaphore. -/
theorem frame_ref : Cert.quiescent_InprojReferenceIdeal (hInprojReferenceIdeal := Cert.InprojReferenceIdeal.Gen.facts) := fun m ρ _ =>
  (θ_run Cert.InprojReferenceIdeal.defs _ _).mono
    (fun r h => ⟨fun c => (h c).2.2.2.2.2, sem_eq_zero_of_no_sems (by decide) r.2⟩)
    (Cert.InprojReferenceIdeal.Hand.run m ρ)

/-- The kernel's run: each result is the function of the two arguments it computes. -/
theorem run_kernel (m : (ℓ : Loc Cert.InprojIdeal.nD Cert.InprojIdeal.τ Cert.InprojIdeal.sig) → Buf (Elt Ideal) ℓ)
    (ρ : Dev Cert.InprojIdeal.nD → PrngReg) :
    θ_run (Cert.InprojIdeal.defs (F := Ideal)) (onTc (τ := Cert.InprojIdeal.τ) (Cert.InprojIdeal.main (F := Ideal))) ⟨m, fun _ => 0, ρ⟩
      fun r => ∀ c : Dev Cert.InprojIdeal.nD,
        r.2.mem ((c.tc : Thread Cert.InprojIdeal.nD Cert.InprojIdeal.τ).loc Cert.InprojIdeal.main_v1_0)
          = cols 0 (by omega) (seqs (m ((c.tc : Thread Cert.InprojIdeal.nD Cert.InprojIdeal.τ).loc Cert.InprojIdeal.main_arg0)))
              (m ((c.tc : Thread Cert.InprojIdeal.nD Cert.InprojIdeal.τ).loc Cert.InprojIdeal.main_arg1))
        ∧ r.2.mem ((c.tc : Thread Cert.InprojIdeal.nD Cert.InprojIdeal.τ).loc Cert.InprojIdeal.main_v1_1)
          = queries (seqs (m ((c.tc : Thread Cert.InprojIdeal.nD Cert.InprojIdeal.τ).loc Cert.InprojIdeal.main_arg0)))
              (m ((c.tc : Thread Cert.InprojIdeal.nD Cert.InprojIdeal.τ).loc Cert.InprojIdeal.main_arg1))
        ∧ r.2.mem ((c.tc : Thread Cert.InprojIdeal.nD Cert.InprojIdeal.τ).loc Cert.InprojIdeal.main_v1_2)
          = cols 2048 (by omega) (seqs (m ((c.tc : Thread Cert.InprojIdeal.nD Cert.InprojIdeal.τ).loc Cert.InprojIdeal.main_arg0)))
              (m ((c.tc : Thread Cert.InprojIdeal.nD Cert.InprojIdeal.τ).loc Cert.InprojIdeal.main_arg1))
        ∧ r.2.mem ((c.tc : Thread Cert.InprojIdeal.nD Cert.InprojIdeal.τ).loc Cert.InprojIdeal.main_v1_3)
          = cols 3072 (by omega) (seqs (m ((c.tc : Thread Cert.InprojIdeal.nD Cert.InprojIdeal.τ).loc Cert.InprojIdeal.main_arg0)))
              (m ((c.tc : Thread Cert.InprojIdeal.nD Cert.InprojIdeal.τ).loc Cert.InprojIdeal.main_arg1))
        ∧ r.2.mem ((c.tc : Thread Cert.InprojIdeal.nD Cert.InprojIdeal.τ).loc Cert.InprojIdeal.main_v1_4)
          = rest (seqs (m ((c.tc : Thread Cert.InprojIdeal.nD Cert.InprojIdeal.τ).loc Cert.InprojIdeal.main_arg0)))
              (m ((c.tc : Thread Cert.InprojIdeal.nD Cert.InprojIdeal.τ).loc Cert.InprojIdeal.main_arg1)) :=
  (θ_run Cert.InprojIdeal.defs _ _).mono
    (fun r h c => ⟨((h c).1 2).trans (Cert.InprojIdeal.Hand.final2 m c), ((h c).1 3).trans (Cert.InprojIdeal.Hand.final3 m c),
      ((h c).1 4).trans (Cert.InprojIdeal.Hand.final4 m c), ((h c).1 5).trans (Cert.InprojIdeal.Hand.final5 m c),
      ((h c).1 6).trans (Cert.InprojIdeal.Hand.final6 m c)⟩)
    (Cert.InprojIdeal.Hand.run_main m ρ)

/-- Kernel and reference end with the same five results. -/
theorem algebraic : Cert.algebraic_InprojIdeal_InprojReferenceIdeal (hInprojIdeal := Cert.InprojIdeal.Gen.facts)
    (hInprojReferenceIdeal := Cert.InprojReferenceIdeal.Gen.facts) := fun m ρ m' ρ' _ hag =>
  ⟨_, _, _, _, _,
    (θ_run Cert.InprojIdeal.defs _ _).mono (fun r h c => ⟨(h.2 c).1, (h.2 c).2.1, (h.2 c).2.2.1, (h.2 c).2.2.2.1, (h.2 c).2.2.2.2,
      (h.1.1 c).1, (h.1.1 c).2⟩) (θ_run_and (Cert.InprojIdeal.Hand.frame m ρ) (run_kernel m ρ)),
    (θ_run Cert.InprojReferenceIdeal.defs _ _).mono (fun r h c => by
      obtain ⟨h12, h16, h17, h18, h20, ha⟩ := h c
      obtain ⟨e0, e1⟩ := hag c
      rw [e0, e1] at h12 h16 h17 h18 h20
      exact ⟨h12, h16, h17, h18, h20, ha⟩) (Cert.InprojReferenceIdeal.Hand.run m' ρ')⟩

end Cert.Proof.In

end
-- ==== Proof.ConvFun.lean ====
/-
  The two causal depthwise convolutions of the layer over the extended reals: a sum of taps, a layer normalisation of
  512 values, and what follows them.
-/
module

public import Idealize.ShloMosaic.Lib.Pipeline.ValueKit

@[expose] public section

noncomputable section

open Idealize.ShloMosaic

namespace Cert.Hand

/-- `f 0`, …, `f (n - 1)`, added one after the other onto `a`. -/
def onto (a : EReal) (f : ℕ → EReal) : ℕ → EReal
  | 0 => a
  | n + 1 => onto a f n + f n

theorem onto_eq (a : EReal) (f : ℕ → EReal) (n : ℕ) : onto a f n = a + onto 0 f n := by
  induction n with
  | zero => exact (add_zero a).symm
  | succ n ih => rw [onto, onto, ih, add_assoc]

/-- The last term may be the one that the others are added onto. -/
theorem onto_last (f : ℕ → EReal) (n : ℕ) : onto (f n) f n = onto 0 f (n + 1) := by
  rw [onto_eq, onto, add_comm]

/-- The first term may be the one that the others are added onto. -/
theorem onto_first (f : ℕ → EReal) (n : ℕ) : onto 0 f (n + 1) = onto (f 0) (fun w => f (w + 1)) n := by
  induction n with
  | zero => exact zero_add _
  | succ n ih => rw [onto, ih]; rfl

/-- A row of `n` values read at any place, and `v` from place `n` on. -/
def upto {n : ℕ} (s : Fin n → EReal) (v : EReal) (w : ℕ) : EReal := if h : w < n then s ⟨w, h⟩ else v

/-- The convolution of one channel: its last `n` values `e`, with the weights `k`. -/
def taps (e k : ℕ → EReal) (n : ℕ) : EReal := onto 0 (fun w => e w * k w) n

/-- The mean of a row of 512 values. -/
def mean512 (h : Fin 512 → EReal) : EReal := Ideal.div (∑ l, h l) (Ideal.ofBits .f32 0x44000000#32)

/-- The layer normalisation of the row `h` at place `j`, with gain `g` and offset `b` there. -/
def norm512 (h : Fin 512 → EReal) (g b : EReal) (j : Fin 512) : EReal :=
  (h j - mean512 h)
      * Ideal.rsqrt (mean512 (fun l => (h l - mean512 h) * (h l - mean512 h)) + Ideal.ofBits .f32 0x3727C5AC#32) * g + b

/-- `x · logistic(x)`. -/
def swish (x : EReal) : EReal := x * Ideal.logistic x

end Cert.Hand
-- ==== Proof.MixsFun.lean ====
/-
  The sample's convolutions: the four results as functions of the call's arguments.
-/
module

public import proofs.«01_k».proof.Proof.ConvFun
public import proofs.«01_k».proof.MixsIdeal

@[expose] public section

noncomputable section

open Idealize.ShloMosaic

namespace Cert.MixsIdeal.Hand

open Cert.MixsIdeal Cert.Hand

/-- The gated value of row `n`, channel `l`: a value times the logistic function of its gate. -/
def glu (x : FVec Ideal S32x1024 .f32) (n : Fin 32) (l : Fin 512) : EReal :=
  x (ix2 n ⟨l.val, by omega⟩) * Ideal.logistic (x (ix2 n ⟨512 + l.val, by omega⟩))

/-- The product of the second and third groups of columns. -/
def pair (y : FVec Ideal S32x1536 .f32) (n : Fin 32) (l : Fin 512) : EReal :=
  y (ix2 n ⟨512 + l.val, by omega⟩) * y (ix2 n ⟨1024 + l.val, by omega⟩)

/-- The long convolution of row `n`, channel `l`: thirty kept values and the new one, with 31 weights, and the offset. -/
def long (s : Fin 30 → Fin 512 → EReal) (v : Fin 512 → EReal) (k : Fin 31 → Fin 512 → EReal) (b : Fin 512 → EReal)
    (l : Fin 512) : EReal :=
  taps (upto (fun w => s w l) (v l)) (upto (fun w => k w l) 0) 31 + b l

/-- The short convolution: two kept values and the new one, with three weights. -/
def short (s : Fin 2 → EReal) (v : EReal) (k : Fin 3 → EReal) : EReal := taps (upto s v) (upto k 0) 3

/-- First result: the long convolution, normalised over the channels, times its logistic function. -/
def conf (x : FVec Ideal S32x1024 .f32) (s : FVec Ideal S2x32x30x512 .f32) (k : FVec Ideal S2x31x512 .f32)
    (b g b' : FVec Ideal S2x512 .f32) : FVec Ideal S32x512 .bf16 := fun i =>
  swish (norm512 (long (fun w l => s (ix4 0 (i 0) w l)) (glu x (i 0)) (fun w l => k (ix3 0 w l)) (fun l => b (ix2 0 l)))
    (g (ix2 0 (i 1))) (b' (ix2 0 (i 1))) (i 1))

/-- Second result: the short convolution, times the first group of columns. -/
def sconf (y : FVec Ideal S32x1536 .f32) (s : FVec Ideal S2x32x2x512 .f32) (k : FVec Ideal S2x3x512 .f32) :
    FVec Ideal S32x512 .bf16 := fun i =>
  y (ix2 (i 0) ⟨(i 1).val, (i 1).isLt.trans (by decide)⟩)
    * short (fun w => s (ix4 0 (i 0) w (i 1))) (pair y (i 0) (i 1)) (fun w => k (ix3 0 w (i 1)))

/-- Third result: the thirty newest values of the long convolution. -/
def kept (x : FVec Ideal S32x1024 .f32) (s : FVec Ideal S2x32x30x512 .f32) : FVec Ideal S30x32x512 .f32 := fun i =>
  upto (fun w => s (ix4 0 (i 1) w (i 2))) (glu x (i 1) (i 2)) ((i 0).val + 1)

/-- Fourth result: the two newest values of the short convolution. -/
def skept (y : FVec Ideal S32x1536 .f32) (s : FVec Ideal S2x32x2x512 .f32) : FVec Ideal S2x32x512 .f32 := fun i =>
  upto (fun w => s (ix4 0 (i 1) w (i 2))) (pair y (i 1) (i 2)) ((i 0).val + 1)

end Cert.MixsIdeal.Hand
-- ==== Proof.MixsStep.lean ====
/-
  The sample's convolutions: what the kernel's one step makes of its blocks, read at an index.
-/
module

public import proofs.«01_k».proof.Proof.Gen.MixsIdeal.Frame
public import proofs.«01_k».proof.Proof.MixsFun
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MixsIdeal.Hand

open Cert.MixsIdeal Cert.MixsIdeal.Gen Cert.Hand

/-- The long convolution as the step adds it up: the new value's term first. -/
theorem long_eq (s : Fin 30 → Fin 512 → EReal) (v : Fin 512 → EReal) (k : Fin 31 → Fin 512 → EReal) (b : Fin 512 → EReal)
    (l : Fin 512) : long s v k b l = onto (v l * k 30 l) (fun w => upto (fun w => s w l) (v l) w * upto (fun w => k w l) 0 w) 30
      + b l := by
  unfold long taps
  rw [← onto_last]
  rfl

/-- The short convolution likewise. -/
theorem short_eq (s : Fin 2 → EReal) (v : EReal) (k : Fin 3 → EReal) :
    short s v k = onto (v * k 2) (fun w => upto s v w * upto k 0 w) 2 := by
  unfold short taps
  rw [← onto_last]
  rfl

/-- The first output. -/
theorem out9_at (x0 : Vec Ideal S32x1024 .f32) (x1 : Vec Ideal S32x1536 .f32) (x2 : Vec Ideal S1x30x32x512 .f32) (x3 : Vec Ideal S1x2x32x512 .f32)
    (x4 : Vec Ideal S1x31x512 .f32) (x5 x6 x7 : Vec Ideal S1x1x512 .f32) (x8 : Vec Ideal S1x3x512 .f32) (y : S32x512.Idx) :
    out0_9 x0 x1 x2 x3 x4 x5 x6 x7 x8 y
      = swish (norm512 (long (fun w l => x2 (ix4 0 w (y 0) l)) (glu x0 (y 0)) (fun w l => x4 (ix3 0 w l)) (fun l => x5 (ix3 0 0 l)))
          (x6 (ix3 0 0 (y 1))) (x7 (ix3 0 0 (y 1))) (y 1)) := by
  rw [funext (long_eq _ _ _ _)]
  unfold out0_9
  frame_out
  idx_vars y
  pointwise [k0_pay5, k0_pay6, k0_pay7, k0_pay8, k0_pay9, k0_pay10, k0_pay11, k0_pay12, k0_pay13, k0_pay14, k0_pay15, k0_pay16, k0_pay17, k0_pay18, k0_pay19]
  rfl

/-- The second output. -/
theorem out10_at (x0 : Vec Ideal S32x1024 .f32) (x1 : Vec Ideal S32x1536 .f32) (x2 : Vec Ideal S1x30x32x512 .f32) (x3 : Vec Ideal S1x2x32x512 .f32)
    (x4 : Vec Ideal S1x31x512 .f32) (x5 x6 x7 : Vec Ideal S1x1x512 .f32) (x8 : Vec Ideal S1x3x512 .f32) (y : S32x512.Idx) :
    out0_10 x0 x1 x2 x3 x4 x5 x6 x7 x8 y
      = x1 (ix2 (y 0) ⟨(y 1).val, (y 1).isLt.trans (by decide)⟩)
          * short (fun w => x3 (ix4 0 w (y 0) (y 1))) (pair x1 (y 0) (y 1)) (fun w => x8 (ix3 0 w (y 1))) := by
  rw [short_eq]
  unfold out0_10
  frame_out
  idx_vars y
  pointwise [k0_pay20, k0_pay21]
  rfl

/-- An output stored in pieces that cover it is what every piece agrees with. -/
theorem pieces_at {s : Shape} (G : Vec Ideal s .f32) (L : List (View.Piece (Elt Ideal) s .f32))
    (h : ∀ p ∈ L, ∀ x : p.1.shape.Idx, p.2 x = G (p.1.emb x)) (y : s.Idx) (hy : ∃ p ∈ L, y ∈ p.1.set) :
    View.canon L y = G y := View.canon_apply_of_pieces G L h y hy

/-- A piece of one row, at its place in the array of `n` rows. -/
theorem row_at {n : ℕ} (G : Vec Ideal ⟨3, ![n, 32, 512]⟩ .f32) (w : ℕ)
    (inb : ∀ a, (![w, 0, 0] : Fin 3 → ℕ) a + S1x32x512.size a ≤ (⟨3, ![n, 32, 512]⟩ : Shape).size a) (hw : w < n) (p : Fin 32) (l : Fin 512) :
    G ((Rect.unit (s := ⟨3, ![n, 32, 512]⟩) ![w, 0, 0] S1x32x512.size inb).emb (ix3 0 p l)) = G (ix3 ⟨w, hw⟩ p l) := by
  refine congrArg G (funext fun a => Fin.ext ?_)
  rw [Rect.emb_apply]
  match a with
  | ⟨0, _⟩ => simp [Rect.unit]
  | ⟨1, _⟩ => simp [Rect.unit]
  | ⟨2, _⟩ => simp [Rect.unit]

/-- The thirty newest values, from the step's blocks. -/
def newest (x0 : Vec Ideal S32x1024 .f32) (x2 : Vec Ideal S1x30x32x512 .f32) : Vec Ideal S30x32x512 .f32 := fun y =>
  upto (fun w => x2 (ix4 0 w (y 1) (y 2))) (glu x0 (y 1) (y 2)) ((y 0).val + 1)

/-- The two newest values, from the step's blocks. -/
def snewest (x1 : Vec Ideal S32x1536 .f32) (x3 : Vec Ideal S1x2x32x512 .f32) : Vec Ideal S2x32x512 .f32 := fun y =>
  upto (fun w => x3 (ix4 0 w (y 1) (y 2))) (pair x1 (y 1) (y 2)) ((y 0).val + 1)

/-- The third output: each of its thirty rows is stored on its own. -/
theorem out11_at (x0 : Vec Ideal S32x1024 .f32) (x1 : Vec Ideal S32x1536 .f32) (x2 : Vec Ideal S1x30x32x512 .f32) (x3 : Vec Ideal S1x2x32x512 .f32)
    (x4 : Vec Ideal S1x31x512 .f32) (x5 x6 x7 : Vec Ideal S1x1x512 .f32) (x8 : Vec Ideal S1x3x512 .f32) (y : S30x32x512.Idx) :
    out0_11 x0 x1 x2 x3 x4 x5 x6 x7 x8 y = newest x0 x2 y := by
  unfold out0_11
  refine pieces_at (newest x0 x2) _ ?_ y ?_
  swap
  · exact cover0_11 _ _ _ _ _ _ _ _ _ _ _ _ _ _ _ _ _ _ _ _ _ _ _ _ _ _ _ _ _ _ y
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro x
    idx_vars x
    obtain rfl : x0 = 0 := Subsingleton.elim _ _
    refine Eq.trans ?_ (row_at (newest _ _) _ _ (by decide) _ _).symm
    pointwise [k0_pay1, k0_pay2, k0_pay5, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51]
    rfl

/-- The fourth output: each of its two rows is stored on its own. -/
theorem out12_at (x0 : Vec Ideal S32x1024 .f32) (x1 : Vec Ideal S32x1536 .f32) (x2 : Vec Ideal S1x30x32x512 .f32) (x3 : Vec Ideal S1x2x32x512 .f32)
    (x4 : Vec Ideal S1x31x512 .f32) (x5 x6 x7 : Vec Ideal S1x1x512 .f32) (x8 : Vec Ideal S1x3x512 .f32) (y : S2x32x512.Idx) :
    out0_12 x0 x1 x2 x3 x4 x5 x6 x7 x8 y = snewest x1 x3 y := by
  unfold out0_12
  refine pieces_at (snewest x1 x3) _ ?_ y ?_
  swap
  · exact cover0_12 _ _ y
  intro p hp
  simp only [List.mem_cons, List.not_mem_nil, or_false] at hp
  rcases hp with rfl | rfl
  all_goals
    intro x
    idx_vars x
    obtain rfl : x0 = 0 := Subsingleton.elim _ _
    refine Eq.trans ?_ (row_at (snewest _ _) _ _ (by decide) _ _).symm
    pointwise [k0_pay3, k0_pay4, k0_pay20]
    rfl

end Cert.MixsIdeal.Hand
-- ==== Proof.MixsEnd.lean ====
/-
  The sample's convolutions: the four arrays the kernel writes, as functions of its arguments.
-/
module

public import proofs.«01_k».proof.Proof.MixsStep
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MixsIdeal.Hand

open Cert.MixsIdeal Cert.MixsIdeal.Gen Cert.Hand

variable (m : (ℓ : Loc nD τ sig) → Buf (Elt Ideal) ℓ)

theorem idx : ∀ t : Fin cfg0.N, win0_0.index t = ![0, 0] ∧ win0_1.index t = ![0, 0] ∧ win0_2.index t = ![0, 0, 0, 0]
    ∧ win0_3.index t = ![0, 0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0] ∧ win0_10.index t = ![0, 0]
    ∧ win0_11.index t = ![0, 0, 0] ∧ win0_12.index t = ![0, 0, 0] ∧ t.val < 1 :=
  (by decide +kernel : ∀ t : Fin grid0.N, _)

/-- The long convolution's kept values, as the region finds it. -/
theorem V_v0 (c : Dev nD) : V m c main_v0 = transpose S2x30x32x512 [0, 2, 1, 3] (m ((c : Thread nD τ).loc main_arg2)) transposes_S2x32x30x512_S2x30x32x512_0_2_1_3 := by
  simp only [V, hostOps0, List.flatten_cons, List.flatten_nil, List.append_nil, List.cons_append, List.nil_append]
  entry_read
  rfl

/-- The short convolution's kept values, as the region finds it. -/
theorem V_v1 (c : Dev nD) : V m c main_v1 = transpose S2x2x32x512 [0, 2, 1, 3] (m ((c : Thread nD τ).loc main_arg3)) transposes_S2x32x2x512_S2x2x32x512_0_2_1_3 := by
  simp only [V, hostOps0, List.flatten_cons, List.flatten_nil, List.append_nil, List.cons_append, List.nil_append]
  entry_read
  rfl

/-- The offset of the convolution, as the region finds it. -/
theorem V_v2 (c : Dev nD) : V m c main_v2 = shapeCast S2x1x512 (m ((c : Thread nD τ).loc main_arg5)) shapeCasts_S2x512_S2x1x512 := by
  simp only [V, hostOps0, List.flatten_cons, List.flatten_nil, List.append_nil, List.cons_append, List.nil_append]
  entry_read
  rfl

/-- The gain, as the region finds it. -/
theorem V_v3 (c : Dev nD) : V m c main_v3 = shapeCast S2x1x512 (m ((c : Thread nD τ).loc main_arg6)) shapeCasts_S2x512_S2x1x512 := by
  simp only [V, hostOps0, List.flatten_cons, List.flatten_nil, List.append_nil, List.cons_append, List.nil_append]
  entry_read
  rfl

/-- The offset of the normalisation, as the region finds it. -/
theorem V_v4 (c : Dev nD) : V m c main_v4 = shapeCast S2x1x512 (m ((c : Thread nD τ).loc main_arg7)) shapeCasts_S2x512_S2x1x512 := by
  simp only [V, hostOps0, List.flatten_cons, List.flatten_nil, List.append_nil, List.cons_append, List.nil_append]
  entry_read
  rfl

theorem blk0 (c : Dev nD) (t : Fin cfg0.N) (n : Fin 32) (l : Fin 1024) : iblk m c 0 t (ix2 n l) = m ((c : Thread nD τ).loc main_arg0) (ix2 n l) := by
  blk_point [iblk, V, idx t]

theorem blk1 (c : Dev nD) (t : Fin cfg0.N) (n : Fin 32) (l : Fin 1536) : iblk m c 1 t (ix2 n l) = m ((c : Thread nD τ).loc main_arg1) (ix2 n l) := by
  blk_point [iblk, V, idx t]

theorem blk2 (c : Dev nD) (t : Fin cfg0.N) (w : Fin 30) (n : Fin 32) (l : Fin 512) : iblk m c 2 t (ix4 0 w n l) = m ((c : Thread nD τ).loc main_arg2) (ix4 0 n w l) := by
  refine (congrFun (V_v0 m c) ((win0_2.blk t).view.emb (ix4 0 w n l))).trans ?_
  pointwise
  blk_ext [idx t]

theorem blk3 (c : Dev nD) (t : Fin cfg0.N) (w : Fin 2) (n : Fin 32) (l : Fin 512) : iblk m c 3 t (ix4 0 w n l) = m ((c : Thread nD τ).loc main_arg3) (ix4 0 n w l) := by
  refine (congrFun (V_v1 m c) ((win0_3.blk t).view.emb (ix4 0 w n l))).trans ?_
  pointwise
  blk_ext [idx t]

theorem blk4 (c : Dev nD) (t : Fin cfg0.N) (w : Fin 31) (l : Fin 512) : iblk m c 4 t (ix3 0 w l) = m ((c : Thread nD τ).loc main_arg4) (ix3 0 w l) := by
  blk_point [iblk, V, idx t]

theorem blk5 (c : Dev nD) (t : Fin cfg0.N) (l : Fin 512) : iblk m c 5 t (ix3 0 0 l) = m ((c : Thread nD τ).loc main_arg5) (ix2 0 l) := by
  refine (congrFun (V_v2 m c) ((win0_5.blk t).view.emb (ix3 0 0 l))).trans ?_
  pointwise
  blk_ext [idx t]

theorem blk6 (c : Dev nD) (t : Fin cfg0.N) (l : Fin 512) : iblk m c 6 t (ix3 0 0 l) = m ((c : Thread nD τ).loc main_arg6) (ix2 0 l) := by
  refine (congrFun (V_v3 m c) ((win0_6.blk t).view.emb (ix3 0 0 l))).trans ?_
  pointwise
  blk_ext [idx t]

theorem blk7 (c : Dev nD) (t : Fin cfg0.N) (l : Fin 512) : iblk m c 7 t (ix3 0 0 l) = m ((c : Thread nD τ).loc main_arg7) (ix2 0 l) := by
  refine (congrFun (V_v4 m c) ((win0_7.blk t).view.emb (ix3 0 0 l))).trans ?_
  pointwise
  blk_ext [idx t]

theorem blk8 (c : Dev nD) (t : Fin cfg0.N) (w : Fin 3) (l : Fin 512) : iblk m c 8 t (ix3 0 w l) = m ((c : Thread nD τ).loc main_arg8) (ix3 0 w l) := by
  blk_point [iblk, V, idx t]

theorem glu_blk (c : Dev nD) (t : Fin cfg0.N) : glu (iblk m c 0 t) = glu (m ((c : Thread nD τ).loc main_arg0)) := by
  funext n l
  unfold glu
  rw [blk0, blk0]

theorem pair_blk (c : Dev nD) (t : Fin cfg0.N) : pair (iblk m c 1 t) = pair (m ((c : Thread nD τ).loc main_arg1)) := by
  funext n l
  unfold pair
  rw [blk1, blk1]

theorem blk_conf (c : Dev nD) (t : Fin cfg0.N) (y : S32x512.Idx) :
    out0_9 (iblk m c 0 t) (iblk m c 1 t) (iblk m c 2 t) (iblk m c 3 t) (iblk m c 4 t) (iblk m c 5 t) (iblk m c 6 t) (iblk m c 7 t) (iblk m c 8 t) y
      = conf (m ((c : Thread nD τ).loc main_arg0)) (m ((c : Thread nD τ).loc main_arg2)) (m ((c : Thread nD τ).loc main_arg4))
        (m ((c : Thread nD τ).loc main_arg5)) (m ((c : Thread nD τ).loc main_arg6)) (m ((c : Thread nD τ).loc main_arg7)) y := by
  idx_vars y
  rw [out9_at]
  unfold conf
  pointwise
  simp only [blk2, blk4, blk5, blk6, blk7, glu_blk]

/-- The first array the kernel writes. -/
theorem final9 (c : Dev nD) : (dats m 0 c).arrAt 9 cfg0.N
    = conf (m ((c : Thread nD τ).loc main_arg0)) (m ((c : Thread nD τ).loc main_arg2)) (m ((c : Thread nD τ).loc main_arg4))
        (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  refine (blk_conf m c t y).trans (congrArg _ ?_)
  blk_ext [idx t]

theorem blk_sconf (c : Dev nD) (t : Fin cfg0.N) (y : S32x512.Idx) :
    out0_10 (iblk m c 0 t) (iblk m c 1 t) (iblk m c 2 t) (iblk m c 3 t) (iblk m c 4 t) (iblk m c 5 t) (iblk m c 6 t) (iblk m c 7 t) (iblk m c 8 t) y
      = sconf (m ((c : Thread nD τ).loc main_arg1)) (m ((c : Thread nD τ).loc main_arg3)) (m ((c : Thread nD τ).loc main_arg8)) y := by
  idx_vars y
  rw [out10_at]
  unfold sconf
  pointwise
  simp only [blk1, blk3, blk8, pair_blk]

/-- The second array the kernel writes. -/
theorem final10 (c : Dev nD) : (dats m 0 c).arrAt 10 cfg0.N
    = sconf (m ((c : Thread nD τ).loc main_arg1)) (m ((c : Thread nD τ).loc main_arg3)) (m ((c : Thread nD τ).loc main_arg8)) := by
  refine (dats m 0 c).arrAt_eq_of_covers 10 _ (by decide +kernel) fun t hf y => ?_
  blk_simp
  rw [after0_10]
  refine (blk_sconf m c t y).trans (congrArg _ ?_)
  blk_ext [idx t]

theorem blk_kept (c : Dev nD) (t : Fin cfg0.N) (y : S30x32x512.Idx) :
    out0_11 (iblk m c 0 t) (iblk m c 1 t) (iblk m c 2 t) (iblk m c 3 t) (iblk m c 4 t) (iblk m c 5 t) (iblk m c 6 t) (iblk m c 7 t) (iblk m c 8 t) y
      = kept (m ((c : Thread nD τ).loc main_arg0)) (m ((c : Thread nD τ).loc main_arg2)) y := by
  idx_vars y
  rw [out11_at]
  unfold kept newest
  pointwise
  simp only [blk2, glu_blk]

/-- The third array the kernel writes. -/
theorem final11 (c : Dev nD) : (dats m 0 c).arrAt 11 cfg0.N
    = kept (m ((c : Thread nD τ).loc main_arg0)) (m ((c : Thread nD τ).loc main_arg2)) := by
  refine (dats m 0 c).arrAt_eq_of_covers 11 _ (by decide +kernel) fun t hf y => ?_
  blk_simp
  rw [after0_11]
  refine (blk_kept m c t y).trans (congrArg _ ?_)
  blk_ext [idx t]

theorem blk_skept (c : Dev nD) (t : Fin cfg0.N) (y : S2x32x512.Idx) :
    out0_12 (iblk m c 0 t) (iblk m c 1 t) (iblk m c 2 t) (iblk m c 3 t) (iblk m c 4 t) (iblk m c 5 t) (iblk m c 6 t) (iblk m c 7 t) (iblk m c 8 t) y
      = skept (m ((c : Thread nD τ).loc main_arg1)) (m ((c : Thread nD τ).loc main_arg3)) y := by
  idx_vars y
  rw [out12_at]
  unfold skept snewest
  pointwise
  simp only [blk3, pair_blk]

/-- The fourth array the kernel writes. -/
theorem final12 (c : Dev nD) : (dats m 0 c).arrAt 12 cfg0.N
    = skept (m ((c : Thread nD τ).loc main_arg1)) (m ((c : Thread nD τ).loc main_arg3)) := by
  refine (dats m 0 c).arrAt_eq_of_covers 12 _ (by decide +kernel) fun t hf y => ?_
  blk_simp
  rw [after0_12]
  refine (blk_skept m c t y).trans (congrArg _ ?_)
  blk_ext [idx t]

end Cert.MixsIdeal.Hand
-- ==== Proof.MixsRef.lean ====
/-
  The sample's convolutions: the reference's four results read at an index.
-/
module

public import proofs.«01_k».proof.Proof.MixsFun
public import proofs.«01_k».proof.Proof.Gen.MixsReferenceIdeal.Run
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.MixsReferenceIdeal.Hand

open Cert.MixsReferenceIdeal Cert.MixsReferenceIdeal.Gen Cert.Hand Cert.MixsReferenceIdeal.Value
open Cert.MixsIdeal.Hand (glu pair long short conf sconf kept skept)

variable (U : Valuation τ sig (Elt Ideal))

/-- The long convolution's values: the kept thirty, then the new one. -/
theorem v28_at (n : Fin 32) (w : Fin 31) (l : Fin 512) : (res_main_v28 U : FVec Ideal S32x31x512 .f32) (ix3 n w l)
    = upto (fun w => (U (Proc.devRef .tc main_arg2) : FVec Ideal S2x32x30x512 .f32) (ix4 0 n w l))
        (glu (U (Proc.devRef .tc main_arg0)) n l) w.val := by
  unfold res_main_v28 res_main_v0
  clean_types
  pointwise
  rfl

theorem v12_at (w : Fin 31) (l : Fin 512) : (res_main_v12 U : FVec Ideal S31x512 .f32) (ix2 w l)
    = (U (Proc.devRef .tc main_arg4) : FVec Ideal S2x31x512 .f32) (ix3 0 w l) := by
  unfold res_main_v12
  clean_types
  pointwise

/-- The short convolution's values: the kept two, then the new one. -/
theorem v276_at (n : Fin 32) (w : Fin 3) (l : Fin 512) : (res_main_v276 U : FVec Ideal S32x3x512 .f32) (ix3 n w l)
    = upto (fun w => (U (Proc.devRef .tc main_arg3) : FVec Ideal S2x32x2x512 .f32) (ix4 0 n w l))
        (pair (U (Proc.devRef .tc main_arg1)) n l) w.val := by
  unfold res_main_v276 res_main_v3
  clean_types
  pointwise
  rfl

theorem v20_at (w : Fin 3) (l : Fin 512) : (res_main_v20 U : FVec Ideal S3x512 .f32) (ix2 w l)
    = (U (Proc.devRef .tc main_arg8) : FVec Ideal S2x3x512 .f32) (ix3 0 w l) := by
  unfold res_main_v20
  clean_types
  pointwise

/-- The long convolution. -/
theorem v249_at (n : Fin 32) (l : Fin 512) : (res_main_v249 U : FVec Ideal S32x1x512 .f32) (ix3 n 0 l)
    = long (fun w l => (U (Proc.devRef .tc main_arg2) : FVec Ideal S2x32x30x512 .f32) (ix4 0 n w l))
        (glu (U (Proc.devRef .tc main_arg0)) n) (fun w l => (U (Proc.devRef .tc main_arg4) : FVec Ideal S2x31x512 .f32) (ix3 0 w l))
        (fun l => (U (Proc.devRef .tc main_arg5) : FVec Ideal S2x512 .f32) (ix2 0 l)) l := by
  unfold res_main_v249 res_main_v197 res_main_v113
  clean_types
  pointwise
  simp only [v28_at, v12_at]
  unfold long taps
  rw [onto_first]
  rfl

/-- Its normalisation over the channels. -/
theorem v273_at (n : Fin 32) (l : Fin 512) : (res_main_v273 U : FVec Ideal S32x1x512 .f32) (ix3 n 0 l)
    = norm512 (long (fun w l => (U (Proc.devRef .tc main_arg2) : FVec Ideal S2x32x30x512 .f32) (ix4 0 n w l))
          (glu (U (Proc.devRef .tc main_arg0)) n) (fun w l => (U (Proc.devRef .tc main_arg4) : FVec Ideal S2x31x512 .f32) (ix3 0 w l))
          (fun l => (U (Proc.devRef .tc main_arg5) : FVec Ideal S2x512 .f32) (ix2 0 l)))
        ((U (Proc.devRef .tc main_arg6) : FVec Ideal S2x512 .f32) (ix2 0 l)) ((U (Proc.devRef .tc main_arg7) : FVec Ideal S2x512 .f32) (ix2 0 l)) l := by
  unfold res_main_v273 res_main_v255 res_main_v253
  clean_types
  pointwise
  simp only [v249_at]
  rfl

/-- The first result. -/
theorem conf_eq : truncf .bf16 (shapeCast S32x512 (mulf (res_main_v273 U) (Host.divf (broadcastInDim S32x1x512 ![] bcast_S_S32x1x512
      (constant (F := Ideal) S_ .f32 0x3F800000#32)) (addf (broadcastInDim S32x1x512 ![] bcast_S_S32x1x512 (constant S_ .f32 0x3F800000#32))
        (Host.exp (Host.negf (res_main_v273 U))))) : FVec Ideal S32x1x512 .f32) shapeCasts_S32x1x512_S32x512 : FVec Ideal S32x512 .f32) bitsLt_bf16_f32
    = conf (U (Proc.devRef .tc main_arg0)) (U (Proc.devRef .tc main_arg2)) (U (Proc.devRef .tc main_arg4)) (U (Proc.devRef .tc main_arg5)) (U (Proc.devRef .tc main_arg6)) (U (Proc.devRef .tc main_arg7)) := by
  funext i
  idx_vars i
  clean_types
  pointwise
  simp only [v273_at]
  rfl

/-- The second result. -/
theorem sconf_eq : truncf .bf16 (shapeCast S32x512 (mulf (extractStridedSlice S32x1x512 ![0, 0, 0] (res_main_v3 U : FVec Ideal S32x1x1536 .f32)
      slices_S32x1x1536_S32x1x512_0_0_0) (addf (addf (addf
      (broadcastInDim S32x1x512 ![] bcast_S_S32x1x512 (constant (F := Ideal) S_ .f32 0x00000000#32))
      (mulf (extractStridedSlice S32x1x512 ![0, 0, 0] (res_main_v276 U : FVec Ideal S32x3x512 .f32) slices_S32x3x512_S32x1x512_0_0_0)
        (broadcastInDim S32x1x512 ![0, 1, 2] bcast_S1x1x512_S32x1x512_0_1_2 (broadcastInDim S1x1x512 ![2] bcast_S512_S1x1x512_2
          (shapeCast S512 (extractStridedSlice S1x512 ![0, 0] (res_main_v20 U : FVec Ideal S3x512 .f32) slices_S3x512_S1x512_0_0)
            shapeCasts_S1x512_S512))) : FVec Ideal S32x1x512 .f32))
      (mulf (extractStridedSlice S32x1x512 ![0, 1, 0] (res_main_v276 U : FVec Ideal S32x3x512 .f32) slices_S32x3x512_S32x1x512_0_1_0)
        (broadcastInDim S32x1x512 ![0, 1, 2] bcast_S1x1x512_S32x1x512_0_1_2 (broadcastInDim S1x1x512 ![2] bcast_S512_S1x1x512_2
          (shapeCast S512 (extractStridedSlice S1x512 ![1, 0] (res_main_v20 U : FVec Ideal S3x512 .f32) slices_S3x512_S1x512_1_0)
            shapeCasts_S1x512_S512))) : FVec Ideal S32x1x512 .f32))
      (mulf (extractStridedSlice S32x1x512 ![0, 2, 0] (res_main_v276 U : FVec Ideal S32x3x512 .f32) slices_S32x3x512_S32x1x512_0_2_0)
        (broadcastInDim S32x1x512 ![0, 1, 2] bcast_S1x1x512_S32x1x512_0_1_2 (broadcastInDim S1x1x512 ![2] bcast_S512_S1x1x512_2
          (shapeCast S512 (extractStridedSlice S1x512 ![2, 0] (res_main_v20 U : FVec Ideal S3x512 .f32) slices_S3x512_S1x512_2_0)
            shapeCasts_S1x512_S512))) : FVec Ideal S32x1x512 .f32)) : FVec Ideal S32x1x512 .f32)
      shapeCasts_S32x1x512_S32x512 : FVec Ideal S32x512 .f32) bitsLt_bf16_f32
    = sconf (U (Proc.devRef .tc main_arg1)) (U (Proc.devRef .tc main_arg3)) (U (Proc.devRef .tc main_arg8)) := by
  funext i
  idx_vars i
  unfold res_main_v3
  clean_types
  pointwise
  simp only [v276_at, v20_at]
  unfold sconf short taps
  rw [onto_first]
  rfl

/-- The third result. -/
theorem kept_eq : transpose S30x32x512 [1, 0, 2] (extractStridedSlice S32x30x512 ![0, 1, 0] (res_main_v28 U : FVec Ideal S32x31x512 .f32)
      slices_S32x31x512_S32x30x512_0_1_0) transposes_S32x30x512_S30x32x512_1_0_2 = kept (U (Proc.devRef .tc main_arg0)) (U (Proc.devRef .tc main_arg2)) := by
  funext i
  idx_vars i
  pointwise
  rw [v28_at]
  exact congrArg (upto _ _) (Nat.add_comm 1 _)

/-- The fourth result. -/
theorem skept_eq : transpose S2x32x512 [1, 0, 2] (extractStridedSlice S32x2x512 ![0, 1, 0] (res_main_v276 U : FVec Ideal S32x3x512 .f32)
      slices_S32x3x512_S32x2x512_0_1_0) transposes_S32x2x512_S2x32x512_1_0_2 = skept (U (Proc.devRef .tc main_arg1)) (U (Proc.devRef .tc main_arg3)) := by
  funext i
  idx_vars i
  pointwise
  rw [v276_at]
  exact congrArg (upto _ _) (Nat.add_comm 1 _)

/-- The reference's run: each result is the function of the arguments it computes, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v301) = conf (m ((c.tc : Thread nD τ).loc main_arg0)) (m ((c.tc : Thread nD τ).loc main_arg2))
          (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v303) = sconf (m ((c.tc : Thread nD τ).loc main_arg1)) (m ((c.tc : Thread nD τ).loc main_arg3)) (m ((c.tc : Thread nD τ).loc main_arg8))
      ∧ r.2.mem ((c.tc : Thread nD τ).loc main_v305) = kept (m ((c.tc : Thread nD τ).loc main_arg0)) (m ((c.tc : Thread nD τ).loc main_arg2))
      ∧ r.2.mem ((c.tc : Thread nD τ).loc main_v307) = skept (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, ha⟩ := h c
    exact ⟨h0.trans (conf_eq _), h1.trans (sconf_eq _), h2.trans (kept_eq _), h3.trans (skept_eq _), ha⟩) (Value.run (F := Ideal) m ρ)

end Cert.MixsReferenceIdeal.Hand
-- ==== Proof.MixsClaim.lean ====
/-
  The sample's convolutions against their reference: both runs, and the equations of their results.
-/
module

public import proofs.«01_k».proof.Defs
public import proofs.«01_k».proof.Proof.MixsEnd
public import proofs.«01_k».proof.Proof.MixsRef
public import proofs.«01_k».proof.Proof.Gen.MixsIdeal
public import Idealize.ShloMosaic.Lib.Quiescent

@[expose] public section

noncomputable section

open Idealize.ShloMosaic Idealize.ShloMosaic.TcCoe Idealize.SL.Sem

namespace Cert.Proof.Mixs

open Cert.MixsIdeal.Hand (conf sconf kept skept)

/-- The reference terminates and leaves its arguments; it declares no semaphore. -/
theorem frame_ref : Cert.quiescent_MixsReferenceIdeal (hMixsReferenceIdeal := Cert.MixsReferenceIdeal.Gen.facts) := fun m ρ _ =>
  (θ_run Cert.MixsReferenceIdeal.defs _ _).mono
    (fun r h => ⟨fun c => (h c).2.2.2.2, sem_eq_zero_of_no_sems (by decide) r.2⟩)
    (Cert.MixsReferenceIdeal.Hand.run m ρ)

/-- The kernel's run: each result is the function of the arguments it computes. -/
theorem run_kernel (m : (ℓ : Loc Cert.MixsIdeal.nD Cert.MixsIdeal.τ Cert.MixsIdeal.sig) → Buf (Elt Ideal) ℓ) (ρ : Dev Cert.MixsIdeal.nD → PrngReg) :
    θ_run (Cert.MixsIdeal.defs (F := Ideal)) (onTc (τ := Cert.MixsIdeal.τ) (Cert.MixsIdeal.main (F := Ideal))) ⟨m, fun _ => 0, ρ⟩
      fun r => ∀ c : Dev Cert.MixsIdeal.nD,
        r.2.mem ((c.tc : Thread Cert.MixsIdeal.nD Cert.MixsIdeal.τ).loc Cert.MixsIdeal.main_v5_0)
          = conf (m ((c.tc : Thread Cert.MixsIdeal.nD Cert.MixsIdeal.τ).loc Cert.MixsIdeal.main_arg0)) (m ((c.tc : Thread Cert.MixsIdeal.nD Cert.MixsIdeal.τ).loc Cert.MixsIdeal.main_arg2))
              (m ((c.tc : Thread Cert.MixsIdeal.nD Cert.MixsIdeal.τ).loc Cert.MixsIdeal.main_arg4)) (m ((c.tc : Thread Cert.MixsIdeal.nD Cert.MixsIdeal.τ).loc Cert.MixsIdeal.main_arg5))
              (m ((c.tc : Thread Cert.MixsIdeal.nD Cert.MixsIdeal.τ).loc Cert.MixsIdeal.main_arg6)) (m ((c.tc : Thread Cert.MixsIdeal.nD Cert.MixsIdeal.τ).loc Cert.MixsIdeal.main_arg7))
        ∧ r.2.mem ((c.tc : Thread Cert.MixsIdeal.nD Cert.MixsIdeal.τ).loc Cert.MixsIdeal.main_v5_1)
          = sconf (m ((c.tc : Thread Cert.MixsIdeal.nD Cert.MixsIdeal.τ).loc Cert.MixsIdeal.main_arg1)) (m ((c.tc : Thread Cert.MixsIdeal.nD Cert.MixsIdeal.τ).loc Cert.MixsIdeal.main_arg3))
              (m ((c.tc : Thread Cert.MixsIdeal.nD Cert.MixsIdeal.τ).loc Cert.MixsIdeal.main_arg8))
        ∧ r.2.mem ((c.tc : Thread Cert.MixsIdeal.nD Cert.MixsIdeal.τ).loc Cert.MixsIdeal.main_v5_2)
          = kept (m ((c.tc : Thread Cert.MixsIdeal.nD Cert.MixsIdeal.τ).loc Cert.MixsIdeal.main_arg0)) (m ((c.tc : Thread Cert.MixsIdeal.nD Cert.MixsIdeal.τ).loc Cert.MixsIdeal.main_arg2))
        ∧ r.2.mem ((c.tc : Thread Cert.MixsIdeal.nD Cert.MixsIdeal.τ).loc Cert.MixsIdeal.main_v5_3)
          = skept (m ((c.tc : Thread Cert.MixsIdeal.nD Cert.MixsIdeal.τ).loc Cert.MixsIdeal.main_arg1)) (m ((c.tc : Thread Cert.MixsIdeal.nD Cert.MixsIdeal.τ).loc Cert.MixsIdeal.main_arg3)) :=
  (θ_run Cert.MixsIdeal.defs _ _).mono
    (fun r h c => ⟨((h c).1 9).trans (Cert.MixsIdeal.Hand.final9 m c), ((h c).1 10).trans (Cert.MixsIdeal.Hand.final10 m c),
      ((h c).1 11).trans (Cert.MixsIdeal.Hand.final11 m c), ((h c).1 12).trans (Cert.MixsIdeal.Hand.final12 m c)⟩)
    (Cert.MixsIdeal.Gen.run_main m ρ)

/-- Kernel and reference end with the same four results. -/
theorem algebraic : Cert.algebraic_MixsIdeal_MixsReferenceIdeal (hMixsIdeal := Cert.MixsIdeal.Gen.facts)
    (hMixsReferenceIdeal := Cert.MixsReferenceIdeal.Gen.facts) := fun m ρ m' ρ' _ hag =>
  ⟨_, _, _, _,
    (θ_run Cert.MixsIdeal.defs _ _).mono (fun r h c => ⟨(h.2 c).1, (h.2 c).2.1, (h.2 c).2.2.1, (h.2 c).2.2.2, h.1.1 c⟩)
      (θ_run_and (Cert.MixsIdeal.Gen.frame m ρ) (run_kernel m ρ)),
    (θ_run Cert.MixsReferenceIdeal.defs _ _).mono (fun r h c => by
      obtain ⟨h0, h1, h2, h3, ha⟩ := h c
      obtain ⟨e0, e1, e2, e3, e4, e5, e6, e7, e8⟩ := hag c
      rw [e0, e2, e4, e5, e6, e7] at h0
      rw [e1, e3, e8] at h1
      rw [e0, e2] at h2
      rw [e1, e3] at h3
      exact ⟨h0, h1, h2, h3, ha⟩) (Cert.MixsReferenceIdeal.Hand.run m' ρ')⟩

end Cert.Proof.Mixs

end
-- ==== Proof.MoesStep.lean ====
/-
  The experts on the sample's rows: all thirty-two are one row block, so the grid is a single sweep over the experts.
-/
module

public import proofs.«01_k».proof.Proof.Gen.MoesIdeal.Value
public import proofs.«01_k».proof.Proof.MoeSum

@[expose] public section

set_option maxRecDepth 16384

noncomputable section

open Idealize.ShloMosaic Idealize.ShloMosaic.TcCoe Idealize.SL.Sem
open Idealize.ShloMosaic.Pipeline (Dat)

namespace Cert.MoesIdeal.Hand

open Cert.MoesIdeal Cert.MoesIdeal.Gen Cert.Hand Cert.Hand.Experts

/-- What a point stores: the sum it found and its expert's part. -/
theorem stored_at (i : grid0.Coords) (x : Vec Ideal S32x2048 .bf16) (g u : Vec Ideal S1x1x2048x512 .bf16) (cb : Vec Ideal S32x128 .f32)
    (acc : Vec Ideal S32x2048 .f32) (d : Vec Ideal S1x1x512x2048 .bf16) (j : S32x2048.Idx) :
    k0_pay1 (k0_pay4 i x g u cb acc d) j = acc j + part (i 1) x g u cb d (j 0) (j 1) := by
  pointwise [k0_pay1, k0_pay4]
  unfold part
  simp only [hid, ← sum_lane (i 1) (fun l => cb (ix2 (j 0) l))]

theorem zeros_at (j : S32x2048.Idx) : k0_pay3 (F := Ideal) j = 0 := by
  pointwise [k0_pay3]

/-- What the last point writes out, normed. -/
theorem normed_at (x1 acc : Vec Ideal S32x2048 .f32) (g b : Vec Ideal S1x1x2048 .f32) (r : Fin 32) (l : Fin 2048) :
    k0_pay2 x1 acc g b (ix2 r l) = norm (fun k => Ideal.ofBits .f32 0x3FB504F3#32 * x1 (ix2 r k) + acc (ix2 r k))
      (g (ix3 0 0 l)) (b (ix3 0 0 l)) l := by
  pointwise [k0_pay2]
  rfl

variable (m : (ℓ : Loc nD τ sig) → Buf (Elt Ideal) ℓ)

/-- Only the experts' weights move from point to point. -/
theorem idx : ∀ t : Fin cfg0.N, (t.val < 16 ∧ (grid0.coords t 1).val = t.val) ∧ win0_0.index t = ![0, 0] ∧ win0_1.index t = ![0, 0]
    ∧ win0_2.index t = ![0, 0] ∧ win0_3.index t = ![1, t.val, 0, 0] ∧ win0_4.index t = ![1, t.val, 0, 0]
    ∧ win0_5.index t = ![1, t.val, 0, 0] ∧ win0_6.index t = ![1, 0, 0] ∧ win0_7.index t = ![1, 0, 0] ∧ win0_8.index t = ![0, 0] :=
  (by decide +kernel : ∀ t : Fin grid0.N, _)

/-- The call's running sum sweeps the experts. -/
theorem sweep (c : Dev nD) : Sweep (fun n h => (outsAt0 m c n h).2) (fun t => grid0.coords t 1) (fun t => iblk m c 0 t)
    (fun t => iblk m c 2 t) (fun t => iblk m c 3 t) (fun t => iblk m c 4 t) (fun t => iblk m c 5 t)
    (m ((c : Thread nD τ).loc main_arg0)) (m ((c : Thread nD τ).loc main_arg2)) (m ((c : Thread nD τ).loc main_arg3))
    (m ((c : Thread nD τ).loc main_arg4)) (m ((c : Thread nD τ).loc main_arg5)) where
  expert t := by have h := (idx t).1; omega
  first t h j := by
    show (outsAt0 m c t.val t.isLt).2 j = _
    rw [outsAt0_A m c t h (by omega)]
    frame_out
    rw [stored_at, zeros_at]
  next t h j := by
    show (outsAt0 m c t.val t.isLt).2 j = _
    by_cases h1 : t.val % 16 = 15
    · rw [outsAt0_C m c t h h1]
      frame_out
      rw [stored_at]
      exact congrArg (· + _) (congrFun ((Memref.isWhole_whole cc0_scratch0).read_unread _) j)
    · rw [outsAt0_B m c t h h1]
      frame_out
      rw [stored_at]
      exact congrArg (· + _) (congrFun ((Memref.isWhole_whole cc0_scratch0).read_unread _) j)
  row t r n hn k := by have h := (idx t).1; blk_point [iblk, V, idx t]
  weight t r n hn k := by have h := (idx t).1; blk_point [iblk, V, idx t]
  gate t k f := by have h := (idx t).1; blk_point [iblk, V, idx t]
  up t k f := by have h := (idx t).1; blk_point [iblk, V, idx t]
  down t f l := by have h := (idx t).1; blk_point [iblk, V, idx t]

/-- The kernel's result array: the one block the last point writes. -/
theorem final (c : Dev nD) : (dats m 0 c).arrAt 8 cfg0.N
    = moe (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  have ht := (flush0_8 t).mp hf
  idx_vars y
  have he : (win0_8.blk t).view.emb (ix2 y0 y1) = ix2 y0 y1 := by blk_ext [idx t]
  blk_simp
  rw [after0_8, outsAt0_C m c t (by omega) ht, he]
  have hl := (sweep m c).out_last t ht (m ((c : Thread nD τ).loc main_arg1)) (m ((c : Thread nD τ).loc main_arg6))
    (m ((c : Thread nD τ).loc main_arg7)) (iblk m c 1 t) (iblk m c 6 t (ix3 0 0 y1)) (iblk m c 7 t (ix3 0 0 y1)) y0 y1 y0
    (by have h := (idx t).1; omega) (fun k => by blk_point [iblk, V, idx t]) (by blk_point [iblk, V, idx t]) (by blk_point [iblk, V, idx t])
  refine Eq.trans ?_ hl
  rw [show (outsAt0 m c t.val t.isLt) = _ from outsAt0_C m c t (by omega) ht]
  frame_out
  exact normed_at _ _ _ _ y0 y1

end Cert.MoesIdeal.Hand
-- ==== Proof.MoesClaim.lean ====
/-
  The experts on the sample's rows against their reference: the reference's result read at an index, and the equation of the two
  runs' results.
-/
module

public import proofs.«01_k».proof.Defs
public import proofs.«01_k».proof.Proof.MoesStep
public import proofs.«01_k».proof.Proof.Gen.MoesIdeal
public import proofs.«01_k».proof.Proof.Gen.MoesReferenceIdeal.Run
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem

namespace Cert.Proof.Moes

open Cert.MoesReferenceIdeal Cert.MoesReferenceIdeal.Gen Cert.Hand Cert.Hand.Experts

/-- The reference's result is the call's function of the eight arguments. -/
theorem ref_eq (m : (ℓ : Loc nD τ sig) → Buf (Elt Ideal) ℓ) (c : Dev nD) : Value.res_out0 m c
    = moe (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold Value.res_out0 Value.res_main_v46
  clean_types
  funext j
  idx_vars j
  pointwise
  unfold moe expertSum hid
  rfl

/-- The reference terminates and leaves its arguments; it declares no semaphore. -/
theorem frame_ref : Cert.quiescent_MoesReferenceIdeal (hMoesReferenceIdeal := facts) := fun m ρ _ =>
  (θ_run defs _ _).mono (fun r h => ⟨fun c => (h c).2, sem_eq_zero_of_no_sems (by decide) r.2⟩) (Value.run (F := Ideal) m ρ)

/-- Kernel and reference end with the same result. -/
theorem algebraic : Cert.algebraic_MoesIdeal_MoesReferenceIdeal (hMoesIdeal := Cert.MoesIdeal.Gen.facts)
    (hMoesReferenceIdeal := facts) := fun m ρ m' ρ' _ hag =>
  ⟨fun c => Value.res_out0 m' c,
    (θ_run Cert.MoesIdeal.defs _ _).mono (fun r h c => ⟨(h c).1.trans (by
        obtain ⟨h0, h1, h2, h3, h4, h5, h6, h7⟩ := hag c
        refine Eq.trans ?_ (ref_eq m' c).symm
        rw [h0, h1, h2, h3, h4, h5, h6, h7]
        exact Cert.MoesIdeal.Hand.final m c), (h c).2⟩) (Cert.MoesIdeal.Value.run_blocks (F := Ideal) m ρ),
    Value.run (F := Ideal) m' ρ'⟩

end Cert.Proof.Moes

end
-- ==== Proof.ConvPast.lean ====
/-
  A causal convolution swept block by block: the sequence with zeros before it, the buffer that holds a block behind
  its history, and what loads of the buffer's rows read.
-/
module

public import proofs.«01_k».proof.Proof.ConvFun
public import Idealize.ShloMosaic.Lib.Pipeline.Value
public import Idealize.ShloMosaic.Lib.WritesUnit

@[expose] public section

noncomputable section

open Idealize.ShloMosaic Idealize.SL.Sem

namespace Cert.Hand

/-- The rows `f` behind `h` rows of zeros, read at any place. -/
def past {n : ℕ} (h : ℕ) (f : Fin n → Fin 512 → EReal) (j : ℕ) (l : Fin 512) : EReal :=
  if j < h then 0 else if hj : j - h < n then f ⟨j - h, hj⟩ l else 0

/-- More zeros before the rows shift them. -/
theorem past_shift {n : ℕ} (h d : ℕ) (f : Fin n → Fin 512 → EReal) (j : ℕ) (l : Fin 512) :
    past (h + d) f (j + d) l = past h f j l := by
  unfold past
  simp only [Nat.add_lt_add_iff_right, Nat.add_sub_add_right]

/-- A buffer's rows: `h` rows of history, then a block of 256 rows. -/
def strip (h : ℕ) (hist : ℕ → Fin 512 → EReal) (w : FVec Ideal ⟨2, ![256, 512]⟩ .f32) (k : ℕ) (l : Fin 512) : EReal :=
  if k < h then hist k l else if hk : k - h < 256 then w (ix2 ⟨k - h, hk⟩ l) else 0

/-- `q` rows of a buffer, from row `o` on. -/
def rowsAt (E : ℕ → Fin 512 → EReal) (q o : ℕ) : FVec Ideal ⟨2, ![q, 512]⟩ .f32 := fun j => E ((j 0).val + o) (j 1)

variable {sig : RefSig} {κ : Kind} {sp : Space} {n : ℕ}

/-- Below the block, a buffer that the block was stored into holds the block. -/
theorem read_block (v : View sig κ sp ⟨2, ![n, 512]⟩ .f32) (f : v.ty.Contents (Elt Ideal)) {h : ℕ}
    (inb : ∀ a, (![h, 0] : Fin 2 → ℕ) a + (![256, 512] : Fin 2 → ℕ) a ≤ (⟨2, ![n, 512]⟩ : Shape).size a)
    (w : FVec Ideal ⟨2, ![256, 512]⟩ .f32) (L : List (View.Piece (Elt Ideal) ⟨2, ![n, 512]⟩ .f32)) (hist : ℕ → Fin 512 → EReal)
    (y : (⟨2, ![n, 512]⟩ : Shape).Idx) (h0 : h ≤ (y 0).val) (h1 : (y 0).val < h + 256) :
    v.read (Elt Ideal) (v.writes (Elt Ideal) f (⟨Rect.unit (s := ⟨2, ![n, 512]⟩) ![h, 0] ![256, 512] inb, w⟩ :: L)) y
      = strip h hist w (y 0).val (y 1) := by
  unfold strip
  rw [if_neg (by omega), dif_pos (by omega)]
  refine View.read_writes_cons_unit_of_mem v f inb w L y (ix2 ⟨(y 0).val - h, by omega⟩ (y 1)) rfl (Fin.forall_fin_two.mpr ⟨?_, ?_⟩)
  · show (y 0).val = h + ((y 0).val - h)
    omega
  · exact (Nat.zero_add _).symm

/-- A load of the block's rows, whatever the history. -/
theorem load_block (h : ℕ) (hist : ℕ → Fin 512 → EReal) (v : View sig κ sp ⟨2, ![n, 512]⟩ .f32) (q o : ℕ)
    (inb : ∀ a, (![h, 0] : Fin 2 → ℕ) a + (![256, 512] : Fin 2 → ℕ) a ≤ (⟨2, ![n, 512]⟩ : Shape).size a)
    (w : FVec Ideal ⟨2, ![256, 512]⟩ .f32) (L : List (View.Piece (Elt Ideal) ⟨2, ![n, 512]⟩ .f32))
    (inb' : ∀ a, (![o, 0] : Fin 2 → ℕ) a + (![q, 512] : Fin 2 → ℕ) a ≤ (⟨2, ![n, 512]⟩ : Shape).size a) (h0 : h ≤ o) (h1 : o + q ≤ h + 256) :
    v.readCov (⟨Rect.unit (s := ⟨2, ![n, 512]⟩) ![h, 0] ![256, 512] inb, w⟩ :: L) (Rect.unit (s := ⟨2, ![n, 512]⟩) ![o, 0] ![q, 512] inb').toLoadRect
      = rowsAt (strip h hist w) q o := by
  funext j
  have hj : (j 0).val < q := (j 0).isLt
  have e0 : (((Rect.unit (s := ⟨2, ![n, 512]⟩) ![o, 0] ![q, 512] inb').toLoadRect.idx j) 0).val = (j 0).val + o := by
    show o + 1 * (j 0).val = _
    omega
  have e1 : ((Rect.unit (s := ⟨2, ![n, 512]⟩) ![o, 0] ![q, 512] inb').toLoadRect.idx j) 1 = j 1 :=
    Fin.ext (by show 0 + 1 * (j 1).val = _; omega)
  refine (read_block v v.junk inb w L hist _ (by omega) (by omega)).trans ?_
  rw [e0, e1]
  rfl

/-- Above the block, a buffer that the block was stored into holds what it held. -/
theorem read_above (v : View sig κ sp ⟨2, ![n, 512]⟩ .f32) (f : v.ty.Contents (Elt Ideal)) {h : ℕ}
    (inb : ∀ a, (![h, 0] : Fin 2 → ℕ) a + (![256, 512] : Fin 2 → ℕ) a ≤ (⟨2, ![n, 512]⟩ : Shape).size a)
    (w : FVec Ideal ⟨2, ![256, 512]⟩ .f32) (L : List (View.Piece (Elt Ideal) ⟨2, ![n, 512]⟩ .f32))
    (y : (⟨2, ![n, 512]⟩ : Shape).Idx) (h0 : (y 0).val < h) :
    v.read (Elt Ideal) (v.writes (Elt Ideal) f (⟨Rect.unit (s := ⟨2, ![n, 512]⟩) ![h, 0] ![256, 512] inb, w⟩ :: L)) y
      = v.read (Elt Ideal) (v.writes (Elt Ideal) f L) y :=
  View.read_writes_cons_unit_of_not_mem v f inb w L y rfl 0 (.inl h0)

/-- Where zeros were stored, a buffer holds zero. -/
theorem read_zeros (v : View sig κ sp ⟨2, ![n, 512]⟩ .f32) (f : v.ty.Contents (Elt Ideal)) {h : ℕ} (z : FVec Ideal ⟨2, ![h, 512]⟩ .f32)
    (hz : ∀ j, z j = 0) (inz : ∀ a, (![0, 0] : Fin 2 → ℕ) a + (![h, 512] : Fin 2 → ℕ) a ≤ (⟨2, ![n, 512]⟩ : Shape).size a)
    (L : List (View.Piece (Elt Ideal) ⟨2, ![n, 512]⟩ .f32)) (y : (⟨2, ![n, 512]⟩ : Shape).Idx) (h0 : (y 0).val < h) :
    v.read (Elt Ideal) (v.writes (Elt Ideal) f (⟨Rect.unit (s := ⟨2, ![n, 512]⟩) ![0, 0] ![h, 512] inz, z⟩ :: L)) y = 0 :=
  (View.read_writes_cons_unit_of_mem v f inz z L y (ix2 ⟨(y 0).val, h0⟩ (y 1)) rfl
    (Fin.forall_fin_two.mpr ⟨(Nat.zero_add _).symm, (Nat.zero_add _).symm⟩)).trans (hz _)

/-- The place in the buffer that a load of `q` rows from row `o` on reads at `j`. -/
theorem load_row {q o : ℕ} (inb : ∀ a, (![o, 0] : Fin 2 → ℕ) a + (![q, 512] : Fin 2 → ℕ) a ≤ (⟨2, ![n, 512]⟩ : Shape).size a)
    (j : (⟨2, ![q, 512]⟩ : Shape).Idx) :
    (((Rect.unit (s := ⟨2, ![n, 512]⟩) ![o, 0] ![q, 512] inb).emb j) 0).val = (j 0).val + o
      ∧ ((Rect.unit (s := ⟨2, ![n, 512]⟩) ![o, 0] ![q, 512] inb).emb j) 1 = j 1 := by
  constructor
  · show o + 1 * (j 0).val = _
    omega
  · refine Fin.ext ?_
    show 0 + 1 * (j 1).val = _
    omega

/-- A load of rows of a buffer that was filled with zeros above the block. -/
theorem load_filled (h : ℕ) (v : View sig κ sp ⟨2, ![n, 512]⟩ .f32) (z : FVec Ideal ⟨2, ![h, 512]⟩ .f32) (hz : ∀ j, z j = 0)
    (q o : ℕ) (inb : ∀ a, (![h, 0] : Fin 2 → ℕ) a + (![256, 512] : Fin 2 → ℕ) a ≤ (⟨2, ![n, 512]⟩ : Shape).size a)
    (w : FVec Ideal ⟨2, ![256, 512]⟩ .f32)
    (inz : ∀ a, (![0, 0] : Fin 2 → ℕ) a + (![h, 512] : Fin 2 → ℕ) a ≤ (⟨2, ![n, 512]⟩ : Shape).size a)
    (inb' : ∀ a, (![o, 0] : Fin 2 → ℕ) a + (![q, 512] : Fin 2 → ℕ) a ≤ (⟨2, ![n, 512]⟩ : Shape).size a) (h1 : o + q ≤ h + 256) :
    v.readCov ([⟨Rect.unit (s := ⟨2, ![n, 512]⟩) ![h, 0] ![256, 512] inb, w⟩, ⟨Rect.unit (s := ⟨2, ![n, 512]⟩) ![0, 0] ![h, 512] inz, z⟩]
          : List (View.Piece (Elt Ideal) ⟨2, ![n, 512]⟩ .f32))
        (Rect.unit (s := ⟨2, ![n, 512]⟩) ![o, 0] ![q, 512] inb').toLoadRect
      = rowsAt (strip h (fun _ _ => 0) w) q o := by
  funext j
  obtain ⟨e0, e1⟩ := load_row inb' j
  have hj : (j 0).val < q := (j 0).isLt
  show v.read (Elt Ideal) (v.writes (Elt Ideal) v.junk _) ((Rect.unit (s := ⟨2, ![n, 512]⟩) ![o, 0] ![q, 512] inb').emb j)
    = strip h (fun _ _ => 0) w ((j 0).val + o) (j 1)
  generalize (Rect.unit (s := ⟨2, ![n, 512]⟩) ![o, 0] ![q, 512] inb').emb j = y at e0 e1
  rw [← e0, ← e1]
  by_cases hk : h ≤ (y 0).val
  · exact read_block v v.junk inb w _ _ y hk (by omega)
  · rw [read_above v v.junk inb w _ y (by omega), read_zeros v v.junk z hz inz _ y (by omega)]
    exact (if_pos (by omega)).symm

/-- A load of rows of a buffer that still holds its history above the block. -/
theorem load_kept (h : ℕ) (hist : ℕ → Fin 512 → EReal) (v : View sig κ sp ⟨2, ![n, 512]⟩ .f32) (f : v.ty.Contents (Elt Ideal))
    (hf : ∀ y : (⟨2, ![n, 512]⟩ : Shape).Idx, (y 0).val < h → v.read (Elt Ideal) f y = hist (y 0).val (y 1)) (q o : ℕ)
    (inb : ∀ a, (![h, 0] : Fin 2 → ℕ) a + (![256, 512] : Fin 2 → ℕ) a ≤ (⟨2, ![n, 512]⟩ : Shape).size a)
    (w : FVec Ideal ⟨2, ![256, 512]⟩ .f32)
    (inb' : ∀ a, (![o, 0] : Fin 2 → ℕ) a + (![q, 512] : Fin 2 → ℕ) a ≤ (⟨2, ![n, 512]⟩ : Shape).size a) (h1 : o + q ≤ h + 256) :
    View.ld (View.read (Elt Ideal) v (v.writes (Elt Ideal) f [⟨Rect.unit (s := ⟨2, ![n, 512]⟩) ![h, 0] ![256, 512] inb, w⟩]))
        (Rect.unit (s := ⟨2, ![n, 512]⟩) ![o, 0] ![q, 512] inb')
      = rowsAt (strip h hist w) q o := by
  funext j
  obtain ⟨e0, e1⟩ := load_row inb' j
  have hj : (j 0).val < q := (j 0).isLt
  show v.read (Elt Ideal) (v.writes (Elt Ideal) f _) ((Rect.unit (s := ⟨2, ![n, 512]⟩) ![o, 0] ![q, 512] inb').emb j)
    = strip h hist w ((j 0).val + o) (j 1)
  generalize (Rect.unit (s := ⟨2, ![n, 512]⟩) ![o, 0] ![q, 512] inb').emb j = y at e0 e1
  rw [← e0, ← e1]
  by_cases hk : h ≤ (y 0).val
  · exact read_block v f inb w _ _ y hk (by omega)
  · rw [read_above v f inb w _ y (by omega)]
    exact (hf y (by omega)).trans (if_pos (by omega)).symm

/-- A load of the block's rows, after rows above the block were stored again. -/
theorem load_behind (h : ℕ) (hist : ℕ → Fin 512 → EReal) (v : View sig κ sp ⟨2, ![n, 512]⟩ .f32) (z : FVec Ideal ⟨2, ![h, 512]⟩ .f32)
    (inz : ∀ a, (![0, 0] : Fin 2 → ℕ) a + (![h, 512] : Fin 2 → ℕ) a ≤ (⟨2, ![n, 512]⟩ : Shape).size a) (q o : ℕ)
    (inb : ∀ a, (![h, 0] : Fin 2 → ℕ) a + (![256, 512] : Fin 2 → ℕ) a ≤ (⟨2, ![n, 512]⟩ : Shape).size a)
    (w : FVec Ideal ⟨2, ![256, 512]⟩ .f32) (L : List (View.Piece (Elt Ideal) ⟨2, ![n, 512]⟩ .f32))
    (inb' : ∀ a, (![o, 0] : Fin 2 → ℕ) a + (![q, 512] : Fin 2 → ℕ) a ≤ (⟨2, ![n, 512]⟩ : Shape).size a) (h0 : h ≤ o) (h1 : o + q ≤ h + 256) :
    v.readCov (⟨Rect.unit (s := ⟨2, ![n, 512]⟩) ![0, 0] ![h, 512] inz, z⟩ :: ⟨Rect.unit (s := ⟨2, ![n, 512]⟩) ![h, 0] ![256, 512] inb, w⟩ :: L)
        (Rect.unit (s := ⟨2, ![n, 512]⟩) ![o, 0] ![q, 512] inb').toLoadRect
      = rowsAt (strip h hist w) q o := by
  funext j
  obtain ⟨e0, e1⟩ := load_row inb' j
  have hj : (j 0).val < q := (j 0).isLt
  show v.read (Elt Ideal) (v.writes (Elt Ideal) v.junk _) ((Rect.unit (s := ⟨2, ![n, 512]⟩) ![o, 0] ![q, 512] inb').emb j)
    = strip h hist w ((j 0).val + o) (j 1)
  generalize (Rect.unit (s := ⟨2, ![n, 512]⟩) ![o, 0] ![q, 512] inb').emb j = y at e0 e1
  rw [← e0, ← e1]
  refine (View.read_writes_cons_unit_of_not_mem v v.junk inz z _ y rfl 0 (.inr ?_)).trans
    (read_block v v.junk inb w L hist y (by omega) (by omega))
  show 0 + h ≤ (y 0).val
  omega

/-- The rows of a block behind its history are those of `E`, if both parts are. -/
theorem rows_strip (h : ℕ) (hist : ℕ → Fin 512 → EReal) (w : FVec Ideal ⟨2, ![256, 512]⟩ .f32) (E : ℕ → Fin 512 → EReal)
    (hh : ∀ k < h, ∀ l, hist k l = E k l) (hw : ∀ (r : Fin 256) (l : Fin 512), w (ix2 r l) = E (h + r.val) l) (q o : ℕ) (h1 : o + q ≤ h + 256) :
    rowsAt (strip h hist w) q o = rowsAt E q o := by
  funext j
  have hj : (j 0).val < q := (j 0).isLt
  show strip h hist w ((j 0).val + o) (j 1) = E ((j 0).val + o) (j 1)
  unfold strip
  split
  · exact hh _ ‹_› _
  · rw [dif_pos (by omega)]
    exact (hw _ _).trans (congrArg (E · (j 1)) (by show h + ((j 0).val + o - h) = _; omega))

end Cert.Hand
-- ==== Proof.MixpFun.lean ====
/-
  The prompt's convolutions: the four results as functions of the call's arguments.
-/
module

public import proofs.«01_k».proof.Proof.ConvPast
public import proofs.«01_k».proof.MixpIdeal

@[expose] public section

noncomputable section

open Idealize.ShloMosaic

namespace Cert.MixpIdeal.Hand

open Cert.MixpIdeal Cert.Hand

/-- Row `r` of batch `b` among all rows. -/
def row (b : Fin 2) (r : Fin 4096) : Fin 8192 := ⟨b.val * 4096 + r.val, by omega⟩

/-- The gated values of a batch: a value times the logistic function of its gate. -/
def glu (x : FVec Ideal S8192x1024 .f32) (b : Fin 2) (r : Fin 4096) (l : Fin 512) : EReal :=
  x (ix2 (row b r) ⟨l.val, by omega⟩) * Ideal.logistic (x (ix2 (row b r) ⟨512 + l.val, by omega⟩))

/-- The products of a batch's second and third groups of columns. -/
def pair (y : FVec Ideal S8192x1536 .f32) (b : Fin 2) (r : Fin 4096) (l : Fin 512) : EReal :=
  y (ix2 (row b r) ⟨512 + l.val, by omega⟩) * y (ix2 (row b r) ⟨1024 + l.val, by omega⟩)

/-- The batch of a row, -/
def batch (n : Fin 8192) : Fin 2 := ⟨n.val / 4096, by omega⟩

/-- The long convolution at one row: 31 values `e`, with the weights and the offset, normalised over the channels, times
its logistic function. -/
def conv (e : ℕ → Fin 512 → EReal) (k : Fin 31 → Fin 512 → EReal) (b g b' : Fin 512 → EReal) (l : Fin 512) : EReal :=
  swish (norm512 (fun l => taps (fun w => e w l) (upto (fun w => k w l) 0) 31 + b l) (g l) (b' l) l)

/-- First result: the long convolution of a row with the thirty before it, zeros before the first. -/
def conf (x : FVec Ideal S8192x1024 .f32) (k : FVec Ideal S2x31x512 .f32) (b g b' : FVec Ideal S2x512 .f32) :
    FVec Ideal S8192x512 .bf16 := fun i =>
  conv (fun w => past 30 (glu x (batch (i 0))) ((i 0).val % 4096 + w)) (fun w l => k (ix3 0 w l)) (fun l => b (ix2 0 l))
    (fun l => g (ix2 0 l)) (fun l => b' (ix2 0 l)) (i 1)

/-- Second result: the short convolution of a row with the two before it, times the first group of columns. -/
def sconf (y : FVec Ideal S8192x1536 .f32) (k : FVec Ideal S2x3x512 .f32) : FVec Ideal S8192x512 .bf16 := fun i =>
  y (ix2 (i 0) ⟨(i 1).val, (i 1).isLt.trans (by decide)⟩)
    * taps (fun w => past 2 (pair y (batch (i 0))) ((i 0).val % 4096 + w) (i 1)) (upto (fun w => k (ix3 0 w (i 1))) 0) 3

/-- Third result: each batch's 32 newest values of the long convolution. -/
def kept (x : FVec Ideal S8192x1024 .f32) : FVec Ideal S2x32x512 .f32 := fun i =>
  past 30 (glu x (i 0)) (4094 + (i 1).val) (i 2)

/-- Fourth result: each batch's eight newest values of the short convolution. -/
def skept (y : FVec Ideal S8192x1536 .f32) : FVec Ideal S2x8x512 .f32 := fun i =>
  past 2 (pair y (i 0)) (4090 + (i 1).val) (i 2)

end Cert.MixpIdeal.Hand
-- ==== Proof.MixpStep.lean ====
/-
  One point of the prompt's convolutions: the buffers a point leaves, and the rows it writes at a batch's end.
-/
module

public import proofs.«01_k».proof.Proof.MixpFun
public import proofs.«01_k».proof.Proof.Gen.MixpIdeal.Frame
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MixpIdeal.Hand

open Cert.MixpIdeal Cert.MixpIdeal.Gen Cert.Hand

/-- The long convolution of a block, from the buffer `E` of its rows behind their history. -/
def convBlk (E : ℕ → Fin 512 → EReal) (k : Vec Ideal S1x31x512 .f32) (b g b' : Vec Ideal S1x1x512 .f32) : Vec Ideal S256x512 .bf16 := fun y =>
  conv (fun w => E ((y 0).val + (2 + w))) (fun w l => k (ix3 0 w l)) (fun l => b (ix3 0 0 l)) (fun l => g (ix3 0 0 l))
    (fun l => b' (ix3 0 0 l)) (y 1)

/-- The short convolution of a block, from the buffer `E` of its rows behind their history. -/
def sconvBlk (E : ℕ → Fin 512 → EReal) (gb : Vec Ideal S256x512 .f32) (k : Vec Ideal S1x3x512 .f32) : Vec Ideal S256x512 .bf16 := fun y =>
  gb y * taps (fun w => E ((y 0).val + (6 + w)) (y 1)) (upto (fun w => k (ix3 0 w (y 1))) 0) 3

/-- An output stored in pieces that cover it is what every piece agrees with. -/
theorem pieces_at {s : Shape} {e : EltTy} (G : Vec Ideal s e) (L : List (View.Piece (Elt Ideal) s e))
    (h : ∀ p ∈ L, ∀ x : p.1.shape.Idx, p.2 x = G (p.1.emb x)) (y : s.Idx) (hy : ∃ p ∈ L, y ∈ p.1.set) :
    View.canon L y = G y := View.canon_apply_of_pieces G L h y hy

/-- A piece of 32 rows, at its place in the block. -/
theorem rows_at {e : EltTy} (G : Vec Ideal S256x512 e) (o : ℕ)
    (inb : ∀ a, (![o, 0] : Fin 2 → ℕ) a + S32x512.size a ≤ S256x512.size a) (p : Fin 32) (l : Fin 512) (hp : p.val + o < 256) :
    G ((Rect.unit (s := S256x512) ![o, 0] S32x512.size inb).emb (ix2 p l)) = G (ix2 ⟨p.val + o, hp⟩ l) := by
  refine congrArg G (funext fun a => Fin.ext ?_)
  match a with
  | ⟨0, _⟩ => show o + 1 * p.val = p.val + o; omega
  | ⟨1, _⟩ => show 0 + 1 * l.val = l.val; omega

/-- Rows stored last at the top of a buffer, read there. -/
theorem top_at {h n : ℕ} (inz : ∀ a, (![0, 0] : Fin 2 → ℕ) a + (![h, 512] : Fin 2 → ℕ) a ≤ (⟨2, ![n, 512]⟩ : Shape).size a)
    (z : FVec Ideal ⟨2, ![h, 512]⟩ .f32) (L : List (View.Piece (Elt Ideal) ⟨2, ![n, 512]⟩ .f32)) (y : (⟨2, ![n, 512]⟩ : Shape).Idx) (hy : (y 0).val < h) :
    View.canon (⟨Rect.unit (s := ⟨2, ![n, 512]⟩) ![0, 0] ![h, 512] inz, z⟩ :: L) y = z (ix2 ⟨(y 0).val, hy⟩ (y 1)) := by
  have e : y = (Rect.unit (s := ⟨2, ![n, 512]⟩) ![0, 0] ![h, 512] inz).emb (ix2 ⟨(y 0).val, hy⟩ (y 1)) := by
    funext a
    match a with
    | ⟨0, _⟩ => exact Fin.ext (by show (y 0).val = 0 + 1 * (y 0).val; omega)
    | ⟨1, _⟩ => exact Fin.ext (by show (y 1).val = 0 + 1 * (y 1).val; omega)
  exact (congrArg (View.canon _) e).trans (View.canon_cons_emb _ _ _ _)

theorem pay5_at (j) : k0_pay5 (F := Ideal) j = 0 := by
  idx_vars j
  pointwise [k0_pay5]

theorem pay6_at (j) : k0_pay6 (F := Ideal) j = 0 := by
  idx_vars j
  pointwise [k0_pay6]

variable (m : (ℓ : Loc nD τ sig) → Buf (Elt Ideal) ℓ)

/-- What a point that another of its batch follows leaves at the top of the first buffer: its block's last 32 rows. -/
theorem scratch0_at (c : Dev nD) (t : Fin cfg0.N) (h : t.val % 16 ≠ 15) (y : S288x512.Idx) (hy : (y 0).val < 32) :
    (outsAt0 m c t.val t.isLt).2.2.2.2.1 y = k0_pay7 (iblk m c 0 t) (iblk m c 1 t) (ix2 ⟨(y 0).val + 224, by omega⟩ (y 1)) := by
  by_cases ht : t.val % 16 = 0
  on_goal 1 => rw [outsAt0_A m c t ht h]
  on_goal 2 => rw [outsAt0_B m c t ht h]
  all_goals
    frame_out
    simp only [load_block 32 (fun _ _ => 0), Nat.reduceAdd, Nat.reduceLeDiff]
    refine (top_at _ _ _ y hy).trans ?_
    generalize k0_pay7 (iblk m c 0 t) (iblk m c 1 t) = w
    pointwise [k0_pay1]
    show strip 32 _ w ((y 0).val + 256) (y 1) = _
    unfold strip
    rw [if_neg (by omega), dif_pos (by omega)]
    rfl

/-- What a point that another of its batch follows leaves at the top of the second buffer: its block's last 8 rows. -/
theorem scratch1_at (c : Dev nD) (t : Fin cfg0.N) (h : t.val % 16 ≠ 15) (y : S264x512.Idx) (hy : (y 0).val < 8) :
    (outsAt0 m c t.val t.isLt).2.2.2.2.2 y = k0_pay8 (iblk m c 3 t) (iblk m c 4 t) (ix2 ⟨(y 0).val + 248, by omega⟩ (y 1)) := by
  by_cases ht : t.val % 16 = 0
  on_goal 1 => rw [outsAt0_A m c t ht h]
  on_goal 2 => rw [outsAt0_B m c t ht h]
  all_goals
    frame_out
    simp only [load_block 8 (fun _ _ => 0), Nat.reduceAdd, Nat.reduceLeDiff]
    refine (top_at _ _ _ y hy).trans ?_
    generalize k0_pay8 (iblk m c 3 t) (iblk m c 4 t) = w
    pointwise [k0_pay2]
    show strip 8 _ w ((y 0).val + 256) (y 1) = _
    unfold strip
    rw [if_neg (by omega), dif_pos (by omega)]
    rfl

/-- What a batch's last point writes of its gated values: its block's last 32 rows. -/
theorem out12_at (c : Dev nD) (t : Fin cfg0.N) (h : t.val % 16 = 15) (k : Fin 32) (l : Fin 512) :
    (outsAt0 m c t.val t.isLt).2.2.1 (ix3 0 k l) = k0_pay7 (iblk m c 0 t) (iblk m c 1 t) (ix2 ⟨k.val + 224, by omega⟩ l) := by
  rw [outsAt0_C m c t (by omega) h]
  frame_out
  simp only [load_behind 32 (fun _ _ => 0), Nat.reduceAdd, Nat.reduceLeDiff]
  generalize k0_pay7 (iblk m c 0 t) (iblk m c 1 t) = w
  pointwise [k0_pay3]
  show strip 32 _ w (k.val + 256) l = _
  unfold strip
  rw [if_neg (by omega), dif_pos (by omega)]
  rfl

/-- What a batch's last point writes of its products: its block's last 8 rows. -/
theorem out13_at (c : Dev nD) (t : Fin cfg0.N) (h : t.val % 16 = 15) (k : Fin 8) (l : Fin 512) :
    (outsAt0 m c t.val t.isLt).2.2.2.1 (ix3 0 k l) = k0_pay8 (iblk m c 3 t) (iblk m c 4 t) (ix2 ⟨k.val + 248, by omega⟩ l) := by
  rw [outsAt0_C m c t (by omega) h]
  frame_out
  simp only [load_behind 8 (fun _ _ => 0), Nat.reduceAdd, Nat.reduceLeDiff]
  generalize k0_pay8 (iblk m c 3 t) (iblk m c 4 t) = w
  pointwise [k0_pay4]
  show strip 8 _ w (k.val + 256) l = _
  unfold strip
  rw [if_neg (by omega), dif_pos (by omega)]
  rfl

end Cert.MixpIdeal.Hand
-- ==== Proof.MixpLong.lean ====
/-
  One point of the prompt's convolutions: the rows of the long convolution.
-/
module

public import proofs.«01_k».proof.Proof.MixpStep

@[expose] public section

set_option maxRecDepth 16384

noncomputable section

open Idealize.ShloMosaic Idealize.ShloMosaic.TcCoe Idealize.SL.Sem
open Idealize.ShloMosaic.Pipeline (Dat)

namespace Cert.MixpIdeal.Hand

open Cert.MixpIdeal Cert.MixpIdeal.Gen Cert.Hand

variable (m : (ℓ : Loc nD τ sig) → Buf (Elt Ideal) ℓ)

set_option maxHeartbeats 16000000 in
/-- The rows of the long convolution a point writes, if `E` is zero or what the point before left, and then the point's gated values. -/
theorem out10_at (c : Dev nD) (t : Fin cfg0.N) (E : ℕ → Fin 512 → EReal)
    (h0 : t.val % 16 = 0 → ∀ k < 32, ∀ l, E k l = 0)
    (h1 : t.val % 16 ≠ 0 → ∀ y : S288x512.Idx, (y 0).val < 32 → (outsAt0 m c (t.val - 1) (by omega)).2.2.2.2.1 y = E (y 0).val (y 1))
    (hw : ∀ (r : Fin 256) (l : Fin 512), k0_pay7 (iblk m c 0 t) (iblk m c 1 t) (ix2 r l) = E (32 + r.val) l) (y) :
    (outsAt0 m c t.val t.isLt).1 y = convBlk E (iblk m c 5 t) (iblk m c 6 t) (iblk m c 7 t) (iblk m c 8 t) y := by
  have hf : t.val % 16 ≠ 0 → ∀ y : S288x512.Idx, (y 0).val < 32 →
      (View.whole cc0_scratch0).read (Elt Ideal) ((Memref.isWhole_whole cc0_scratch0).unread (outsAt0 m c (t.val - 1) (by omega)).2.2.2.2.1) y = E (y 0).val (y 1) :=
    fun ht y hy => (congrFun ((Memref.isWhole_whole cc0_scratch0).read_unread _) y).trans (h1 ht y hy)
  rcases (by omega : t.val % 16 = 0 ∨ (t.val % 16 ≠ 0 ∧ t.val % 16 ≠ 15) ∨ t.val % 16 = 15) with ht | ⟨ht, ht'⟩ | ht
  on_goal 1 =>
    rw [outsAt0_A m c t ht (by omega)]
    frame_out
    simp only [load_block 32 (fun _ _ => 0), load_filled 32 _ k0_pay5 pay5_at, rows_strip 32 _ _ E (fun k hk l => (h0 ht k hk l).symm) hw,
      Nat.reduceAdd, Nat.reduceLeDiff]
  on_goal 2 =>
    rw [outsAt0_B m c t ht ht']
    frame_out
    simp only [load_block 32 E, load_kept 32 E _ _ (hf ht), rows_strip 32 E _ E (fun _ _ _ => rfl) hw, Nat.reduceAdd, Nat.reduceLeDiff]
  on_goal 3 =>
    rw [outsAt0_C m c t (by omega) ht]
    frame_out
    simp only [load_block 32 E, load_kept 32 E _ _ (hf (by omega)), rows_strip 32 E _ E (fun _ _ _ => rfl) hw, Nat.reduceAdd, Nat.reduceLeDiff]
  all_goals
    clear hf
    refine pieces_at (convBlk E (iblk m c 5 t) (iblk m c 6 t) (iblk m c 7 t) (iblk m c 8 t)) _ ?_ y (View.cover_of_tiledL (s := S256x512) _ S32x512.size (by sl_kernel_rfl) y)
    intro p hp
    simp only [List.mem_cons, List.not_mem_nil, or_false] at hp
    rcases hp with rfl | rfl | rfl | rfl | rfl | rfl | rfl | rfl
    all_goals
      intro x
      idx_vars x
      refine Eq.trans ?_ (rows_at (convBlk E (iblk m c 5 t) (iblk m c 6 t) (iblk m c 7 t) (iblk m c 8 t)) _ _ _ _ (by omega)).symm
      pointwise [k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32,
      k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99]
      try simp only [Nat.add_comm _ (x0 : ℕ)]
      unfold convBlk conv taps
      rw [funext fun l => congrArg (· + _) (onto_first _ _)]
      rfl

end Cert.MixpIdeal.Hand
-- ==== Proof.MixpShort.lean ====
/-
  One point of the prompt's convolutions: the rows of the short convolution.
-/
module

public import proofs.«01_k».proof.Proof.MixpStep

@[expose] public section

set_option maxRecDepth 16384

noncomputable section

open Idealize.ShloMosaic Idealize.ShloMosaic.TcCoe Idealize.SL.Sem
open Idealize.ShloMosaic.Pipeline (Dat)

namespace Cert.MixpIdeal.Hand

open Cert.MixpIdeal Cert.MixpIdeal.Gen Cert.Hand

variable (m : (ℓ : Loc nD τ sig) → Buf (Elt Ideal) ℓ)

set_option maxHeartbeats 4000000 in
/-- The rows of the short convolution a point writes, if `E` is zero or what the point before left, and then the point's products. -/
theorem out11_at (c : Dev nD) (t : Fin cfg0.N) (E : ℕ → Fin 512 → EReal)
    (h0 : t.val % 16 = 0 → ∀ k < 8, ∀ l, E k l = 0)
    (h1 : t.val % 16 ≠ 0 → ∀ y : S264x512.Idx, (y 0).val < 8 → (outsAt0 m c (t.val - 1) (by omega)).2.2.2.2.2 y = E (y 0).val (y 1))
    (hw : ∀ (r : Fin 256) (l : Fin 512), k0_pay8 (iblk m c 3 t) (iblk m c 4 t) (ix2 r l) = E (8 + r.val) l) (y) :
    (outsAt0 m c t.val t.isLt).2.1 y = sconvBlk E (iblk m c 2 t) (iblk m c 9 t) y := by
  have hf : t.val % 16 ≠ 0 → ∀ y : S264x512.Idx, (y 0).val < 8 →
      (View.whole cc0_scratch1).read (Elt Ideal) ((Memref.isWhole_whole cc0_scratch1).unread (outsAt0 m c (t.val - 1) (by omega)).2.2.2.2.2) y = E (y 0).val (y 1) :=
    fun ht y hy => (congrFun ((Memref.isWhole_whole cc0_scratch1).read_unread _) y).trans (h1 ht y hy)
  rcases (by omega : t.val % 16 = 0 ∨ (t.val % 16 ≠ 0 ∧ t.val % 16 ≠ 15) ∨ t.val % 16 = 15) with ht | ⟨ht, ht'⟩ | ht
  on_goal 1 =>
    rw [outsAt0_A m c t ht (by omega)]
    frame_out
    simp only [load_block 8 (fun _ _ => 0), load_filled 8 _ k0_pay6 pay6_at, rows_strip 8 _ _ E (fun k hk l => (h0 ht k hk l).symm) hw,
      Nat.reduceAdd, Nat.reduceLeDiff]
  on_goal 2 =>
    rw [outsAt0_B m c t ht ht']
    frame_out
    simp only [load_block 8 E, load_kept 8 E _ _ (hf ht), rows_strip 8 E _ E (fun _ _ _ => rfl) hw, Nat.reduceAdd, Nat.reduceLeDiff]
  on_goal 3 =>
    rw [outsAt0_C m c t (by omega) ht]
    frame_out
    simp only [load_block 8 E, load_kept 8 E _ _ (hf (by omega)), rows_strip 8 E _ E (fun _ _ _ => rfl) hw, Nat.reduceAdd, Nat.reduceLeDiff]
  all_goals
    clear hf
    refine pieces_at (sconvBlk E (iblk m c 2 t) (iblk m c 9 t)) _ ?_ y (View.cover_of_tiledL (s := S256x512) _ S32x512.size (by sl_kernel_rfl) y)
    intro p hp
    simp only [List.mem_cons, List.not_mem_nil, or_false] at hp
    rcases hp with rfl | rfl | rfl | rfl | rfl | rfl | rfl | rfl
    all_goals
      intro x
      idx_vars x
      refine Eq.trans ?_ (rows_at (sconvBlk E (iblk m c 2 t) (iblk m c 9 t)) _ _ _ _ (by omega)).symm
      pointwise [k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32,
      k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99]
      try simp only [Nat.add_comm _ (x0 : ℕ)]
      unfold sconvBlk taps
      rw [onto_first]
      rfl

end Cert.MixpIdeal.Hand
-- ==== Proof.MixpEnd.lean ====
/-
  The prompt's convolutions: the four arrays the kernel writes, as functions of its arguments.
-/
module

public import proofs.«01_k».proof.Proof.MixpLong
public import proofs.«01_k».proof.Proof.MixpShort

@[expose] public section

set_option maxRecDepth 16384

noncomputable section

open Idealize.ShloMosaic Idealize.ShloMosaic.TcCoe Idealize.SL.Sem
open Idealize.ShloMosaic.Pipeline (Dat)

namespace Cert.MixpIdeal.Hand

open Cert.MixpIdeal Cert.MixpIdeal.Gen Cert.Hand

variable (m : (ℓ : Loc nD τ sig) → Buf (Elt Ideal) ℓ)

theorem idx : ∀ t : Fin cfg0.N, win0_0.index t = ![t.val, 0] ∧ win0_1.index t = ![t.val, 1] ∧ win0_2.index t = ![t.val, 0]
    ∧ win0_3.index t = ![t.val, 1] ∧ win0_4.index t = ![t.val, 2] ∧ win0_5.index t = ![0, 0, 0] ∧ win0_6.index t = ![0, 0, 0]
    ∧ win0_7.index t = ![0, 0, 0] ∧ win0_8.index t = ![0, 0, 0] ∧ win0_9.index t = ![0, 0, 0] ∧ win0_10.index t = ![t.val, 0]
    ∧ win0_11.index t = ![t.val, 0] ∧ win0_12.index t = ![t.val / 16, 0, 0] ∧ win0_13.index t = ![t.val / 16, 0, 0] ∧ t.val < 32 :=
  (by decide +kernel : ∀ t : Fin grid0.N, _)

theorem pt_lt (t : Fin cfg0.N) : t.val < 32 := (idx t).2.2.2.2.2.2.2.2.2.2.2.2.2.2

/-- A point's row, among all rows. -/
def rowOf (t : Fin cfg0.N) (r : Fin 256) : Fin 8192 := ⟨t.val * 256 + r.val, by have := pt_lt t; omega⟩

/-- A point's batch, -/
def bOf (t : Fin cfg0.N) : Fin 2 := ⟨t.val / 16, by have := pt_lt t; omega⟩

/-- and a point's row within its batch. -/
def rOf (t : Fin cfg0.N) (r : Fin 256) : Fin 4096 := ⟨256 * (t.val % 16) + r.val, by omega⟩

theorem row_of (t : Fin cfg0.N) (r : Fin 256) : row (bOf t) (rOf t r) = rowOf t r :=
  Fin.ext (by show t.val / 16 * 4096 + (256 * (t.val % 16) + r.val) = t.val * 256 + r.val; omega)

theorem batch_of (t : Fin cfg0.N) (r : Fin 256) : batch (rowOf t r) = bOf t :=
  Fin.ext (by show (t.val * 256 + r.val) / 4096 = t.val / 16; omega)

theorem mod_of (t : Fin cfg0.N) (r : Fin 256) : (rowOf t r).val % 4096 = 256 * (t.val % 16) + r.val := by
  show (t.val * 256 + r.val) % 4096 = _
  omega

/-- The offset of the convolution, as the region finds it. -/
theorem V_v0 (c : Dev nD) : V m c main_v0 = shapeCast S2x1x512 (m ((c : Thread nD τ).loc main_arg3)) shapeCasts_S2x512_S2x1x512 := by
  simp only [V, hostOps0, List.flatten_cons, List.flatten_nil, List.append_nil, List.cons_append, List.nil_append]
  entry_read
  rfl

/-- The gain of the normalisation, as the region finds it. -/
theorem V_v1 (c : Dev nD) : V m c main_v1 = shapeCast S2x1x512 (m ((c : Thread nD τ).loc main_arg4)) shapeCasts_S2x512_S2x1x512 := by
  simp only [V, hostOps0, List.flatten_cons, List.flatten_nil, List.append_nil, List.cons_append, List.nil_append]
  entry_read
  rfl

/-- The offset of the normalisation, as the region finds it. -/
theorem V_v2 (c : Dev nD) : V m c main_v2 = shapeCast S2x1x512 (m ((c : Thread nD τ).loc main_arg5)) shapeCasts_S2x512_S2x1x512 := by
  simp only [V, hostOps0, List.flatten_cons, List.flatten_nil, List.append_nil, List.cons_append, List.nil_append]
  entry_read
  rfl

theorem blk0 (c : Dev nD) (t : Fin cfg0.N) (r : Fin 256) (l : Fin 512) : iblk m c 0 t (ix2 r l)
    = m ((c : Thread nD τ).loc main_arg0) (ix2 ⟨t.val * 256 + r.val, by have := pt_lt t; omega⟩ ⟨l.val, by omega⟩) := by
  blk_point [iblk, V, idx t]

theorem blk1 (c : Dev nD) (t : Fin cfg0.N) (r : Fin 256) (l : Fin 512) : iblk m c 1 t (ix2 r l)
    = m ((c : Thread nD τ).loc main_arg0) (ix2 ⟨t.val * 256 + r.val, by have := pt_lt t; omega⟩ ⟨512 + l.val, by omega⟩) := by
  blk_point [iblk, V, idx t]

theorem blk2 (c : Dev nD) (t : Fin cfg0.N) (r : Fin 256) (l : Fin 512) : iblk m c 2 t (ix2 r l)
    = m ((c : Thread nD τ).loc main_arg1) (ix2 ⟨t.val * 256 + r.val, by have := pt_lt t; omega⟩ ⟨l.val, by omega⟩) := by
  blk_point [iblk, V, idx t]

theorem blk3 (c : Dev nD) (t : Fin cfg0.N) (r : Fin 256) (l : Fin 512) : iblk m c 3 t (ix2 r l)
    = m ((c : Thread nD τ).loc main_arg1) (ix2 ⟨t.val * 256 + r.val, by have := pt_lt t; omega⟩ ⟨512 + l.val, by omega⟩) := by
  blk_point [iblk, V, idx t]

theorem blk4 (c : Dev nD) (t : Fin cfg0.N) (r : Fin 256) (l : Fin 512) : iblk m c 4 t (ix2 r l)
    = m ((c : Thread nD τ).loc main_arg1) (ix2 ⟨t.val * 256 + r.val, by have := pt_lt t; omega⟩ ⟨1024 + l.val, by omega⟩) := by
  blk_point [iblk, V, idx t]

theorem blk5 (c : Dev nD) (t : Fin cfg0.N) (w : Fin 31) (l : Fin 512) : iblk m c 5 t (ix3 0 w l) = m ((c : Thread nD τ).loc main_arg2) (ix3 0 w l) := by
  blk_point [iblk, V, idx t]

theorem blk6 (c : Dev nD) (t : Fin cfg0.N) (l : Fin 512) : iblk m c 6 t (ix3 0 0 l) = m ((c : Thread nD τ).loc main_arg3) (ix2 0 l) := by
  refine (congrFun (V_v0 m c) ((win0_6.blk t).view.emb (ix3 0 0 l))).trans ?_
  pointwise
  blk_ext [idx t]

theorem blk7 (c : Dev nD) (t : Fin cfg0.N) (l : Fin 512) : iblk m c 7 t (ix3 0 0 l) = m ((c : Thread nD τ).loc main_arg4) (ix2 0 l) := by
  refine (congrFun (V_v1 m c) ((win0_7.blk t).view.emb (ix3 0 0 l))).trans ?_
  pointwise
  blk_ext [idx t]

theorem blk8 (c : Dev nD) (t : Fin cfg0.N) (l : Fin 512) : iblk m c 8 t (ix3 0 0 l) = m ((c : Thread nD τ).loc main_arg5) (ix2 0 l) := by
  refine (congrFun (V_v2 m c) ((win0_8.blk t).view.emb (ix3 0 0 l))).trans ?_
  pointwise
  blk_ext [idx t]

theorem blk9 (c : Dev nD) (t : Fin cfg0.N) (w : Fin 3) (l : Fin 512) : iblk m c 9 t (ix3 0 w l) = m ((c : Thread nD τ).loc main_arg6) (ix3 0 w l) := by
  blk_point [iblk, V, idx t]

/-- A point's gated values are those of its rows. -/
theorem glu_blk (c : Dev nD) (t : Fin cfg0.N) (r : Fin 256) (l : Fin 512) : k0_pay7 (iblk m c 0 t) (iblk m c 1 t) (ix2 r l)
    = glu (m ((c : Thread nD τ).loc main_arg0)) (bOf t) (rOf t r) l := by
  pointwise [k0_pay7]
  unfold glu
  rw [blk0, blk1, row_of]
  rfl

/-- A point's products are those of its rows. -/
theorem pair_blk (c : Dev nD) (t : Fin cfg0.N) (r : Fin 256) (l : Fin 512) : k0_pay8 (iblk m c 3 t) (iblk m c 4 t) (ix2 r l)
    = pair (m ((c : Thread nD τ).loc main_arg1)) (bOf t) (rOf t r) l := by
  pointwise [k0_pay8]
  unfold pair
  rw [blk3, blk4, row_of]
  rfl

/-- Behind the zeros, the rows. -/
theorem past_at {n : ℕ} (h : ℕ) (f : Fin n → Fin 512 → EReal) (j : ℕ) (l : Fin 512) (r : Fin n) (hj : j = h + r.val) : past h f j l = f r l := by
  unfold past
  rw [if_neg (by omega), dif_pos (by omega)]
  exact congrArg (f · l) (Fin.ext (by show j - h = r.val; omega))

/-- Before them, zero. -/
theorem past_zero {n : ℕ} (h : ℕ) (f : Fin n → Fin 512 → EReal) (j : ℕ) (l : Fin 512) (hj : j < h) : past h f j l = 0 := if_pos hj

/-- The rows of the long convolution a point writes. -/
theorem blk_conf (c : Dev nD) (t : Fin cfg0.N) (y : S256x512.Idx) : (outsAt0 m c t.val t.isLt).1 y
    = conf (m ((c : Thread nD τ).loc main_arg0)) (m ((c : Thread nD τ).loc main_arg2)) (m ((c : Thread nD τ).loc main_arg3))
        (m ((c : Thread nD τ).loc main_arg4)) (m ((c : Thread nD τ).loc main_arg5)) (ix2 (rowOf t (y 0)) (y 1)) := by
  rw [out10_at m c t (fun k => past 32 (glu (m ((c : Thread nD τ).loc main_arg0)) (bOf t)) (256 * (t.val % 16) + k))
    (fun ht k hk l => past_zero _ _ _ _ (by omega))
    (fun ht y hy => by
      have hN := t.isLt
      refine (scratch0_at m c ⟨t.val - 1, by omega⟩ (by show (t.val - 1) % 16 ≠ 15; omega) y hy).trans ((glu_blk m c _ _ _).trans ?_)
      have hb : bOf ⟨t.val - 1, by omega⟩ = bOf t := Fin.ext (by show (t.val - 1) / 16 = t.val / 16; omega)
      rw [hb]
      exact (past_at _ _ _ _ _ (by show 256 * (t.val % 16) + (y 0).val = 32 + (256 * ((t.val - 1) % 16) + ((y 0).val + 224)); omega)).symm)
    (fun r l => (glu_blk m c t r l).trans (past_at _ _ _ _ _ (by show 256 * (t.val % 16) + (32 + r.val) = 32 + (256 * (t.val % 16) + r.val); omega)).symm)]
  idx_vars y
  unfold convBlk conf
  simp only [blk5, blk6, blk7, blk8]
  refine congrArg (fun e => conv e _ _ _ _ _) (funext fun w => funext fun l => ?_)
  show past 32 (glu _ (bOf t)) (256 * (t.val % 16) + (y0.val + (2 + w))) l = past 30 (glu _ (batch (rowOf t y0))) ((rowOf t y0).val % 4096 + w) l
  rw [batch_of, mod_of, ← past_shift 30 2]
  exact congrArg (past 32 _ · l) (by omega)

/-- The rows of the short convolution a point writes. -/
theorem blk_sconf (c : Dev nD) (t : Fin cfg0.N) (y : S256x512.Idx) : (outsAt0 m c t.val t.isLt).2.1 y
    = sconf (m ((c : Thread nD τ).loc main_arg1)) (m ((c : Thread nD τ).loc main_arg6)) (ix2 (rowOf t (y 0)) (y 1)) := by
  rw [out11_at m c t (fun k => past 8 (pair (m ((c : Thread nD τ).loc main_arg1)) (bOf t)) (256 * (t.val % 16) + k))
    (fun ht k hk l => past_zero _ _ _ _ (by omega))
    (fun ht y hy => by
      have hN := t.isLt
      refine (scratch1_at m c ⟨t.val - 1, by omega⟩ (by show (t.val - 1) % 16 ≠ 15; omega) y hy).trans ((pair_blk m c _ _ _).trans ?_)
      have hb : bOf ⟨t.val - 1, by omega⟩ = bOf t := Fin.ext (by show (t.val - 1) / 16 = t.val / 16; omega)
      rw [hb]
      exact (past_at _ _ _ _ _ (by show 256 * (t.val % 16) + (y 0).val = 8 + (256 * ((t.val - 1) % 16) + ((y 0).val + 248)); omega)).symm)
    (fun r l => (pair_blk m c t r l).trans (past_at _ _ _ _ _ (by show 256 * (t.val % 16) + (8 + r.val) = 8 + (256 * (t.val % 16) + r.val); omega)).symm)]
  idx_vars y
  unfold sconvBlk sconf
  have e : (fun w => past 8 (pair (m ((c : Thread nD τ).loc main_arg1)) (bOf t)) (256 * (t.val % 16) + (y0.val + (6 + w))) y1)
      = fun w => past 2 (pair (m ((c : Thread nD τ).loc main_arg1)) (batch (rowOf t y0))) ((rowOf t y0).val % 4096 + w) y1 := by
    funext w
    rw [batch_of, mod_of, ← past_shift 2 6]
    exact congrArg (past 8 _ · y1) (by omega)
  have ek : (fun w => iblk m c 9 t (ix3 0 w y1)) = fun w => m ((c : Thread nD τ).loc main_arg6) (ix3 0 w y1) := funext fun w => blk9 m c t w y1
  exact congrArg₂ (fun a b : EReal => a * b) (blk2 m c t y0 y1) (congrArg₂ (fun (e : ℕ → EReal) (k : Fin 3 → EReal) => taps e (upto k 0) 3) e ek)

/-- A batch's newest gated values. -/
theorem blk_kept (c : Dev nD) (t : Fin cfg0.N) (h : t.val % 16 = 15) (y : S1x32x512.Idx) : (outsAt0 m c t.val t.isLt).2.2.1 y
    = kept (m ((c : Thread nD τ).loc main_arg0)) (ix3 (bOf t) (y 1) (y 2)) := by
  idx_vars y
  obtain rfl : y0 = 0 := Fin.fin_one_eq_zero y0
  refine (out12_at m c t h _ _).trans ((glu_blk m c t _ _).trans ?_)
  exact (past_at _ _ _ _ _ (by show 4094 + y1.val = 30 + (256 * (t.val % 16) + (y1.val + 224)); omega)).symm

/-- A batch's newest products. -/
theorem blk_skept (c : Dev nD) (t : Fin cfg0.N) (h : t.val % 16 = 15) (y : S1x8x512.Idx) : (outsAt0 m c t.val t.isLt).2.2.2.1 y
    = skept (m ((c : Thread nD τ).loc main_arg1)) (ix3 (bOf t) (y 1) (y 2)) := by
  idx_vars y
  obtain rfl : y0 = 0 := Fin.fin_one_eq_zero y0
  refine (out13_at m c t h _ _).trans ((pair_blk m c t _ _).trans ?_)
  exact (past_at _ _ _ _ _ (by show 4090 + y1.val = 2 + (256 * (t.val % 16) + (y1.val + 248)); omega)).symm

/-- The first array the kernel writes. -/
theorem final10 (c : Dev nD) : (dats m 0 c).arrAt 10 cfg0.N
    = conf (m ((c : Thread nD τ).loc main_arg0)) (m ((c : Thread nD τ).loc main_arg2)) (m ((c : Thread nD τ).loc main_arg3))
        (m ((c : Thread nD τ).loc main_arg4)) (m ((c : Thread nD τ).loc main_arg5)) := by
  refine (dats m 0 c).arrAt_eq_of_covers 10 _ (by decide +kernel) fun t hf y => ?_
  blk_simp
  rw [after0_10]
  refine (blk_conf m c t y).trans (congrArg _ ?_)
  unfold rowOf
  blk_ext [idx t]

/-- The second array the kernel writes. -/
theorem final11 (c : Dev nD) : (dats m 0 c).arrAt 11 cfg0.N
    = sconf (m ((c : Thread nD τ).loc main_arg1)) (m ((c : Thread nD τ).loc main_arg6)) := by
  refine (dats m 0 c).arrAt_eq_of_covers 11 _ (by decide +kernel) fun t hf y => ?_
  blk_simp
  rw [after0_11]
  refine (blk_sconf m c t y).trans (congrArg _ ?_)
  unfold rowOf
  blk_ext [idx t]

/-- The third array the kernel writes. -/
theorem final12 (c : Dev nD) : (dats m 0 c).arrAt 12 cfg0.N = kept (m ((c : Thread nD τ).loc main_arg0)) := by
  refine (dats m 0 c).arrAt_eq_of_covers 12 _ (by decide +kernel) fun t hf y => ?_
  blk_simp
  rw [after0_12]
  refine (blk_kept m c t ((flush0_12 t).mp hf) y).trans (congrArg _ ?_)
  unfold bOf
  blk_ext [idx t]

/-- The fourth array the kernel writes. -/
theorem final13 (c : Dev nD) : (dats m 0 c).arrAt 13 cfg0.N = skept (m ((c : Thread nD τ).loc main_arg1)) := by
  refine (dats m 0 c).arrAt_eq_of_covers 13 _ (by decide +kernel) fun t hf y => ?_
  blk_simp
  rw [after0_13]
  refine (blk_skept m c t ((flush0_13 t).mp hf) y).trans (congrArg _ ?_)
  unfold bOf
  blk_ext [idx t]

end Cert.MixpIdeal.Hand
-- ==== Proof.MixpRef.lean ====
/-
  The prompt's convolutions: the reference's four results read at an index.
-/
module

public import proofs.«01_k».proof.Proof.MixpFun
public import proofs.«01_k».proof.Proof.Gen.MixpReferenceIdeal.Run
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.MixpReferenceIdeal.Hand

open Cert.MixpReferenceIdeal Cert.MixpReferenceIdeal.Gen Cert.Hand Cert.MixpReferenceIdeal.Value
open Cert.MixpIdeal.Hand (row glu pair batch conv conf sconf kept skept)

variable (U : Valuation τ sig (Elt Ideal))

/-- The long convolution's values: thirty zeros, then the batch's rows. -/
theorem v26_at (b : Fin 2) (j : Fin 4126) (l : Fin 512) : (res_main_v26 U : FVec Ideal S2x4126x512 .f32) (ix3 b j l)
    = past 30 (glu (U (Proc.devRef .tc main_arg0)) b) j.val l := by
  unfold res_main_v26 res_main_v0
  clean_types
  pointwise
  unfold past
  split
  · rfl
  · rw [dif_pos (by omega)]
    rfl

/-- The short convolution's values: two zeros, then the batch's rows. -/
theorem v274_at (b : Fin 2) (j : Fin 4098) (l : Fin 512) : (res_main_v274 U : FVec Ideal S2x4098x512 .f32) (ix3 b j l)
    = past 2 (pair (U (Proc.devRef .tc main_arg1)) b) j.val l := by
  unfold res_main_v274 res_main_v3
  clean_types
  pointwise
  unfold past
  split
  · rfl
  · rw [dif_pos (by omega)]
    rfl

theorem v10_at (w : Fin 31) (l : Fin 512) : (res_main_v10 U : FVec Ideal S31x512 .f32) (ix2 w l)
    = (U (Proc.devRef .tc main_arg2) : FVec Ideal S2x31x512 .f32) (ix3 0 w l) := by
  unfold res_main_v10
  clean_types
  pointwise

theorem v18_at (w : Fin 3) (l : Fin 512) : (res_main_v18 U : FVec Ideal S3x512 .f32) (ix2 w l)
    = (U (Proc.devRef .tc main_arg6) : FVec Ideal S2x3x512 .f32) (ix3 0 w l) := by
  unfold res_main_v18
  clean_types
  pointwise

/-- The long convolution. -/
theorem v247_at (b : Fin 2) (r : Fin 4096) (l : Fin 512) : (res_main_v247 U : FVec Ideal S2x4096x512 .f32) (ix3 b r l)
    = taps (fun w => past 30 (glu (U (Proc.devRef .tc main_arg0)) b) (r.val + w) l)
        (upto (fun w => (U (Proc.devRef .tc main_arg2) : FVec Ideal S2x31x512 .f32) (ix3 0 w l)) 0) 31
      + (U (Proc.devRef .tc main_arg3) : FVec Ideal S2x512 .f32) (ix2 0 l) := by
  unfold res_main_v247 res_main_v188 res_main_v104
  clean_types
  pointwise
  simp only [v26_at, v10_at]
  simp only [Nat.add_comm _ (r : ℕ)]
  unfold taps
  rw [onto_first]
  rfl

/-- Its normalisation over the channels. -/
theorem v271_at (b : Fin 2) (r : Fin 4096) (l : Fin 512) : (res_main_v271 U : FVec Ideal S2x4096x512 .f32) (ix3 b r l)
    = norm512 (fun l => taps (fun w => past 30 (glu (U (Proc.devRef .tc main_arg0)) b) (r.val + w) l)
          (upto (fun w => (U (Proc.devRef .tc main_arg2) : FVec Ideal S2x31x512 .f32) (ix3 0 w l)) 0) 31
        + (U (Proc.devRef .tc main_arg3) : FVec Ideal S2x512 .f32) (ix2 0 l))
        ((U (Proc.devRef .tc main_arg4) : FVec Ideal S2x512 .f32) (ix2 0 l)) ((U (Proc.devRef .tc main_arg5) : FVec Ideal S2x512 .f32) (ix2 0 l)) l := by
  unfold res_main_v271 res_main_v253 res_main_v251
  clean_types
  pointwise
  simp only [v247_at]
  rfl

/-- The first result. -/
theorem conf_eq : truncf .bf16 (shapeCast S8192x512 (mulf (res_main_v271 U) (Host.divf (broadcastInDim S2x4096x512 ![] bcast_S_S2x4096x512
      (constant (F := Ideal) S_ .f32 0x3F800000#32)) (addf (broadcastInDim S2x4096x512 ![] bcast_S_S2x4096x512 (constant S_ .f32 0x3F800000#32))
        (Host.exp (Host.negf (res_main_v271 U))))) : FVec Ideal S2x4096x512 .f32) shapeCasts_S2x4096x512_S8192x512 : FVec Ideal S8192x512 .f32) bitsLt_bf16_f32
    = conf (U (Proc.devRef .tc main_arg0)) (U (Proc.devRef .tc main_arg2)) (U (Proc.devRef .tc main_arg3)) (U (Proc.devRef .tc main_arg4)) (U (Proc.devRef .tc main_arg5)) := by
  funext i
  idx_vars i
  clean_types
  pointwise
  simp only [v271_at]
  rfl

/-- The second result. -/
theorem sconf_eq : truncf .bf16 (shapeCast S8192x512 (mulf (extractStridedSlice S2x4096x512 ![0, 0, 0] (res_main_v3 U : FVec Ideal S2x4096x1536 .f32)
      slices_S2x4096x1536_S2x4096x512_0_0_0) (addf (addf (addf
      (broadcastInDim S2x4096x512 ![] bcast_S_S2x4096x512 (constant (F := Ideal) S_ .f32 0x00000000#32))
      (mulf (extractStridedSlice S2x4096x512 ![0, 0, 0] (res_main_v274 U : FVec Ideal S2x4098x512 .f32) slices_S2x4098x512_S2x4096x512_0_0_0)
        (broadcastInDim S2x4096x512 ![0, 1, 2] bcast_S1x1x512_S2x4096x512_0_1_2 (broadcastInDim S1x1x512 ![2] bcast_S512_S1x1x512_2
          (shapeCast S512 (extractStridedSlice S1x512 ![0, 0] (res_main_v18 U : FVec Ideal S3x512 .f32) slices_S3x512_S1x512_0_0)
            shapeCasts_S1x512_S512))) : FVec Ideal S2x4096x512 .f32))
      (mulf (extractStridedSlice S2x4096x512 ![0, 1, 0] (res_main_v274 U : FVec Ideal S2x4098x512 .f32) slices_S2x4098x512_S2x4096x512_0_1_0)
        (broadcastInDim S2x4096x512 ![0, 1, 2] bcast_S1x1x512_S2x4096x512_0_1_2 (broadcastInDim S1x1x512 ![2] bcast_S512_S1x1x512_2
          (shapeCast S512 (extractStridedSlice S1x512 ![1, 0] (res_main_v18 U : FVec Ideal S3x512 .f32) slices_S3x512_S1x512_1_0)
            shapeCasts_S1x512_S512))) : FVec Ideal S2x4096x512 .f32))
      (mulf (extractStridedSlice S2x4096x512 ![0, 2, 0] (res_main_v274 U : FVec Ideal S2x4098x512 .f32) slices_S2x4098x512_S2x4096x512_0_2_0)
        (broadcastInDim S2x4096x512 ![0, 1, 2] bcast_S1x1x512_S2x4096x512_0_1_2 (broadcastInDim S1x1x512 ![2] bcast_S512_S1x1x512_2
          (shapeCast S512 (extractStridedSlice S1x512 ![2, 0] (res_main_v18 U : FVec Ideal S3x512 .f32) slices_S3x512_S1x512_2_0)
            shapeCasts_S1x512_S512))) : FVec Ideal S2x4096x512 .f32) : FVec Ideal S2x4096x512 .f32)
      : FVec Ideal S2x4096x512 .f32) shapeCasts_S2x4096x512_S8192x512 : FVec Ideal S8192x512 .f32) bitsLt_bf16_f32
    = sconf (U (Proc.devRef .tc main_arg1)) (U (Proc.devRef .tc main_arg6)) := by
  funext i
  idx_vars i
  unfold res_main_v3
  clean_types
  pointwise
  simp only [v274_at, v18_at, Nat.add_comm _ ((i0 : ℕ) % 4096)]
  unfold sconf taps
  rw [onto_first]
  rfl

/-- The third result. -/
theorem kept_eq : extractStridedSlice S2x32x512 ![0, 4094, 0] (res_main_v26 U : FVec Ideal S2x4126x512 .f32) slices_S2x4126x512_S2x32x512_0_4094_0
    = kept (U (Proc.devRef .tc main_arg0)) := by
  funext i
  idx_vars i
  pointwise
  exact v26_at U _ _ _

/-- The fourth result. -/
theorem skept_eq : extractStridedSlice S2x8x512 ![0, 4090, 0] (res_main_v274 U : FVec Ideal S2x4098x512 .f32) slices_S2x4098x512_S2x8x512_0_4090_0
    = skept (U (Proc.devRef .tc main_arg1)) := by
  funext i
  idx_vars i
  pointwise
  exact v274_at U _ _ _

/-- The reference's run: each result is the function of the arguments it computes, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v299) = conf (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v301) = sconf (m ((c.tc : Thread nD τ).loc main_arg1)) (m ((c.tc : Thread nD τ).loc main_arg6))
      ∧ r.2.mem ((c.tc : Thread nD τ).loc main_v302) = kept (m ((c.tc : Thread nD τ).loc main_arg0))
      ∧ r.2.mem ((c.tc : Thread nD τ).loc main_v303) = skept (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, h3, ha⟩ := h c
    exact ⟨h0.trans (conf_eq _), h1.trans (sconf_eq _), h2.trans (kept_eq _), h3.trans (skept_eq _), ha⟩) (Value.run (F := Ideal) m ρ)

end Cert.MixpReferenceIdeal.Hand
-- ==== Proof.MixpClaim.lean ====
/-
  The prompt's convolutions against their reference: both runs, and the equations of their results.
-/
module

public import proofs.«01_k».proof.Defs
public import proofs.«01_k».proof.Proof.MixpEnd
public import proofs.«01_k».proof.Proof.MixpRef
public import proofs.«01_k».proof.Proof.Gen.MixpIdeal
public import Idealize.ShloMosaic.Lib.Quiescent

@[expose] public section

noncomputable section

open Idealize.ShloMosaic Idealize.ShloMosaic.TcCoe Idealize.SL.Sem

namespace Cert.Proof.Mixp

open Cert.MixpIdeal.Hand (conf sconf kept skept)

/-- The reference terminates and leaves its arguments; it declares no semaphore. -/
theorem frame_ref : Cert.quiescent_MixpReferenceIdeal (hMixpReferenceIdeal := Cert.MixpReferenceIdeal.Gen.facts) := fun m ρ _ =>
  (θ_run Cert.MixpReferenceIdeal.defs _ _).mono
    (fun r h => ⟨fun c => (h c).2.2.2.2, sem_eq_zero_of_no_sems (by decide) r.2⟩)
    (Cert.MixpReferenceIdeal.Hand.run m ρ)

/-- The kernel's run: each result is the function of the arguments it computes. -/
theorem run_kernel (m : (ℓ : Loc Cert.MixpIdeal.nD Cert.MixpIdeal.τ Cert.MixpIdeal.sig) → Buf (Elt Ideal) ℓ) (ρ : Dev Cert.MixpIdeal.nD → PrngReg) :
    θ_run (Cert.MixpIdeal.defs (F := Ideal)) (onTc (τ := Cert.MixpIdeal.τ) (Cert.MixpIdeal.main (F := Ideal))) ⟨m, fun _ => 0, ρ⟩
      fun r => ∀ c : Dev Cert.MixpIdeal.nD,
        r.2.mem ((c.tc : Thread Cert.MixpIdeal.nD Cert.MixpIdeal.τ).loc Cert.MixpIdeal.main_v3_0)
          = conf (m ((c.tc : Thread Cert.MixpIdeal.nD Cert.MixpIdeal.τ).loc Cert.MixpIdeal.main_arg0)) (m ((c.tc : Thread Cert.MixpIdeal.nD Cert.MixpIdeal.τ).loc Cert.MixpIdeal.main_arg2))
              (m ((c.tc : Thread Cert.MixpIdeal.nD Cert.MixpIdeal.τ).loc Cert.MixpIdeal.main_arg3)) (m ((c.tc : Thread Cert.MixpIdeal.nD Cert.MixpIdeal.τ).loc Cert.MixpIdeal.main_arg4))
              (m ((c.tc : Thread Cert.MixpIdeal.nD Cert.MixpIdeal.τ).loc Cert.MixpIdeal.main_arg5))
        ∧ r.2.mem ((c.tc : Thread Cert.MixpIdeal.nD Cert.MixpIdeal.τ).loc Cert.MixpIdeal.main_v3_1)
          = sconf (m ((c.tc : Thread Cert.MixpIdeal.nD Cert.MixpIdeal.τ).loc Cert.MixpIdeal.main_arg1)) (m ((c.tc : Thread Cert.MixpIdeal.nD Cert.MixpIdeal.τ).loc Cert.MixpIdeal.main_arg6))
        ∧ r.2.mem ((c.tc : Thread Cert.MixpIdeal.nD Cert.MixpIdeal.τ).loc Cert.MixpIdeal.main_v3_2)
          = kept (m ((c.tc : Thread Cert.MixpIdeal.nD Cert.MixpIdeal.τ).loc Cert.MixpIdeal.main_arg0))
        ∧ r.2.mem ((c.tc : Thread Cert.MixpIdeal.nD Cert.MixpIdeal.τ).loc Cert.MixpIdeal.main_v3_3)
          = skept (m ((c.tc : Thread Cert.MixpIdeal.nD Cert.MixpIdeal.τ).loc Cert.MixpIdeal.main_arg1)) :=
  (θ_run Cert.MixpIdeal.defs _ _).mono
    (fun r h c => ⟨((h c).1 10).trans (Cert.MixpIdeal.Hand.final10 m c), ((h c).1 11).trans (Cert.MixpIdeal.Hand.final11 m c),
      ((h c).1 12).trans (Cert.MixpIdeal.Hand.final12 m c), ((h c).1 13).trans (Cert.MixpIdeal.Hand.final13 m c)⟩)
    (Cert.MixpIdeal.Gen.run_main m ρ)

/-- Kernel and reference end with the same four results. -/
theorem algebraic : Cert.algebraic_MixpIdeal_MixpReferenceIdeal (hMixpIdeal := Cert.MixpIdeal.Gen.facts)
    (hMixpReferenceIdeal := Cert.MixpReferenceIdeal.Gen.facts) := fun m ρ m' ρ' _ hag =>
  ⟨_, _, _, _,
    (θ_run Cert.MixpIdeal.defs _ _).mono (fun r h c => ⟨(h.2 c).1, (h.2 c).2.1, (h.2 c).2.2.1, (h.2 c).2.2.2, h.1.1 c⟩)
      (θ_run_and (Cert.MixpIdeal.Gen.frame m ρ) (run_kernel m ρ)),
    (θ_run Cert.MixpReferenceIdeal.defs _ _).mono (fun r h c => by
      obtain ⟨h0, h1, h2, h3, ha⟩ := h c
      obtain ⟨e0, e1, e2, e3, e4, e5, e6⟩ := hag c
      rw [e0, e2, e3, e4, e5] at h0
      rw [e1, e6] at h1
      rw [e0] at h2
      rw [e1] at h3
      exact ⟨h0, h1, h2, h3, ha⟩) (Cert.MixpReferenceIdeal.Hand.run m' ρ')⟩

end Cert.Proof.Mixp

end
-- ==== Proof.InsRun.lean ====
/-
  The sample's input projection: one step of its body. Its 32 rows are a single row block.
-/
module

public import proofs.«01_k».proof.Proof.Gen.InprojsIdeal.Frame
public import proofs.«01_k».proof.Proof.InShared

@[expose] public section

set_option maxRecDepth 16384

noncomputable section

namespace Cert.InprojsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InprojsIdeal.Gen Cert.Hand.Blocks

variable {F : FTy → Type} [FloatOps F]

local notation "𝕄" => MT nD τ sig Unit (Elt F) ℕ (UR sig nD τ) ℕ

/-- The sample's rows, cast to bf16: what the first step keeps for all others. -/
def kept (x : Vec F S32x2048 .f32) : Vec F S32x2048 .bf16 :=
  shapeCast S32x2048 (truncf .bf16 (shapeCast S32x2048 x shapeCasts_S32x2048_S32x2048 : FVec F S32x2048 .f32) bitsLt_bf16_f32)
    shapeCasts_S32x2048_S32x2048

/-- The kept rows times 512 columns of the weight. -/
def prod (s : Vec F S32x2048 .bf16) (w : Vec F S1x2048x512 .f32) : Vec F S32x512 .f32 :=
  matmul dot_S32x2048_S2048x512_S32x512_1_0_0_1_n_n none s
    (truncf .bf16 (shapeCast S2048x512 w shapeCasts_S1x2048x512_S2048x512 : FVec F S2048x512 .f32) bitsLt_bf16_f32)
    (constant S32x512 .f32 0x00000000#32)

/-- The queries' columns: scaled, then cast to bf16. -/
def scaled (p : Vec F S32x512 .f32) : Vec F S32x512 .bf16 :=
  truncf .bf16 (mulf p (broadcast S32x512 (Scalar.ofBits .f32 0x3DB504F3#32 : F .f32)) : FVec F S32x512 .f32) bitsLt_bf16_f32

/-- The condition under which a step keeps the rows: it is the first. -/
def first (i : grid0.Coords) : BitVec 1 :=
  Scalar.cmpi .ne (Scalar.extui (Scalar.cmpi .eq (BitVec.ofNat 32 (i 1).val) 0#32) : BitVec 32) 0#32

/-- Which of its six conditions a step meets: the output it writes, and for the first output whether it also keeps the rows. -/
def Meets (i : grid0.Coords) : Prop :=
  ((first i = 1#1 ∨ ¬ first i = 1#1) ∧ k0_cond2 i = 1#1 ∧ ¬ k0_cond3 i = 1#1 ∧ ¬ k0_cond4 i = 1#1 ∧ ¬ k0_cond5 i = 1#1 ∧ ¬ k0_cond6 i = 1#1)
  ∨ (¬ first i = 1#1 ∧ ¬ k0_cond2 i = 1#1 ∧
      ((k0_cond3 i = 1#1 ∧ ¬ k0_cond4 i = 1#1 ∧ ¬ k0_cond5 i = 1#1 ∧ ¬ k0_cond6 i = 1#1)
      ∨ (¬ k0_cond3 i = 1#1 ∧ k0_cond4 i = 1#1 ∧ ¬ k0_cond5 i = 1#1 ∧ ¬ k0_cond6 i = 1#1)
      ∨ (¬ k0_cond3 i = 1#1 ∧ ¬ k0_cond4 i = 1#1 ∧ k0_cond5 i = 1#1 ∧ ¬ k0_cond6 i = 1#1)
      ∨ (¬ k0_cond3 i = 1#1 ∧ ¬ k0_cond4 i = 1#1 ∧ ¬ k0_cond5 i = 1#1 ∧ k0_cond6 i = 1#1)))

set_option maxHeartbeats 4000000 in
/-- A step leaves its two inputs, keeps the rows if it is the first, and writes the product into the output whose condition it meets. -/
theorem step (c : Dev nD) (i : grid0.Coords) (bx : Memref sig .tc .vmem S32x2048 .f32) (wx : bx.IsWhole)
    (bw : Memref sig .tc .vmem S1x2048x512 .f32) (ww : bw.IsWhole)
    (b1 : Memref sig .tc .vmem S32x512 .f32) (w1 : b1.IsWhole) (b2 : Memref sig .tc .vmem S32x512 .bf16) (w2 : b2.IsWhole)
    (b3 : Memref sig .tc .vmem S32x512 .f32) (w3 : b3.IsWhole) (b4 : Memref sig .tc .vmem S32x512 .f32) (w4 : b4.IsWhole)
    (b5 : Memref sig .tc .vmem S32x512 .f32) (w5 : b5.IsWhole) (bs : Memref sig .tc .vmem S32x2048 .bf16) (ws : bs.IsWhole)
    (x : Vec F S32x2048 .f32) (w : Vec F S1x2048x512 .f32) (y1 : Vec F S32x512 .f32) (y2 : Vec F S32x512 .bf16)
    (y3 y4 y5 : Vec F S32x512 .f32) (s : Vec F S32x2048 .bf16) (hi : Meets i) (E : Set ℕ) (K : PUnit → sProp 𝕄) :
    iprop(owns (c : Thread nD τ) bx fullShare x ∗ owns (c : Thread nD τ) bw fullShare w ∗ owns (c : Thread nD τ) b1 fullShare y1
        ∗ owns (c : Thread nD τ) b2 fullShare y2 ∗ owns (c : Thread nD τ) b3 fullShare y3 ∗ owns (c : Thread nD τ) b4 fullShare y4
        ∗ owns (c : Thread nD τ) b5 fullShare y5 ∗ owns (c : Thread nD τ) bs fullShare s
        ∗ (iprop(owns (c : Thread nD τ) bx fullShare x ∗ owns (c : Thread nD τ) bw fullShare w
              ∗ owns (c : Thread nD τ) b1 fullShare (put (k0_cond2 i) (prod (put (first i) (kept x) s) w) y1)
              ∗ owns (c : Thread nD τ) b2 fullShare (put (k0_cond3 i) (scaled (prod (put (first i) (kept x) s) w)) y2)
              ∗ owns (c : Thread nD τ) b3 fullShare (put (k0_cond4 i) (prod (put (first i) (kept x) s) w) y3)
              ∗ owns (c : Thread nD τ) b4 fullShare (put (k0_cond5 i) (prod (put (first i) (kept x) s) w) y4)
              ∗ owns (c : Thread nD τ) b5 fullShare (put (k0_cond6 i) (prod (put (first i) (kept x) s) w) y5)
              ∗ owns (c : Thread nD τ) bs fullShare (put (first i) (kept x) s)) -∗ K ⟨⟩))
      ⊢ wp frame (wpE (defs₀ (F := F)) Variants.none c none) E (cc0_inproj i bx wx bw ww b1 w1 b2 w2 b3 w3 b4 w4 b5 w5 bs ws) K := by
  rcases hi with ⟨h1 | h1, h2, h3, h4, h5, h6⟩ | ⟨h1, h2, ⟨h3, h4, h5, h6⟩ | ⟨h3, h4, h5, h6⟩ | ⟨h3, h4, h5, h6⟩ | ⟨h3, h4, h5, h6⟩⟩
  all_goals
    simp only [put, h1, h2, h3, h4, h5, h6, if_true, if_false]
    unfold first at h1
    unfold cc0_inproj
    iintro ⟨H1, H2, H3, H4, H5, H6, H7, H8, Hk⟩
    ihave H1 := (owns_unread c bx wx x) $$ H1
    ihave H2 := (owns_unread c bw ww w) $$ H2
    ihave H3 := (owns_unread c b1 w1 y1) $$ H3
    ihave H4 := (owns_unread c b2 w2 y2) $$ H4
    ihave H5 := (owns_unread c b3 w3 y3) $$ H5
    ihave H6 := (owns_unread c b4 w4 y4) $$ H6
    ihave H7 := (owns_unread c b5 w5 y5) $$ H7
    ihave H8 := (owns_unread c bs ws s) $$ H8
    sl_exec (disch := first | sl_exact h1 | sl_exact h2 | sl_exact h3 | sl_exact h4 | sl_exact h5 | sl_exact h6)
    sl_step
    iapply Hk
    isplitl [H1]; · iapply (owns_read c bx _ x (wx.read_unread x)); iexact H1
    isplitl [H2]; · iapply (owns_read c bw _ w (ww.read_unread w)); iexact H2
    isplitl [H3]
    · first
        | have hf : _ = 1#1 := h1
          unfold owns; iexists _; isplitr
          swap; · iexact H3
          ipureintro; exact holds_stored _ _ _ _ _ (congrArg₂ prod (load_stored _ _ _ _ _ _ (congrArg kept (load_full wx _ _)) _) (load_full ww _ _)) _
        | have hw : _ = 1#1 := h2
          unfold owns; iexists _; isplitr
          swap; · iexact H3
          ipureintro; exact holds_stored _ _ _ _ _ (congrArg₂ prod (load_full ws _ _) (load_full ww _ _)) _
        | iapply (owns_read c b1 _ y1 (w1.read_unread y1)); iexact H3
    isplitl [H4]
    · first
        | have hw : _ = 1#1 := h3
          unfold owns; iexists _; isplitr
          swap; · iexact H4
          ipureintro; exact holds_stored _ _ _ _ _ (congrArg scaled (congrArg₂ prod (load_full ws _ _) (load_full ww _ _))) _
        | iapply (owns_read c b2 _ y2 (w2.read_unread y2)); iexact H4
    isplitl [H5]
    · first
        | have hw : _ = 1#1 := h4
          unfold owns; iexists _; isplitr
          swap; · iexact H5
          ipureintro; exact holds_stored _ _ _ _ _ (congrArg₂ prod (load_full ws _ _) (load_full ww _ _)) _
        | iapply (owns_read c b3 _ y3 (w3.read_unread y3)); iexact H5
    isplitl [H6]
    · first
        | have hw : _ = 1#1 := h5
          unfold owns; iexists _; isplitr
          swap; · iexact H6
          ipureintro; exact holds_stored _ _ _ _ _ (congrArg₂ prod (load_full ws _ _) (load_full ww _ _)) _
        | iapply (owns_read c b4 _ y4 (w4.read_unread y4)); iexact H6
    isplitl [H7]
    · first
        | have hw : _ = 1#1 := h6
          unfold owns; iexists _; isplitr
          swap; · iexact H7
          ipureintro; exact holds_stored _ _ _ _ _ (congrArg₂ prod (load_full ws _ _) (load_full ww _ _)) _
        | iapply (owns_read c b5 _ y5 (w5.read_unread y5)); iexact H7
    first
      | have hf : _ = 1#1 := h1
        unfold owns; iexists _; isplitr
        swap; · iexact H8
        ipureintro; exact holds_stored _ _ _ _ _ (congrArg kept (load_full wx _ _)) _
      | iapply (owns_read c bs _ s (ws.read_unread s)); iexact H8

end Cert.InprojsIdeal.Hand

end
-- ==== Proof.InsFrame.lean ====
/-
  The frame of the sample's input projection: eleven steps over the same 32 rows.
-/
module

public import proofs.«01_k».proof.Proof.InsRun

@[expose] public section

set_option maxRecDepth 16384

noncomputable section

namespace Cert.InprojsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InprojsIdeal.Gen Cert.Hand.Blocks

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: the eleven steps are one row block -/

theorem N_mod : cfg0.N % 11 = 0 := by rw [show cfg0.N = 11 from N_0]

instance (i : grid0.Coords) : Decidable (Meets i) := by unfold Meets; infer_instance

/-- Every step meets one of the combinations of conditions, and its conditions say where it stands: whether it is the first, and
    which of the five outputs it writes. -/
theorem conds : ∀ t : Fin cfg0.N, Meets (grid0.coords t)
    ∧ (first (grid0.coords t) = 1#1 ↔ t.val % 11 = 0)
    ∧ (k0_cond2 (grid0.coords t) = 1#1 ↔ 0 ≤ t.val % 11 ∧ t.val % 11 ≤ 1)
    ∧ (k0_cond3 (grid0.coords t) = 1#1 ↔ 2 ≤ t.val % 11 ∧ t.val % 11 ≤ 3)
    ∧ (k0_cond4 (grid0.coords t) = 1#1 ↔ 4 ≤ t.val % 11 ∧ t.val % 11 ≤ 5)
    ∧ (k0_cond5 (grid0.coords t) = 1#1 ↔ 6 ≤ t.val % 11 ∧ t.val % 11 ≤ 7)
    ∧ (k0_cond6 (grid0.coords t) = 1#1 ↔ 8 ≤ t.val % 11 ∧ t.val % 11 ≤ 10) :=
  (by decide +kernel : ∀ t : Fin grid0.N, _)

/-- The five outputs, in turn: the first four take two steps each, the last takes three. -/
theorem sched : Sched cfg0 2 0 1 ∧ Sched cfg0 3 2 3 ∧ Sched cfg0 4 4 5 ∧ Sched cfg0 5 6 7 ∧ Sched cfg0 6 8 10 :=
  ⟨⟨rfl, fun _ _ => rfl, (by decide +kernel : ∀ t : Fin grid0.N, _), (by decide +kernel : ∀ t : Fin grid0.N, _),
    (by decide +kernel : ∀ t : Fin grid0.N, _)⟩,
   ⟨rfl, fun _ _ => rfl, (by decide +kernel : ∀ t : Fin grid0.N, _), (by decide +kernel : ∀ t : Fin grid0.N, _),
    (by decide +kernel : ∀ t : Fin grid0.N, _)⟩,
   ⟨rfl, fun _ _ => rfl, (by decide +kernel : ∀ t : Fin grid0.N, _), (by decide +kernel : ∀ t : Fin grid0.N, _),
    (by decide +kernel : ∀ t : Fin grid0.N, _)⟩,
   ⟨rfl, fun _ _ => rfl, (by decide +kernel : ∀ t : Fin grid0.N, _), (by decide +kernel : ∀ t : Fin grid0.N, _),
    (by decide +kernel : ∀ t : Fin grid0.N, _)⟩,
   ⟨rfl, fun _ _ => rfl, (by decide +kernel : ∀ t : Fin grid0.N, _), (by decide +kernel : ∀ t : Fin grid0.N, _),
    (by decide +kernel : ∀ t : Fin grid0.N, _)⟩⟩

/-! ## What the buffers hold -/

/-- Where the rows are kept. -/
abbrev keep : Memref sig .tc .vmem S32x2048 .bf16 := Memref.whole cc0_scratch0

theorem PhiA_eq (c : Dev nD) :
    (Pipeline.ΦA spec0 c : sProp 𝕄) = iprop(iprop((∃ d, owns (c : Thread nD τ) keep fullShare d)) ∗ (∃ r, prngReg c r)) := by
  unfold Pipeline.ΦA; rw [scopedRest0_eq]; simp only [keep, owns_whole]; try rfl

/-- The rows that step `t` uses. -/
def rows (c : Dev nD) (t : Fin cfg0.N) : Vec F S32x2048 .bf16 := kept (iblk m c 0 t)

/-- The columns that step `t` makes. -/
def made (c : Dev nD) (t : Fin cfg0.N) : Vec F S32x512 .f32 := prod (rows m c t) (iblk m c 1 t)

/-- After a step the inputs' buffers hold their blocks, and each output's the columns of the nearest step that writes it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => made m c (near N_mod 0 1 t)
    | ⟨3, _⟩ => scaled (made m c (near N_mod 2 3 t))
    | ⟨4, _⟩ => made m c (near N_mod 4 5 t)
    | ⟨5, _⟩ => made m c (near N_mod 6 7 t)
    | ⟨6, _⟩ => made m c (near N_mod 8 10 t)
  Φ t := Held c (Pipeline.ΦA spec0 c) keep (rows m c) t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = made m c (near N_mod 0 1 t) := by dsimp only [dats]
theorem after_3 (c : Dev nD) (t : Fin cfg0.N) : (dats m 0 c).after 3 t = scaled (made m c (near N_mod 2 3 t)) := by dsimp only [dats]
theorem after_4 (c : Dev nD) (t : Fin cfg0.N) : (dats m 0 c).after 4 t = made m c (near N_mod 4 5 t) := by dsimp only [dats]
theorem after_5 (c : Dev nD) (t : Fin cfg0.N) : (dats m 0 c).after 5 t = made m c (near N_mod 6 7 t) := by dsimp only [dats]
theorem after_6 (c : Dev nD) (t : Fin cfg0.N) : (dats m 0 c).after 6 t = made m c (near N_mod 8 10 t) := by dsimp only [dats]

/-- All steps use the same rows. -/
theorem rows_pred (c : Dev nD) (t : Fin cfg0.N) (h : t.val % 11 ≠ 0) :
    rows m c t = rows m c ⟨t.val - 1, Nat.lt_of_le_of_lt (Nat.sub_le _ _) t.isLt⟩ :=
  congrArg kept (same_block (dats m 0 c) 0 rfl (fun _ _ => rfl) (iblk m c 0)
    (fun t d => by unfold Dat.fetched Dat.blockOf iblk; rw [A_eq]; rfl) t (by rw [← Bool.not_eq_true, fetch0_0 t]; exact h))

/-! ## One step's obligation -/

/-- What a step finds, -/
def found (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it leaves. -/
def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- The rows a step finds kept are its own, unless it is the first and keeps them itself. -/
theorem found_rows (c : Dev nD) (t : Fin cfg0.N) :
    (dats m 0 c).Φ t.castSucc ⊢ iprop((∃ s, ⌜put (first (grid0.coords t)) (rows m c t) s = rows m c t⌝ ∗ owns (c : Thread nD τ) keep fullShare s)
      ∗ (∃ r, prngReg c r)) := by
  rw [show (dats m 0 c).Φ t.castSucc = Held c (Pipeline.ΦA spec0 c) keep (rows m c) t.val (Nat.le_of_lt t.isLt) from by
    dsimp only [dats]; exact Pipeline.Dat.Φ_castSucc (Held c (Pipeline.ΦA spec0 c) keep (rows m c)) t]
  exact held_pre c (fun t => first (grid0.coords t)) (by rw [PhiA_eq]) (fun t => (conds t).2.1) (rows_pred m c) t

set_option maxHeartbeats 2000000 in
theorem sound_body (c : Dev nD) (t : Fin cfg0.N) :
    found m c t ⊢ wp frame (wpE (defs₀ (F := F)) Variants.none c none) Set.univ (bodyAt0 t) (fun _ => left m c t) := by
  obtain ⟨hi, hfirst, c2, c3, c4, c5, c6⟩ := conds t
  obtain ⟨s2, s3, s4, s5, s6⟩ := sched
  unfold found left bodyAt0
  simp only [before0_0_of m (dats m 0 c) (A_eq m c 0) (after_0 m c), before0_1_of m (dats m 0 c) (A_eq m c 1) (after_1 m c)]
  rw [show (dats m 0 c).owesAt () t.succ = (dats m 0 c).owesAt () t.castSucc from rfl,
    show (dats m 0 c).Φ t.succ = iprop(owns (c : Thread nD τ) keep fullShare (rows m c t) ∗ (∃ r, prngReg c r)) from rfl,
    show (dats m 0 c).leavesExact 0 t = owns (c : Thread nD τ) (st0_0 t) fullShare (iblk m c 0 t) from by rw [← after_0],
    show (dats m 0 c).leavesExact 1 t = owns (c : Thread nD τ) (st0_1 t) fullShare (iblk m c 1 t) from by rw [← after_1]]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (found_rows m c t) $$ HΦ
  icases HΦ' with ⟨⟨%s, %hs, HS⟩, Hg⟩
  have hp : prod (put (first (grid0.coords t)) (kept (iblk m c 0 t)) s) (iblk m c 1 t) = made m c t :=
    congrArg (fun r => prod r (iblk m c 1 t)) hs
  iapply (step c (grid0.coords t) _ _ _ _ _ _ _ _ _ _ _ _ _ _ _ _ (iblk m c 0 t) (iblk m c 1 t) _ _ _ _ _ s hi Set.univ _)
  iframe H0 H1 H2 H3 H4 H5 H6 HS
  rw [hp, show put (first (grid0.coords t)) (kept (iblk m c 0 t)) s = rows m c t from hs]
  iintro ⟨H0, H1, H2, H3, H4, H5, H6, HS⟩
  iframe HS Hg Ho H0 H1
  isplitl [H2]
  · iapply (leaves_near (dats m 0 c) s2 N_mod (made m c) (after_2 m c) t c2 d2); iexact H2
  isplitl [H3]
  · iapply (leaves_near (dats m 0 c) s3 N_mod (fun t => scaled (made m c t)) (after_3 m c) t c3 d3); iexact H3
  isplitl [H4]
  · iapply (leaves_near (dats m 0 c) s4 N_mod (made m c) (after_4 m c) t c4 d4); iexact H4
  isplitl [H5]
  · iapply (leaves_near (dats m 0 c) s5 N_mod (made m c) (after_5 m c) t c5 d5); iexact H5
  iapply (leaves_near (dats m 0 c) s6 N_mod (made m c) (after_6 m c) t c6 d6); iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The call -/

theorem hout (c : Dev nD) : (dats m 0 c).Φ (Fin.last cfg0.N) ⊢ Pipeline.ΦA spec0 c := by
  rw [show (dats m 0 c).Φ (Fin.last cfg0.N) = Held c (Pipeline.ΦA spec0 c) keep (rows m c) 11 (le_of_eq N_0.symm) from rfl]
  exact held_post c (by rw [PhiA_eq]) 10 _

set_option backward.isDefEq.respectTransparency.types false in
/-- The call ends with every array at what the steps left in it, and no semaphore raised. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame of the call: the two arguments end as they began, and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.InprojsIdeal.Hand

end
-- ==== Proof.InsTwin.lean ====
/-
  The frame of the sample's input projection as printed for its own formats, from that of the program over any formats.
-/
module

public import proofs.«01_k».proof.Proof.InsFrame
public import proofs.«01_k».proof.Proof.Gen.Inprojs.Frame

@[expose] public section

set_option maxRecDepth 16384

noncomputable section

namespace Cert.Inprojs.Hand

open Idealize.ShloMosaic Idealize.ShloMosaic.TcCoe Idealize.SL.Sem

variable {F : FTy → Type} [FloatOps F]

/-- The two programs call the same bodies. -/
theorem defs_eq : (Cert.Inprojs.defs (F := F)) = Cert.InprojsIdeal.defs (F := F) := by
  have h : (Cert.Inprojs.defs₀ (F := F)) = Cert.InprojsIdeal.defs₀ (F := F) := by
    unfold Cert.Inprojs.defs₀ Cert.InprojsIdeal.defs₀
    refine congrArg Defs.onTc (funext fun l => ?_)
    match l with
    | ⟨0, _⟩ => rfl
  exact congrArg (Pipeline.defs (Cert.InprojsIdeal.pcfgs (F := F))) h

/-- The frame of the call: the two arguments end as they began, and no semaphore raised. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.InprojsIdeal.Hand.frame m ρ

end Cert.Inprojs.Hand

end
-- ==== Proof.InsStep.lean ====
/-
  The sample's input projection: the five arrays it writes, as functions of the sample and the weight.
-/
module

public import proofs.«01_k».proof.Proof.InCols
public import proofs.«01_k».proof.Proof.InsFrame
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.InprojsIdeal.Hand

open Cert.InprojsIdeal Cert.InprojsIdeal.Gen Cert.Hand Cert.Hand.Blocks Cert.Hand.Columns

variable (m : (ℓ : Loc nD τ sig) → Buf (Elt Ideal) ℓ) (c : Dev nD)

/-- The call's activations and its weight. -/
abbrev arg0 : Fin 32 → Fin 2048 → EReal := tokens (m ((c : Thread nD τ).loc main_arg0))
abbrev arg1 : FVec Ideal S2x2048x5632 .f32 := m ((c : Thread nD τ).loc main_arg1)

/-- Where each window stands: the activations' rows never move, the weight's columns move by one block a step, an output's while
    its steps last. -/
theorem idx : ∀ t : Fin cfg0.N, win0_0.index t = ![0, 0] ∧ win0_1.index t = ![0, 0, t.val % 11]
    ∧ win0_2.index t = ![0, min 1 (t.val % 11)] ∧ win0_3.index t = ![0, min 1 (t.val % 11 - 2)]
    ∧ win0_4.index t = ![0, min 1 (t.val % 11 - 4)] ∧ win0_5.index t = ![0, min 1 (t.val % 11 - 6)]
    ∧ win0_6.index t = ![0, min 2 (t.val % 11 - 8)] ∧ t.val / 11 = 0 :=
  (by decide +kernel : ∀ t : Fin grid0.N, _)

/-- The activations are reshaped to rows before the first step. -/
theorem V0 : V m c main_v0 = shapeCast S32x2048 (m ((c : Thread nD τ).loc main_arg0)) shapeCasts_S32x1x2048_S32x2048 := by
  simp only [V, hostOps0, List.flatten_cons, List.flatten_nil, List.append_nil, List.cons_append, List.nil_append]
  entry_read
  rfl

theorem blk0 (t : Fin cfg0.N) (n : Fin 32) (k : Fin 2048) : iblk m c 0 t (ix2 n k) = arg0 m c n k := by
  have e : (win0_0.blk t).view.emb (ix2 n k) = ix2 n k := by
    blk_ext [idx t]
  refine (congrFun (V0 m c) ((win0_0.blk t).view.emb (ix2 n k))).trans ?_
  rw [e]
  unfold arg0 tokens
  pointwise

theorem blk1 (t : Fin cfg0.N) (k : Fin 2048) (q : Fin 512) (l : Fin 5632) (hl : l.val = t.val % 11 * 512 + q.val) :
    iblk m c 1 t (ix3 0 k q) = arg1 m c (ix3 0 k l) := by
  blk_point [iblk, V, idx t]

/-- A product of kept rows, with the casts gone. -/
theorem prod_kept (x : Vec Ideal S32x2048 .f32) (w : Vec Ideal S1x2048x512 .f32) (n : Fin 32) (q : Fin 512) :
    prod (kept x) w (ix2 n q) = ∑ k : Fin 2048, x (ix2 n k) * w (ix3 0 k q) := by
  unfold prod kept
  pointwise

theorem scaled_at (v : Vec Ideal S32x512 .f32) (i : S32x512.Idx) : scaled v i = v i * Ideal.ofBits .f32 0x3DB504F3#32 := by
  unfold scaled
  pointwise

/-- A step makes 512 columns of every row. -/
theorem made_at (t : Fin cfg0.N) (r : Fin 32) (q : Fin 512) (n : Fin 32) (l : Fin 5632)
    (hn : n.val = t.val / 11 * 32 + r.val) (hl : l.val = t.val % 11 * 512 + q.val) :
    made m c t (ix2 r q) = entry (arg0 m c) (arg1 m c) n l := by
  obtain rfl : n = r := Fin.ext (by have := (idx t).2.2.2.2.2.2.2; omega)
  refine (prod_kept _ _ n q).trans (Finset.sum_congr rfl fun k _ => ?_)
  rw [blk0, blk1 m c t k q l hl]

/-- The first 1024 columns. -/
theorem final2 : (dats m 0 c).arrAt 2 cfg0.N = cols 0 (by omega) (arg0 m c) (arg1 m c) := by
  refine (dats m 0 c).arrAt_eq_of_covers 2 _ (by decide +kernel) fun t hf y => ?_
  idx_vars y
  blk_simp
  rw [after_2]
  exact near_entry N_mod (made m c) _ _ (made_at m c) 0 1 (by omega) (by omega) t y0 y1 _ _ (by blk_simp [idx t]) (by blk_simp [idx t]; rfl)

/-- The next 1024, scaled. -/
theorem final3 : (dats m 0 c).arrAt 3 cfg0.N = queries (arg0 m c) (arg1 m c) := by
  refine (dats m 0 c).arrAt_eq_of_covers 3 _ (by decide +kernel) fun t hf y => ?_
  idx_vars y
  blk_simp
  rw [after_3]
  refine (scaled_at _ _).trans (congrArg (· * _) ?_)
  exact near_entry N_mod (made m c) _ _ (made_at m c) 2 3 (by omega) (by omega) t y0 y1 _ _ (by blk_simp [idx t]) (by blk_simp [idx t])

/-- The next 1024. -/
theorem final4 : (dats m 0 c).arrAt 4 cfg0.N = cols 2048 (by omega) (arg0 m c) (arg1 m c) := by
  refine (dats m 0 c).arrAt_eq_of_covers 4 _ (by decide +kernel) fun t hf y => ?_
  idx_vars y
  blk_simp
  rw [after_4]
  exact near_entry N_mod (made m c) _ _ (made_at m c) 4 5 (by omega) (by omega) t y0 y1 _ _ (by blk_simp [idx t]) (by blk_simp [idx t])

/-- The 1024 after those. -/
theorem final5 : (dats m 0 c).arrAt 5 cfg0.N = cols 3072 (by omega) (arg0 m c) (arg1 m c) := by
  refine (dats m 0 c).arrAt_eq_of_covers 5 _ (by decide +kernel) fun t hf y => ?_
  idx_vars y
  blk_simp
  rw [after_5]
  exact near_entry N_mod (made m c) _ _ (made_at m c) 6 7 (by omega) (by omega) t y0 y1 _ _ (by blk_simp [idx t]) (by blk_simp [idx t])

/-- The last 1536. -/
theorem final6 : (dats m 0 c).arrAt 6 cfg0.N = rest (arg0 m c) (arg1 m c) := by
  refine (dats m 0 c).arrAt_eq_of_covers 6 _ (by decide +kernel) fun t hf y => ?_
  idx_vars y
  blk_simp
  rw [after_6]
  exact near_entry N_mod (made m c) _ _ (made_at m c) 8 10 (by omega) (by omega) t y0 y1 _ _ (by blk_simp [idx t]) (by blk_simp [idx t])

end Cert.InprojsIdeal.Hand

end
-- ==== Proof.InsRef.lean ====
/-
  The reference of the sample's input projection: each result as a function of the sample and the weight.
-/
module

public import proofs.«01_k».proof.Proof.InCols
public import proofs.«01_k».proof.Proof.Gen.InprojsReferenceIdeal.Run
public import Idealize.ShloMosaic.Lib.Tactic.CleanTypes

@[expose] public section

set_option maxRecDepth 16384

noncomputable section

open Idealize.ShloMosaic Idealize.ShloMosaic.TcCoe Idealize.SL.Sem

namespace Cert.InprojsReferenceIdeal.Hand

open Cert.InprojsReferenceIdeal Cert.InprojsReferenceIdeal.Gen Cert.Hand Cert.Hand.Columns

/-- The sample times the layer's weight. -/
def whole (x : FVec Ideal S32x1x2048 .f32) (w : FVec Ideal S2x2048x5632 .f32) : FVec Ideal S32x1x5632 .f32 :=
  Host.dotGeneral (φ₁ := .f32) (φ₂ := .f32) dot_S32x1x2048_S2048x5632_S32x1x5632_2_0_01_1_n_n none x
    (shapeCast S2048x5632 (extractStridedSlice S1x2048x5632 ![0, 0, 0] w slices_S2x2048x5632_S1x2048x5632_0_0_0)
      shapeCasts_S1x2048x5632_S2048x5632)

theorem whole_at (x : FVec Ideal S32x1x2048 .f32) (w : FVec Ideal S2x2048x5632 .f32) (n : Fin 32) (l : Fin 5632) :
    tokens (whole x w) n l = entry (tokens x) w n l := by
  unfold whole tokens entry
  pointwise

/-- An entry of the product at a column given by its number. -/
theorem whole_col (x : FVec Ideal S32x1x2048 .f32) (w : FVec Ideal S2x2048x5632 .f32) (n : Fin 32) {l l' : Fin 5632} (h : l.val = l'.val) :
    whole x w (ix3 n 0 l) = entry (tokens x) w n l' := by
  rw [Fin.ext h]
  exact whole_at x w n l'

/-- The first two groups of 512 columns, joined. -/
theorem first_eq (x : FVec Ideal S32x1x2048 .f32) (w : FVec Ideal S2x2048x5632 .f32) :
    shapeCast S32x1024 (concatenate S32x1x1024 2
      [⟨S32x1x512, extractStridedSlice S32x1x512 ![0, 0, 0] (whole x w) slices_S32x1x5632_S32x1x512_0_0_0⟩,
       ⟨S32x1x512, extractStridedSlice S32x1x512 ![0, 0, 512] (whole x w) slices_S32x1x5632_S32x1x512_0_0_512⟩]
      concatenates_S32x1x512_S32x1x512_S32x1x1024_d2) shapeCasts_S32x1x1024_S32x1024 = cols 0 (by omega) (tokens x) w := by
  funext i
  idx_vars i
  have h := fun {l l' : Fin 5632} => whole_col x w i0 (l := l) (l' := l')
  unfold cols
  generalize whole x w = P at h ⊢
  pointwise
  split
  · exact h rfl
  · exact h (by simp only []; omega)

/-- A group of 1024 columns, from `o` on. -/
theorem group_eq (x : FVec Ideal S32x1x2048 .f32) (w : FVec Ideal S2x2048x5632 .f32) (o : ℕ) (ho : o ≤ 4608)
    (hs : S32x1x5632.Slices ![0, 0, o] S32x1x1024) :
    shapeCast S32x1024 (extractStridedSlice S32x1x1024 ![0, 0, o] (whole x w) hs) shapeCasts_S32x1x1024_S32x1024
      = cols o ho (tokens x) w := by
  funext i
  idx_vars i
  have h := fun {l l' : Fin 5632} => whole_col x w i0 (l := l) (l' := l')
  unfold cols
  generalize whole x w = P at h ⊢
  pointwise
  exact h rfl

/-- The group that is scaled. -/
theorem scaled_eq (x : FVec Ideal S32x1x2048 .f32) (w : FVec Ideal S2x2048x5632 .f32) :
    truncf .bf16 (shapeCast S32x1024 (mulf (extractStridedSlice S32x1x1024 ![0, 0, 1024] (whole x w) slices_S32x1x5632_S32x1x1024_0_0_1024)
      (broadcastInDim S32x1x1024 ![] bcast_S_S32x1x1024 (constant (F := Ideal) S_ .f32 0x3DB504F3#32)) :
        FVec Ideal S32x1x1024 .f32) shapeCasts_S32x1x1024_S32x1024 : FVec Ideal S32x1024 .f32) bitsLt_bf16_f32
    = queries (tokens x) w := by
  funext i
  unfold queries
  rw [← group_eq x w 1024 (by omega) slices_S32x1x5632_S32x1x1024_0_0_1024]
  idx_vars i
  generalize whole x w = P
  pointwise

/-- The last three groups of 512 columns, joined. -/
theorem rest_eq (x : FVec Ideal S32x1x2048 .f32) (w : FVec Ideal S2x2048x5632 .f32) :
    shapeCast S32x1536 (concatenate S32x1x1536 2
      [⟨S32x1x512, extractStridedSlice S32x1x512 ![0, 0, 4096] (whole x w) slices_S32x1x5632_S32x1x512_0_0_4096⟩,
       ⟨S32x1x512, extractStridedSlice S32x1x512 ![0, 0, 4608] (whole x w) slices_S32x1x5632_S32x1x512_0_0_4608⟩,
       ⟨S32x1x512, extractStridedSlice S32x1x512 ![0, 0, 5120] (whole x w) slices_S32x1x5632_S32x1x512_0_0_5120⟩]
      concatenates_S32x1x512_S32x1x512_S32x1x512_S32x1x1536_d2) shapeCasts_S32x1x1536_S32x1536 = rest (tokens x) w := by
  funext i
  idx_vars i
  have h := fun {l l' : Fin 5632} => whole_col x w i0 (l := l) (l' := l')
  unfold rest
  generalize whole x w = P at h ⊢
  pointwise
  split
  · exact h rfl
  · split <;> exact h (by simp only [ix2]; omega)

/-- The reference's run: each result is that function of the two arguments, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
          = cols 0 (by omega) (tokens (m ((c.tc : Thread nD τ).loc main_arg0))) (m ((c.tc : Thread nD τ).loc main_arg1))
      ∧ r.2.mem ((c.tc : Thread nD τ).loc main_v16)
          = queries (tokens (m ((c.tc : Thread nD τ).loc main_arg0))) (m ((c.tc : Thread nD τ).loc main_arg1))
      ∧ r.2.mem ((c.tc : Thread nD τ).loc main_v17)
          = cols 2048 (by omega) (tokens (m ((c.tc : Thread nD τ).loc main_arg0))) (m ((c.tc : Thread nD τ).loc main_arg1))
      ∧ r.2.mem ((c.tc : Thread nD τ).loc main_v18)
          = cols 3072 (by omega) (tokens (m ((c.tc : Thread nD τ).loc main_arg0))) (m ((c.tc : Thread nD τ).loc main_arg1))
      ∧ r.2.mem ((c.tc : Thread nD τ).loc main_v20)
          = rest (tokens (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h12, h16, h17, h18, h20, ha⟩ := h c
    exact ⟨h12.trans (first_eq _ _), h16.trans (scaled_eq _ _), h17.trans (group_eq _ _ 2048 (by omega) _),
      h18.trans (group_eq _ _ 3072 (by omega) _), h20.trans (rest_eq _ _), ha⟩) (Value.run (F := Ideal) m ρ)

end Cert.InprojsReferenceIdeal.Hand

end
-- ==== Proof.InsClaim.lean ====
/-
  The sample's input projection against its reference.
-/
module

public import proofs.«01_k».proof.Defs
public import proofs.«01_k».proof.Proof.InsStep
public import proofs.«01_k».proof.Proof.InsRef
public import proofs.«01_k».proof.Proof.Gen.InprojsIdeal
public import Idealize.ShloMosaic.Lib.Quiescent

@[expose] public section

noncomputable section

open Idealize.ShloMosaic Idealize.ShloMosaic.TcCoe Idealize.SL.Sem

namespace Cert.Proof.Ins

open Cert.InprojsIdeal.Hand (arg0 arg1)
open Cert.Hand.Columns (cols queries rest)

section
open Cert.InprojsIdeal Cert.InprojsIdeal.Hand

/-- The kernel's run: the five results, as functions of the two arguments, and the arguments unchanged. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = cols 0 (by omega) (arg0 m c) (arg1 m c)
      ∧ r.2.mem ((c.tc : Thread nD τ).loc main_v1_1) = queries (arg0 m c) (arg1 m c)
      ∧ r.2.mem ((c.tc : Thread nD τ).loc main_v1_2) = cols 2048 (by omega) (arg0 m c) (arg1 m c)
      ∧ r.2.mem ((c.tc : Thread nD τ).loc main_v1_3) = cols 3072 (by omega) (arg0 m c) (arg1 m c)
      ∧ r.2.mem ((c.tc : Thread nD τ).loc main_v1_4) = rest (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun r h c => ⟨((h.2 c).1 2).trans (final2 m c), ((h.2 c).1 3).trans (final3 m c), ((h.2 c).1 4).trans (final4 m c),
      ((h.2 c).1 5).trans (final5 m c), ((h.2 c).1 6).trans (final6 m c), h.1.1 c⟩)
    (θ_run_and (frame m ρ) (run_main m ρ))
end

/-- The reference terminates and leaves its arguments; it declares no semaphore. -/
theorem frame_ref : Cert.quiescent_InprojsReferenceIdeal (hInprojsReferenceIdeal := Cert.InprojsReferenceIdeal.Gen.facts) := fun m ρ _ =>
  (θ_run Cert.InprojsReferenceIdeal.defs _ _).mono
    (fun r h => ⟨fun c => (h c).2.2.2.2.2, sem_eq_zero_of_no_sems (by decide) r.2⟩)
    (Cert.InprojsReferenceIdeal.Hand.run m ρ)

/-- Kernel and reference, run on equal arguments, end with the same five results. -/
theorem algebraic : Cert.algebraic_InprojsIdeal_InprojsReferenceIdeal (hInprojsIdeal := Cert.InprojsIdeal.Gen.facts)
    (hInprojsReferenceIdeal := Cert.InprojsReferenceIdeal.Gen.facts) := fun m ρ m' ρ' _ hag =>
  ⟨_, _, _, _, _, run_kernel m ρ,
    (θ_run Cert.InprojsReferenceIdeal.defs _ _).mono (fun r h c => by
      obtain ⟨h12, h16, h17, h18, h20, ha⟩ := h c
      obtain ⟨e0, e1⟩ := hag c
      rw [e0, e1] at h12 h16 h17 h18 h20
      exact ⟨h12, h16, h17, h18, h20, ha⟩) (Cert.InprojsReferenceIdeal.Hand.run m' ρ')⟩

end Cert.Proof.Ins

end
-- ==== Proof.lean ====
/-
  The proof of `Cert.Claim`: the frames of the printed programs, and the equations of the kernels with their references.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Moe.Frame
public import proofs.«01_k».proof.Proof.Gen.Outproj.Frame
public import proofs.«01_k».proof.Proof.AttnClaim
public import proofs.«01_k».proof.Proof.MoeClaim
public import proofs.«01_k».proof.Proof.OutClaim
public import proofs.«01_k».proof.Proof.InTwin
public import proofs.«01_k».proof.Proof.InClaim
public import proofs.«01_k».proof.Proof.Gen.Mixs.Frame
public import proofs.«01_k».proof.Proof.MixsClaim
public import proofs.«01_k».proof.Proof.Gen.Moes.Frame
public import proofs.«01_k».proof.Proof.MoesClaim
public import proofs.«01_k».proof.Proof.Gen.Mixp.Frame
public import proofs.«01_k».proof.Proof.MixpClaim
public import proofs.«01_k».proof.Proof.InsTwin
public import proofs.«01_k».proof.Proof.InsClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Moe.Gen.facts,
    Cert.MoeIdeal.Gen.facts, Cert.MoeReferenceIdeal.Gen.facts,
    Cert.Inproj.Gen.facts, Cert.InprojIdeal.Gen.facts, Cert.InprojReferenceIdeal.Gen.facts,
    Cert.Outproj.Gen.facts, Cert.OutprojIdeal.Gen.facts, Cert.OutprojReferenceIdeal.Gen.facts,
    Cert.Mixs.Gen.facts, Cert.MixsIdeal.Gen.facts, Cert.MixsReferenceIdeal.Gen.facts,
    Cert.Moes.Gen.facts, Cert.MoesIdeal.Gen.facts, Cert.MoesReferenceIdeal.Gen.facts,
    Cert.Mixp.Gen.facts, Cert.MixpIdeal.Gen.facts, Cert.MixpReferenceIdeal.Gen.facts,
    Cert.Inprojs.Gen.facts, Cert.InprojsIdeal.Gen.facts, Cert.InprojsReferenceIdeal.Gen.facts, Attn.facts_finite,
    fun m ρ _ => Cert.Kernel.Gen.frame m ρ,
    fun m ρ _ => Cert.KernelIdeal.Gen.frame m ρ,
    fun m ρ _ => Cert.KernelIdeal.Gen.frame m ρ,
    Attn.frame_ref,
    fun m ρ _ => Attn.frame_ref m ρ trivial,
    fun m ρ _ => Cert.Moe.Gen.frame m ρ,
    fun m ρ _ => Cert.MoeIdeal.Gen.frame m ρ,
    Moe.frame_ref,
    fun m ρ _ => Cert.Inproj.Hand.frame m ρ,
    fun m ρ _ => Cert.InprojIdeal.Hand.frame m ρ,
    In.frame_ref,
    fun m ρ _ => Cert.Outproj.Gen.frame m ρ,
    fun m ρ _ => Cert.OutprojIdeal.Gen.frame m ρ,
    Out.frame_ref,
    fun m ρ _ => Cert.Mixs.Gen.frame m ρ,
    fun m ρ _ => Cert.MixsIdeal.Gen.frame m ρ,
    Mixs.frame_ref,
    fun m ρ _ => Cert.Moes.Gen.frame m ρ,
    fun m ρ _ => Cert.MoesIdeal.Gen.frame m ρ,
    Moes.frame_ref,
    fun m ρ _ => Cert.Mixp.Gen.frame m ρ,
    fun m ρ _ => Cert.MixpIdeal.Gen.frame m ρ,
    Mixp.frame_ref,
    fun m ρ _ => Cert.Inprojs.Hand.frame m ρ,
    fun m ρ _ => Cert.InprojsIdeal.Hand.frame m ρ,
    Ins.frame_ref, trivial, Attn.algebraic, trivial, Moe.algebraic, trivial, In.algebraic, trivial, Out.algebraic,
    trivial, Mixs.algebraic, trivial, Moes.algebraic, trivial, Mixp.algebraic, trivial, Ins.algebraic⟩

end Cert.Proof

end
